-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_weights [hPre_finite_weights : Cert.Pre_finite_weights.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_weights.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))).1 = (fun _ => 1#1)
    ∧ (Cert.Pre_finite_weights.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))).2.1 = (fun _ => 1#1)
    ∧ (Cert.Pre_finite_weights.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))).2.2.1 = (fun _ => 1#1)
    ∧ (Cert.Pre_finite_weights.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))).2.2.2.1 = (fun _ => 1#1)
    ∧ (Cert.Pre_finite_weights.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))).2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_weights [hPre_finite_weights : Cert.Pre_finite_weights.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_weights.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12))).1 = (fun _ => 1#1)
    ∧ (Cert.Pre_finite_weights.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12))).2.1 = (fun _ => 1#1)
    ∧ (Cert.Pre_finite_weights.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12))).2.2.1 = (fun _ => 1#1)
    ∧ (Cert.Pre_finite_weights.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12))).2.2.2.1 = (fun _ => 1#1)
    ∧ (Cert.Pre_finite_weights.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12))).2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Kernel4Ideal_pre_finite_weights [hKernel4Ideal : Cert.Kernel4Ideal.Facts] [hPre_finite_weights : Cert.Pre_finite_weights.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_weights m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Reference4Ideal_pre_finite_weights [hReference4Ideal : Cert.Reference4Ideal.Facts] [hPre_finite_weights : Cert.Pre_finite_weights.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_weights m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)) (v2 : (c : Dev Cert.Kernel2Ideal.nD) → Buf (Elt Ideal) ((c.tc : Thread Cert.Kernel2Ideal.nD Cert.Kernel2Ideal.τ).loc Cert.Kernel2Ideal.main_v14_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_v14_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v20) = v1 c
          ∧ r.2.mem ((c.tc : Thread Cert.Reference2Ideal.nD Cert.Reference2Ideal.τ).loc Cert.Reference2Ideal.main_v21) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v12_0)) (v1 : (c : Dev Cert.Kernel3Ideal.nD) → Buf (Elt Ideal) ((c.tc : Thread Cert.Kernel3Ideal.nD Cert.Kernel3Ideal.τ).loc Cert.Kernel3Ideal.main_v12_1)) (v2 : (c : Dev Cert.Kernel3Ideal.nD) → Buf (Elt Ideal) ((c.tc : Thread Cert.Kernel3Ideal.nD Cert.Kernel3Ideal.τ).loc Cert.Kernel3Ideal.main_v12_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12_0) = v0 c
          ∧ r.2.mem ((c.tc : Thread Cert.Kernel3Ideal.nD Cert.Kernel3Ideal.τ).loc Cert.Kernel3Ideal.main_v12_1) = v1 c
          ∧ r.2.mem ((c.tc : Thread Cert.Kernel3Ideal.nD Cert.Kernel3Ideal.τ).loc Cert.Kernel3Ideal.main_v12_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v68) = v0 c
          ∧ r.2.mem ((c.tc : Thread Cert.Reference3Ideal.nD Cert.Reference3Ideal.τ).loc Cert.Reference3Ideal.main_v69) = v1 c
          ∧ r.2.mem ((c.tc : Thread Cert.Reference3Ideal.nD Cert.Reference3Ideal.τ).loc Cert.Reference3Ideal.main_v67) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  IdealRules.named_const.Statement Cert.Kernel4Ideal.κ "scale" .f32 0x3DD53B95#32 ((((Real.sqrt 192) * (Real.log 2))⁻¹ : ℝ) : EReal)

def algebraic_Kernel4Ideal_Reference4Ideal_pre_finite_weights [hKernel4Ideal : Cert.Kernel4Ideal.Facts] [hReference4Ideal : Cert.Reference4Ideal.Facts] [hPre_finite_weights : Cert.Pre_finite_weights.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_weights m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v72_0)) (v1 : (c : Dev Cert.Kernel4Ideal.nD) → Buf (Elt Ideal) ((c.tc : Thread Cert.Kernel4Ideal.nD Cert.Kernel4Ideal.τ).loc Cert.Kernel4Ideal.main_v72_1)) (v2 : (c : Dev Cert.Kernel4Ideal.nD) → Buf (Elt Ideal) ((c.tc : Thread Cert.Kernel4Ideal.nD Cert.Kernel4Ideal.τ).loc Cert.Kernel4Ideal.main_v72_2)) (v3 : (c : Dev Cert.Kernel4Ideal.nD) → Buf (Elt Ideal) ((c.tc : Thread Cert.Kernel4Ideal.nD Cert.Kernel4Ideal.τ).loc Cert.Kernel4Ideal.main_v72_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v72_0) = v0 c
          ∧ r.2.mem ((c.tc : Thread Cert.Kernel4Ideal.nD Cert.Kernel4Ideal.τ).loc Cert.Kernel4Ideal.main_v72_1) = v1 c
          ∧ r.2.mem ((c.tc : Thread Cert.Kernel4Ideal.nD Cert.Kernel4Ideal.τ).loc Cert.Kernel4Ideal.main_v72_2) = v2 c
          ∧ r.2.mem ((c.tc : Thread Cert.Kernel4Ideal.nD Cert.Kernel4Ideal.τ).loc Cert.Kernel4Ideal.main_v72_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v173) = v0 c
          ∧ r.2.mem ((c.tc : Thread Cert.Reference4Ideal.nD Cert.Reference4Ideal.τ).loc Cert.Reference4Ideal.main_v176) = v1 c
          ∧ r.2.mem ((c.tc : Thread Cert.Reference4Ideal.nD Cert.Reference4Ideal.τ).loc Cert.Reference4Ideal.main_v179) = v2 c
          ∧ r.2.mem ((c.tc : Thread Cert.Reference4Ideal.nD Cert.Reference4Ideal.τ).loc Cert.Reference4Ideal.main_v180) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite_weights : Cert.Pre_finite_weights.Facts),
    quiescent_Kernel (hKernel := hKernel)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_weights (hKernel4Ideal := hKernel4Ideal) (hPre_finite_weights := hPre_finite_weights)
    ∧ quiescent_Reference4Ideal (hReference4Ideal := hReference4Ideal)
    ∧ quiescent_Reference4Ideal_pre_finite_weights (hReference4Ideal := hReference4Ideal) (hPre_finite_weights := hPre_finite_weights)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_weights (hKernel4Ideal := hKernel4Ideal) (hReference4Ideal := hReference4Ideal) (hPre_finite_weights := hPre_finite_weights)
    ∧ preserves_Kernel5_Kernel5Ideal
    ∧ algebraic_Kernel5Ideal_Reference5Ideal (hKernel5Ideal := hKernel5Ideal) (hReference5Ideal := hReference5Ideal)
-- ==== Pre_finite.lean ====
abbrev S4x4096x4x192 : Shape := ⟨4, ![4, 4096, 4, 192]⟩
abbrev S4x4096x4x128 : Shape := ⟨4, ![4, 4096, 4, 128]⟩
abbrev S16384x1024 : Shape := ⟨2, ![16384, 1024]⟩
abbrev S_ : Shape := ⟨0, ![]⟩

class Facts : Prop where
  bcast_S_S4x4096x4x192 : S_.BroadcastsInDim S4x4096x4x192 (![] : Fin 0 → Fin S4x4096x4x192.rank)

variable [Facts]

def fn {F : FTy → Type} [FloatOps F] (main_arg0 : FVec F S4x4096x4x192 .f32) (main_arg1 : FVec F S4x4096x4x192 .f32) (main_arg2 : FVec F S4x4096x4x128 .f32) (main_arg3 : FVec F S16384x1024 .f32) (main_arg4 : FVec F S16384x1024 .f32) : IVec S4x4096x4x192 1 × IVec S4x4096x4x192 1 :=
  let main_v0 : FVec F S4x4096x4x192 .f32 := Host.absf main_arg0
  let main_cst : FVec F S_ .f32 := constant S_ .f32 0x7F800000#32
  let main_v1 : FVec F S4x4096x4x192 .f32 := broadcastInDim S4x4096x4x192 ![] bcast_S_S4x4096x4x192 main_cst
  let main_v2 : IVec S4x4096x4x192 1 := cmpf .olt main_v0 main_v1
  let main_v3 : FVec F S4x4096x4x192 .f32 := Host.absf main_arg1
  let main_cst_0 : FVec F S_ .f32 := constant S_ .f32 0x7F800000#32
  let main_v4 : FVec F S4x4096x4x192 .f32 := broadcastInDim S4x4096x4x192 ![] bcast_S_S4x4096x4x192 main_cst_0
  let main_v5 : IVec S4x4096x4x192 1 := cmpf .olt main_v3 main_v4
  (main_v2, main_v5)
-- ==== Pre_finite_weights.lean ====
abbrev S4x4096x1024 : Shape := ⟨3, ![4, 4096, 1024]⟩
abbrev S4x4096 : Shape := ⟨2, ![4, 4096]⟩
abbrev S4x6144 : Shape := ⟨2, ![4, 6144]⟩
abbrev S1024 : Shape := ⟨1, ![1024]⟩
abbrev S1024x1472 : Shape := ⟨2, ![1024, 1472]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S512 : Shape := ⟨1, ![512]⟩
abbrev S4x128x128 : Shape := ⟨3, ![4, 128, 128]⟩
abbrev S4x128 : Shape := ⟨2, ![4, 128]⟩
abbrev S4x2048 : Shape := ⟨2, ![4, 2048]⟩
abbrev S1024x64 : Shape := ⟨2, ![1024, 64]⟩
abbrev S256x4x192 : Shape := ⟨3, ![256, 4, 192]⟩
abbrev S256x4x64 : Shape := ⟨3, ![256, 4, 64]⟩
abbrev S_ : Shape := ⟨0, ![]⟩

class Facts : Prop where
  slices_S4x6144_S4x2048_0_0 : S4x6144.Slices ![0, 0] S4x2048
  slices_S1024x1472_S1024x64_0_384 : S1024x1472.Slices ![0, 384] S1024x64
  shapeCasts_S256x768_S256x4x192 : S256x768.ShapeCasts S256x4x192
  slices_S256x4x192_S256x4x64_0_0_128 : S256x4x192.Slices ![0, 0, 128] S256x4x64
  bcast_S_S4x2048 : S_.BroadcastsInDim S4x2048 (![] : Fin 0 → Fin S4x2048.rank)
  bcast_S_S1024 : S_.BroadcastsInDim S1024 (![] : Fin 0 → Fin S1024.rank)
  bcast_S_S1024x64 : S_.BroadcastsInDim S1024x64 (![] : Fin 0 → Fin S1024x64.rank)
  bcast_S_S256 : S_.BroadcastsInDim S256 (![] : Fin 0 → Fin S256.rank)
  bcast_S_S256x4x64 : S_.BroadcastsInDim S256x4x64 (![] : Fin 0 → Fin S256x4x64.rank)

variable [Facts]

def fn {F : FTy → Type} [FloatOps F] (main_arg0 : FVec F S4x4096x1024 .f32) (main_arg1 : IVec S4x4096 32) (main_arg2 : FVec F S4x6144 .f32) (main_arg3 : FVec F S1024 .f32) (main_arg4 : FVec F S1024x1472 .f32) (main_arg5 : FVec F S256 .f32) (main_arg6 : FVec F S256x768 .f32) (main_arg7 : FVec F S128 .f32) (main_arg8 : FVec F S128x1024 .f32) (main_arg9 : FVec F S512 .f32) (main_arg10 : FVec F S4x128x128 .f32) (main_arg11 : FVec F S4x128 .f32) (main_arg12 : FVec F S512 .f32) : IVec S4x2048 1 × IVec S1024 1 × IVec S1024x64 1 × IVec S256 1 × IVec S256x4x64 1 :=
  let main_v0 : FVec F S4x2048 .f32 := (extractStridedSlice S4x2048 ![0, 0] · slices_S4x6144_S4x2048_0_0) main_arg2
  let main_v1 : FVec F S1024x64 .f32 := (extractStridedSlice S1024x64 ![0, 384] · slices_S1024x1472_S1024x64_0_384) main_arg4
  let main_v2 : FVec F S256x4x192 .f32 := shapeCast S256x4x192 main_arg6 shapeCasts_S256x768_S256x4x192
  let main_v3 : FVec F S256x4x64 .f32 := (extractStridedSlice S256x4x64 ![0, 0, 128] · slices_S256x4x192_S256x4x64_0_0_128) main_v2
  let main_v4 : FVec F S4x2048 .f32 := Host.absf main_v0
  let main_cst : FVec F S_ .f32 := constant S_ .f32 0x7F800000#32
  let main_v5 : FVec F S4x2048 .f32 := broadcastInDim S4x2048 ![] bcast_S_S4x2048 main_cst
  let main_v6 : IVec S4x2048 1 := cmpf .olt main_v4 main_v5
  let main_v7 : FVec F S1024 .f32 := Host.absf main_arg3
  let main_cst_0 : FVec F S_ .f32 := constant S_ .f32 0x7F800000#32
  let main_v8 : FVec F S1024 .f32 := broadcastInDim S1024 ![] bcast_S_S1024 main_cst_0
  let main_v9 : IVec S1024 1 := cmpf .olt main_v7 main_v8
  let main_v10 : FVec F S1024x64 .f32 := Host.absf main_v1
  let main_cst_1 : FVec F S_ .f32 := constant S_ .f32 0x7F800000#32
  let main_v11 : FVec F S1024x64 .f32 := broadcastInDim S1024x64 ![] bcast_S_S1024x64 main_cst_1
  let main_v12 : IVec S1024x64 1 := cmpf .olt main_v10 main_v11
  let main_v13 : FVec F S256 .f32 := Host.absf main_arg5
  let main_cst_2 : FVec F S_ .f32 := constant S_ .f32 0x7F800000#32
  let main_v14 : FVec F S256 .f32 := broadcastInDim S256 ![] bcast_S_S256 main_cst_2
  let main_v15 : IVec S256 1 := cmpf .olt main_v13 main_v14
  let main_v16 : FVec F S256x4x64 .f32 := Host.absf main_v3
  let main_cst_3 : FVec F S_ .f32 := constant S_ .f32 0x7F800000#32
  let main_v17 : FVec F S256x4x64 .f32 := broadcastInDim S256x4x64 ![] bcast_S_S256x4x64 main_cst_3
  let main_v18 : IVec S256x4x64 1 := cmpf .olt main_v16 main_v17
  (main_v6, main_v9, main_v12, main_v15, main_v18)
-- ==== Kernel.lean ====
abbrev S16384x1024 : Shape := ⟨2, ![16384, 1024]⟩
abbrev S32x8x1088x128 : Shape := ⟨4, ![32, 8, 1088, 128]⟩
abbrev S1024x16384 : Shape := ⟨2, ![1024, 16384]⟩
abbrev S4x6x1024 : Shape := ⟨3, ![4, 6, 1024]⟩
abbrev S1024 : Shape := ⟨1, ![1024]⟩
abbrev S1x1024 : Shape := ⟨2, ![1, 1024]⟩
abbrev S512x1024 : Shape := ⟨2, ![512, 1024]⟩
abbrev S1x1x1088x128 : Shape := ⟨4, ![1, 1, 1088, 128]⟩
abbrev S1024x2048 : Shape := ⟨2, ![1024, 2048]⟩
abbrev S2048x1024 : Shape := ⟨2, ![2048, 1024]⟩
abbrev S1x6x1024 : Shape := ⟨3, ![1, 6, 1024]⟩
abbrev S34816x128 : Shape := ⟨2, ![34816, 128]⟩
abbrev S2x1024x128 : Shape := ⟨3, ![2, 1024, 128]⟩
abbrev S512x128 : Shape := ⟨2, ![512, 128]⟩
abbrev S1x1x8x128 : Shape := ⟨4, ![1, 1, 8, 128]⟩
abbrev S8x128 : Shape := ⟨2, ![8, 128]⟩
abbrev S1x8x128 : Shape := ⟨3, ![1, 8, 128]⟩
abbrev S1x128x128 : Shape := ⟨3, ![1, 128, 128]⟩
abbrev S128x128 : Shape := ⟨2, ![128, 128]⟩
abbrev S128x1 : Shape := ⟨2, ![128, 1]⟩
abbrev S1x128 : Shape := ⟨2, ![1, 128]⟩
abbrev S512x2048 : Shape := ⟨2, ![512, 2048]⟩
abbrev S256x128 : Shape := ⟨2, ![256, 128]⟩
abbrev S1x1x1024 : Shape := ⟨3, ![1, 1, 1024]⟩
abbrev S512 : Shape := ⟨1, ![512]⟩
abbrev S512x1 : Shape := ⟨2, ![512, 1]⟩

abbrev nBuf : Space → Nat
  | .hbm => 9
  | .vmem => 22
  | .smem => 0
  | _ => 0

abbrev bufTy : (tb : Table) → Fin (tcTables nBuf tb) → BufTy
  | .hbm, ⟨0, _⟩ => ⟨S16384x1024, .bf16⟩
  | .hbm, ⟨1, _⟩ => ⟨S32x8x1088x128, .f32⟩
  | .hbm, ⟨2, _⟩ => ⟨S1024x16384, .bf16⟩
  | .hbm, ⟨3, _⟩ => ⟨S16384x1024, .bf16⟩
  | .hbm, ⟨4, _⟩ => ⟨S16384x1024, .f32⟩
  | .hbm, ⟨5, _⟩ => ⟨S4x6x1024, .f32⟩
  | .hbm, ⟨6, _⟩ => ⟨S1024, .f32⟩
  | .hbm, ⟨7, _⟩ => ⟨S1x1024, .f32⟩
  | .hbm, ⟨8, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1x1x1088x128, .f32⟩
  | .local _ .vmem, ⟨3, _⟩ => ⟨S1x1x1088x128, .f32⟩
  | .local _ .vmem, ⟨4, _⟩ => ⟨S1024x2048, .bf16⟩
  | .local _ .vmem, ⟨5, _⟩ => ⟨S1024x2048, .bf16⟩
  | .local _ .vmem, ⟨6, _⟩ => ⟨S2048x1024, .bf16⟩
  | .local _ .vmem, ⟨7, _⟩ => ⟨S2048x1024, .bf16⟩
  | .local _ .vmem, ⟨8, _⟩ => ⟨S512x1024, .f32⟩
  | .local _ .vmem, ⟨9, _⟩ => ⟨S512x1024, .f32⟩
  | .local _ .vmem, ⟨10, _⟩ => ⟨S1x6x1024, .f32⟩
  | .local _ .vmem, ⟨11, _⟩ => ⟨S1x6x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S34816x128, .i32⟩
  | .local _ .vmem, ⟨16, _⟩ => ⟨S512x1024, .f32⟩
  | .local _ .vmem, ⟨17, _⟩ => ⟨S2x1024x128, .i32⟩
  | .local _ .vmem, ⟨18, _⟩ => ⟨S2x1024x128, .i32⟩
  | .local _ .vmem, ⟨19, _⟩ => ⟨S2x1024x128, .f32⟩
  | .local _ .vmem, ⟨20, _⟩ => ⟨S512x128, .i32⟩
  | .local _ .vmem, ⟨21, _⟩ => ⟨S512x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [BitOps F]

abbrev grid0 : Pipeline.Grid := ⟨2, ![33, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg1 : BitVec 32 := BitVec.ofNat 32 (i 1).val
  let c16_i32_1801 : BitVec 32 := 16#32
  let v11171 : BitVec 32 := Scalar.muli arg1 c16_i32_1801
  let c0_i32_1802 : BitVec 32 := 0#32
  let v11172 : BitVec 32 := Scalar.addi v11171 c0_i32_1802
  let c8_i32_1803 : BitVec 32 := 8#32
  let v11173 : BitVec 32 := Scalar.muli v11172 c8_i32_1803
  v11173
def k0_off1 (i : grid0.Coords) (c0_i32_1802 : BitVec 32) : Fin 3 → Nat :=
  let c0_1804 : Index := 0#32
  let arg1 : BitVec 32 := BitVec.ofNat 32 (i 1).val
  let c16_i32_1801 : BitVec 32 := 16#32
  let v11171 : BitVec 32 := Scalar.muli arg1 c16_i32_1801
  let v11172 : BitVec 32 := Scalar.addi v11171 c0_i32_1802
  let c8_i32_1803 : BitVec 32 := 8#32
  let v11173 : BitVec 32 := Scalar.muli v11172 c8_i32_1803
  let v11174 : BitVec 32 := v11173
  let v11175 : Index := Scalar.indexCast v11174
  let c0_1805 : Index := 0#32
  ![0, v11175.toNat, 0]
def k0_mult2 (i : grid0.Coords) : BitVec 32 :=
  let arg1 : BitVec 32 := BitVec.ofNat 32 (i 1).val
  let c16_i32_1810 : BitVec 32 := 16#32
  let v11188 : BitVec 32 := Scalar.muli arg1 c16_i32_1810
  let c1_i32_1811 : BitVec 32 := 1#32
  let v11189 : BitVec 32 := Scalar.addi v11188 c1_i32_1811
  let c8_i32_1812 : BitVec 32 := 8#32
  let v11190 : BitVec 32 := Scalar.muli v11189 c8_i32_1812
  v11190
def k0_mult3 (i : grid0.Coords) : BitVec 32 :=
  let arg1 : BitVec 32 := BitVec.ofNat 32 (i 1).val
  let c16_i32_1819 : BitVec 32 := 16#32
  let v11205 : BitVec 32 := Scalar.muli arg1 c16_i32_1819
  let c2_i32_1820 : BitVec 32 := 2#32
  let v11206 : BitVec 32 := Scalar.addi v11205 c2_i32_1820
  let c8_i32_1821 : BitVec 32 := 8#32
  let v11207 : BitVec 32 := Scalar.muli v11206 c8_i32_1821
  v11207
def k0_mult4 (i : grid0.Coords) : BitVec 32 :=
  let arg1 : BitVec 32 := BitVec.ofNat 32 (i 1).val
  let c16_i32_1828 : BitVec 32 := 16#32
  let v11222 : BitVec 32 := Scalar.muli arg1 c16_i32_1828
  let c3_i32_1829 : BitVec 32 := 3#32
  let v11223 : BitVec 32 := Scalar.addi v11222 c3_i32_1829
  let c8_i32_1830 : BitVec 32 := 8#32
  let v11224 : BitVec 32 := Scalar.muli v11223 c8_i32_1830
  v11224
def k0_mult5 (i : grid0.Coords) : BitVec 32 :=
  let arg1 : BitVec 32 := BitVec.ofNat 32 (i 1).val
  let c16_i32_1837 : BitVec 32 := 16#32
  let v11239 : BitVec 32 := Scalar.muli arg1 c16_i32_1837
  let c4_i32_1838 : BitVec 32 := 4#32
  let v11240 : BitVec 32 := Scalar.addi v11239 c4_i32_1838
  let c8_i32_1839 : BitVec 32 := 8#32
  let v11241 : BitVec 32 := Scalar.muli v11240 c8_i32_1839
  v11241
def k0_mult6 (i : grid0.Coords) : BitVec 32 :=
  let arg1 : BitVec 32 := BitVec.ofNat 32 (i 1).val
  let c16_i32_1846 : BitVec 32 := 16#32
  let v11256 : BitVec 32 := Scalar.muli arg1 c16_i32_1846
  let c5_i32_1847 : BitVec 32 := 5#32
  let v11257 : BitVec 32 := Scalar.addi v11256 c5_i32_1847
  let c8_i32_1848 : BitVec 32 := 8#32
  let v11258 : BitVec 32 := Scalar.muli v11257 c8_i32_1848
  v11258
def k0_mult7 (i : grid0.Coords) : BitVec 32 :=
  let arg1 : BitVec 32 := BitVec.ofNat 32 (i 1).val
  let c16_i32_1855 : BitVec 32 := 16#32
  let v11273 : BitVec 32 := Scalar.muli arg1 c16_i32_1855
  let c6_i32_1856 : BitVec 32 := 6#32
  let v11274 : BitVec 32 := Scalar.addi v11273 c6_i32_1856
  let c8_i32_1857 : BitVec 32 := 8#32
  let v11275 : BitVec 32 := Scalar.muli v11274 c8_i32_1857
  v11275
def k0_mult8 (i : grid0.Coords) : BitVec 32 :=
  let arg1 : BitVec 32 := BitVec.ofNat 32 (i 1).val
  let c16_i32_1864 : BitVec 32 := 16#32
  let v11290 : BitVec 32 := Scalar.muli arg1 c16_i32_1864
  let c7_i32_1865 : BitVec 32 := 7#32
  let v11291 : BitVec 32 := Scalar.addi v11290 c7_i32_1865
  let c8_i32_1866 : BitVec 32 := 8#32
  let v11292 : BitVec 32 := Scalar.muli v11291 c8_i32_1866
  v11292
def k0_mult9 (i : grid0.Coords) : BitVec 32 :=
  let arg1 : BitVec 32 := BitVec.ofNat 32 (i 1).val
  let c16_i32_1873 : BitVec 32 := 16#32
  let v11307 : BitVec 32 := Scalar.muli arg1 c16_i32_1873
  let c8_i32_1874 : BitVec 32 := 8#32
  let v11308 : BitVec 32 := Scalar.addi v11307 c8_i32_1874
  let c8_i32_1875 : BitVec 32 := 8#32
  let v11309 : BitVec 32 := Scalar.muli v11308 c8_i32_1875
  v11309
def k0_mult10 (i : grid0.Coords) : BitVec 32 :=
  let arg1 : BitVec 32 := BitVec.ofNat 32 (i 1).val
  let c16_i32_1882 : BitVec 32 := 16#32
  let v11324 : BitVec 32 := Scalar.muli arg1 c16_i32_1882
  let c9_i32_1883 : BitVec 32 := 9#32
  let v11325 : BitVec 32 := Scalar.addi v11324 c9_i32_1883
  let c8_i32_1884 : BitVec 32 := 8#32
  let v11326 : BitVec 32 := Scalar.muli v11325 c8_i32_1884
  v11326
def k0_mult11 (i : grid0.Coords) : BitVec 32 :=
  let arg1 : BitVec 32 := BitVec.ofNat 32 (i 1).val
  let c16_i32_1891 : BitVec 32 := 16#32
  let v11341 : BitVec 32 := Scalar.muli arg1 c16_i32_1891
  let c10_i32_1892 : BitVec 32 := 10#32
  let v11342 : BitVec 32 := Scalar.addi v11341 c10_i32_1892
  let c8_i32_1893 : BitVec 32 := 8#32
  let v11343 : BitVec 32 := Scalar.muli v11342 c8_i32_1893
  v11343
def k0_mult12 (i : grid0.Coords) : BitVec 32 :=
  let arg1 : BitVec 32 := BitVec.ofNat 32 (i 1).val
  let c16_i32_1900 : BitVec 32 := 16#32
  let v11358 : BitVec 32 := Scalar.muli arg1 c16_i32_1900
  let c11_i32_1901 : BitVec 32 := 11#32
  let v11359 : BitVec 32 := Scalar.addi v11358 c11_i32_1901
  let c8_i32_1902 : BitVec 32 := 8#32
  let v11360 : BitVec 32 := Scalar.muli v11359 c8_i32_1902
  v11360
def k0_mult13 (i : grid0.Coords) : BitVec 32 :=
  let arg1 : BitVec 32 := BitVec.ofNat 32 (i 1).val
  let c16_i32_1909 : BitVec 32 := 16#32
  let v11375 : BitVec 32 := Scalar.muli arg1 c16_i32_1909
  let c12_i32_1910 : BitVec 32 := 12#32
  let v11376 : BitVec 32 := Scalar.addi v11375 c12_i32_1910
  let c8_i32_1911 : BitVec 32 := 8#32
  let v11377 : BitVec 32 := Scalar.muli v11376 c8_i32_1911
  v11377
def k0_mult14 (i : grid0.Coords) : BitVec 32 :=
  let arg1 : BitVec 32 := BitVec.ofNat 32 (i 1).val
  let c16_i32_1918 : BitVec 32 := 16#32
  let v11392 : BitVec 32 := Scalar.muli arg1 c16_i32_1918
  let c13_i32_1919 : BitVec 32 := 13#32
  let v11393 : BitVec 32 := Scalar.addi v11392 c13_i32_1919
  let c8_i32_1920 : BitVec 32 := 8#32
  let v11394 : BitVec 32 := Scalar.muli v11393 c8_i32_1920
  v11394
def k0_mult15 (i : grid0.Coords) : BitVec 32 :=
  let arg1 : BitVec 32 := BitVec.ofNat 32 (i 1).val
  let c16_i32_1927 : BitVec 32 := 16#32
  let v11409 : BitVec 32 := Scalar.muli arg1 c16_i32_1927
  let c14_i32_1928 : BitVec 32 := 14#32
  let v11410 : BitVec 32 := Scalar.addi v11409 c14_i32_1928
  let c8_i32_1929 : BitVec 32 := 8#32
  let v11411 : BitVec 32 := Scalar.muli v11410 c8_i32_1929
  v11411
def k0_mult16 (i : grid0.Coords) : BitVec 32 :=
  let arg1 : BitVec 32 := BitVec.ofNat 32 (i 1).val
  let c16_i32_1936 : BitVec 32 := 16#32
  let v11426 : BitVec 32 := Scalar.muli arg1 c16_i32_1936
  let c15_i32_1937 : BitVec 32 := 15#32
  let v11427 : BitVec 32 := Scalar.addi v11426 c15_i32_1937
  let c8_i32_1938 : BitVec 32 := 8#32
  let v11428 : BitVec 32 := Scalar.muli v11427 c8_i32_1938
  v11428
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c0_i32_8 : BitVec 32 := 0#32
  let v17 : BitVec 1 := Scalar.cmpi .eq arg1 c0_i32_8
  let v18 : BitVec 32 := Scalar.extui v17
  let c0_i32_9 : BitVec 32 := 0#32
  let v19 : BitVec 1 := Scalar.cmpi .ne v18 c0_i32_9
  v19

def k0_off2 (i : grid0.Coords) : Fin 3 → Nat :=
  let arg0 : BitVec 32 := BitVec.ofNat 32 (i 0).val
  let c1_i32 : BitVec 32 := 1#32
  let v6 : BitVec 32 := Scalar.subi arg0 c1_i32
  let c2_i32 : BitVec 32 := 2#32
  let c0_i32_3 : BitVec 32 := 0#32
  let v7 : BitVec 1 := Scalar.cmpi .eq c2_i32 c0_i32_3
  let c1_i32_4 : BitVec 32 := 1#32
  let v8 : BitVec 32 := Scalar.select v7 c1_i32_4 c2_i32
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let v11655 : Index := Scalar.indexCast v16
  let c0_1980 : Index := 0#32
  let c0_1981 : Index := 0#32
  ![v11655.toNat, 0, 0]
def k0_off3 (i : grid0.Coords) : Fin 3 → Nat :=
  let arg0 : BitVec 32 := BitVec.ofNat 32 (i 0).val
  let c1_i32 : BitVec 32 := 1#32
  let v6 : BitVec 32 := Scalar.subi arg0 c1_i32
  let c2_i32 : BitVec 32 := 2#32
  let c0_i32_3 : BitVec 32 := 0#32
  let v7 : BitVec 1 := Scalar.cmpi .eq c2_i32 c0_i32_3
  let c1_i32_4 : BitVec 32 := 1#32
  let v8 : BitVec 32 := Scalar.select v7 c1_i32_4 c2_i32
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let v11669 : Index := Scalar.indexCast v16
  let c1_1988 : Index := 1#32
  let c0_1989 : Index := 0#32
  ![v11669.toNat, 1, 0]
def k0_off4 (i : grid0.Coords) : Fin 3 → Nat :=
  let arg0 : BitVec 32 := BitVec.ofNat 32 (i 0).val
  let c1_i32 : BitVec 32 := 1#32
  let v6 : BitVec 32 := Scalar.subi arg0 c1_i32
  let c2_i32 : BitVec 32 := 2#32
  let c0_i32_3 : BitVec 32 := 0#32
  let v7 : BitVec 1 := Scalar.cmpi .eq c2_i32 c0_i32_3
  let c1_i32_4 : BitVec 32 := 1#32
  let v8 : BitVec 32 := Scalar.select v7 c1_i32_4 c2_i32
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let v11683 : Index := Scalar.indexCast v16
  let c2_1995 : Index := 2#32
  let c0_1996 : Index := 0#32
  ![v11683.toNat, 2, 0]
def k0_off5 (i : grid0.Coords) : Fin 3 → Nat :=
  let arg0 : BitVec 32 := BitVec.ofNat 32 (i 0).val
  let c1_i32 : BitVec 32 := 1#32
  let v6 : BitVec 32 := Scalar.subi arg0 c1_i32
  let c2_i32 : BitVec 32 := 2#32
  let c0_i32_3 : BitVec 32 := 0#32
  let v7 : BitVec 1 := Scalar.cmpi .eq c2_i32 c0_i32_3
  let c1_i32_4 : BitVec 32 := 1#32
  let v8 : BitVec 32 := Scalar.select v7 c1_i32_4 c2_i32
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let v11697 : Index := Scalar.indexCast v16
  let c3_2002 : Index := 3#32
  let c0_2003 : Index := 0#32
  ![v11697.toNat, 3, 0]
@[reducible] def k0_t1_loop : Scf.Loop 32 :=
  let c0_i32_2011 : BitVec 32 := 0#32
  let c2_i32_2012 : BitVec 32 := 2#32
  let v11714 : BitVec 32 := Scalar.addi c0_i32_2011 c2_i32_2012
  let c1_i32_2013 : BitVec 32 := 1#32
  ⟨c0_i32_2011, v11714, c1_i32_2013⟩
def k0_off6 (i : grid0.Coords) (k0_t1 : Fin k0_t1_loop.trips) : Fin 3 → Nat :=
  let arg0 : BitVec 32 := BitVec.ofNat 32 (i 0).val
  let c1_i32 : BitVec 32 := 1#32
  let v6 : BitVec 32 := Scalar.subi arg0 c1_i32
  let c2_i32 : BitVec 32 := 2#32
  let c0_i32_3 : BitVec 32 := 0#32
  let v7 : BitVec 1 := Scalar.cmpi .eq c2_i32 c0_i32_3
  let c1_i32_4 : BitVec 32 := 1#32
  let v8 : BitVec 32 := Scalar.select v7 c1_i32_4 c2_i32
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let v11715 : Index := Scalar.indexCast v16
  let c0_i32_2011 : BitVec 32 := 0#32
  let c1_i32_2013 : BitVec 32 := 1#32
  let arg17 : BitVec 32 := Scf.iv c0_i32_2011 c1_i32_2013 k0_t1
  let v11716 : Index := Scalar.indexCast arg17
  let c0_2015 : Index := 0#32
  ![v11715.toNat, v11716.toNat, 0]
def k0_off7 (i : grid0.Coords) (k0_t1 : Fin k0_t1_loop.trips) : Fin 3 → Nat :=
  let arg0 : BitVec 32 := BitVec.ofNat 32 (i 0).val
  let c1_i32 : BitVec 32 := 1#32
  let v6 : BitVec 32 := Scalar.subi arg0 c1_i32
  let c2_i32 : BitVec 32 := 2#32
  let c0_i32_3 : BitVec 32 := 0#32
  let v7 : BitVec 1 := Scalar.cmpi .eq c2_i32 c0_i32_3
  let c1_i32_4 : BitVec 32 := 1#32
  let v8 : BitVec 32 := Scalar.select v7 c1_i32_4 c2_i32
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let v11722 : Index := Scalar.indexCast v16
  let c0_i32_2011 : BitVec 32 := 0#32
  let c1_i32_2013 : BitVec 32 := 1#32
  let arg17 : BitVec 32 := Scf.iv c0_i32_2011 c1_i32_2013 k0_t1
  let c2_i32_2016 : BitVec 32 := 2#32
  let v11721 : BitVec 32 := Scalar.addi arg17 c2_i32_2016
  let v11723 : Index := Scalar.indexCast v11721
  let c0_2017 : Index := 0#32
  ![v11722.toNat, v11723.toNat, 0]
def k0_mult17 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2018 : BitVec 32 := 128#32
  let v11728 : BitVec 32 := Scalar.muli arg17 c128_i32_2018
  let c0_i32_2019 : BitVec 32 := 0#32
  let v11729 : BitVec 32 := Scalar.addi v11728 c0_i32_2019
  let c136_i32 : BitVec 32 := 136#32
  let v11730 : BitVec 32 := Scalar.muli v11729 c136_i32
  v11730
def k0_off8 (k0_t1 : Fin k0_t1_loop.trips) (c0_i32_2019 : BitVec 32) : Fin 2 → Nat :=
  let c0_i32_2011 : BitVec 32 := 0#32
  let c1_i32_2013 : BitVec 32 := 1#32
  let arg17 : BitVec 32 := Scf.iv c0_i32_2011 c1_i32_2013 k0_t1
  let c128_i32_2018 : BitVec 32 := 128#32
  let v11728 : BitVec 32 := Scalar.muli arg17 c128_i32_2018
  let v11729 : BitVec 32 := Scalar.addi v11728 c0_i32_2019
  let v11733 : Index := Scalar.indexCast v11729
  let c0_2020 : Index := 0#32
  ![v11733.toNat, 0]
def k0_off9 (k0_t1 : Fin k0_t1_loop.trips) (c0_i32_2019 : BitVec 32) : Fin 2 → Nat :=
  let c0_i32_2011 : BitVec 32 := 0#32
  let c1_i32_2013 : BitVec 32 := 1#32
  let arg17 : BitVec 32 := Scf.iv c0_i32_2011 c1_i32_2013 k0_t1
  let c128_i32_2018 : BitVec 32 := 128#32
  let v11728 : BitVec 32 := Scalar.muli arg17 c128_i32_2018
  let v11729 : BitVec 32 := Scalar.addi v11728 c0_i32_2019
  let c256_i32 : BitVec 32 := 256#32
  let v11750 : BitVec 32 := Scalar.addi v11729 c256_i32
  let v11752 : Index := Scalar.indexCast v11750
  let c0_2024 : Index := 0#32
  ![v11752.toNat, 0]
def k0_off10 (k0_t1 : Fin k0_t1_loop.trips) (c0_i32_2019 : BitVec 32) : Fin 2 → Nat :=
  let c0_i32_2011 : BitVec 32 := 0#32
  let c1_i32_2013 : BitVec 32 := 1#32
  let arg17 : BitVec 32 := Scf.iv c0_i32_2011 c1_i32_2013 k0_t1
  let c128_i32_2018 : BitVec 32 := 128#32
  let v11728 : BitVec 32 := Scalar.muli arg17 c128_i32_2018
  let v11729 : BitVec 32 := Scalar.addi v11728 c0_i32_2019
  let c136_i32 : BitVec 32 := 136#32
  let v11730 : BitVec 32 := Scalar.muli v11729 c136_i32
  let v11731 : BitVec 32 := v11730
  let v11770 : Index := Scalar.indexCast v11731
  let c0_2028 : Index := 0#32
  ![v11770.toNat, 0]
def k0_mult18 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2029 : BitVec 32 := 128#32
  let v11774 : BitVec 32 := Scalar.muli arg17 c128_i32_2029
  let c1_i32_2030 : BitVec 32 := 1#32
  let v11775 : BitVec 32 := Scalar.addi v11774 c1_i32_2030
  let c136_i32_2031 : BitVec 32 := 136#32
  let v11776 : BitVec 32 := Scalar.muli v11775 c136_i32_2031
  v11776
def k0_mult19 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2042 : BitVec 32 := 128#32
  let v11820 : BitVec 32 := Scalar.muli arg17 c128_i32_2042
  let c2_i32_2043 : BitVec 32 := 2#32
  let v11821 : BitVec 32 := Scalar.addi v11820 c2_i32_2043
  let c136_i32_2044 : BitVec 32 := 136#32
  let v11822 : BitVec 32 := Scalar.muli v11821 c136_i32_2044
  v11822
def k0_mult20 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2055 : BitVec 32 := 128#32
  let v11866 : BitVec 32 := Scalar.muli arg17 c128_i32_2055
  let c3_i32_2056 : BitVec 32 := 3#32
  let v11867 : BitVec 32 := Scalar.addi v11866 c3_i32_2056
  let c136_i32_2057 : BitVec 32 := 136#32
  let v11868 : BitVec 32 := Scalar.muli v11867 c136_i32_2057
  v11868
def k0_mult21 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2068 : BitVec 32 := 128#32
  let v11912 : BitVec 32 := Scalar.muli arg17 c128_i32_2068
  let c4_i32_2069 : BitVec 32 := 4#32
  let v11913 : BitVec 32 := Scalar.addi v11912 c4_i32_2069
  let c136_i32_2070 : BitVec 32 := 136#32
  let v11914 : BitVec 32 := Scalar.muli v11913 c136_i32_2070
  v11914
def k0_mult22 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2081 : BitVec 32 := 128#32
  let v11958 : BitVec 32 := Scalar.muli arg17 c128_i32_2081
  let c5_i32_2082 : BitVec 32 := 5#32
  let v11959 : BitVec 32 := Scalar.addi v11958 c5_i32_2082
  let c136_i32_2083 : BitVec 32 := 136#32
  let v11960 : BitVec 32 := Scalar.muli v11959 c136_i32_2083
  v11960
def k0_mult23 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2094 : BitVec 32 := 128#32
  let v12004 : BitVec 32 := Scalar.muli arg17 c128_i32_2094
  let c6_i32_2095 : BitVec 32 := 6#32
  let v12005 : BitVec 32 := Scalar.addi v12004 c6_i32_2095
  let c136_i32_2096 : BitVec 32 := 136#32
  let v12006 : BitVec 32 := Scalar.muli v12005 c136_i32_2096
  v12006
def k0_mult24 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2107 : BitVec 32 := 128#32
  let v12050 : BitVec 32 := Scalar.muli arg17 c128_i32_2107
  let c7_i32_2108 : BitVec 32 := 7#32
  let v12051 : BitVec 32 := Scalar.addi v12050 c7_i32_2108
  let c136_i32_2109 : BitVec 32 := 136#32
  let v12052 : BitVec 32 := Scalar.muli v12051 c136_i32_2109
  v12052
def k0_mult25 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2120 : BitVec 32 := 128#32
  let v12096 : BitVec 32 := Scalar.muli arg17 c128_i32_2120
  let c8_i32_2121 : BitVec 32 := 8#32
  let v12097 : BitVec 32 := Scalar.addi v12096 c8_i32_2121
  let c136_i32_2122 : BitVec 32 := 136#32
  let v12098 : BitVec 32 := Scalar.muli v12097 c136_i32_2122
  v12098
def k0_mult26 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2133 : BitVec 32 := 128#32
  let v12142 : BitVec 32 := Scalar.muli arg17 c128_i32_2133
  let c9_i32_2134 : BitVec 32 := 9#32
  let v12143 : BitVec 32 := Scalar.addi v12142 c9_i32_2134
  let c136_i32_2135 : BitVec 32 := 136#32
  let v12144 : BitVec 32 := Scalar.muli v12143 c136_i32_2135
  v12144
def k0_mult27 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2146 : BitVec 32 := 128#32
  let v12188 : BitVec 32 := Scalar.muli arg17 c128_i32_2146
  let c10_i32_2147 : BitVec 32 := 10#32
  let v12189 : BitVec 32 := Scalar.addi v12188 c10_i32_2147
  let c136_i32_2148 : BitVec 32 := 136#32
  let v12190 : BitVec 32 := Scalar.muli v12189 c136_i32_2148
  v12190
def k0_mult28 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2159 : BitVec 32 := 128#32
  let v12234 : BitVec 32 := Scalar.muli arg17 c128_i32_2159
  let c11_i32_2160 : BitVec 32 := 11#32
  let v12235 : BitVec 32 := Scalar.addi v12234 c11_i32_2160
  let c136_i32_2161 : BitVec 32 := 136#32
  let v12236 : BitVec 32 := Scalar.muli v12235 c136_i32_2161
  v12236
def k0_mult29 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2172 : BitVec 32 := 128#32
  let v12280 : BitVec 32 := Scalar.muli arg17 c128_i32_2172
  let c12_i32_2173 : BitVec 32 := 12#32
  let v12281 : BitVec 32 := Scalar.addi v12280 c12_i32_2173
  let c136_i32_2174 : BitVec 32 := 136#32
  let v12282 : BitVec 32 := Scalar.muli v12281 c136_i32_2174
  v12282
def k0_mult30 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2185 : BitVec 32 := 128#32
  let v12326 : BitVec 32 := Scalar.muli arg17 c128_i32_2185
  let c13_i32_2186 : BitVec 32 := 13#32
  let v12327 : BitVec 32 := Scalar.addi v12326 c13_i32_2186
  let c136_i32_2187 : BitVec 32 := 136#32
  let v12328 : BitVec 32 := Scalar.muli v12327 c136_i32_2187
  v12328
def k0_mult31 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2198 : BitVec 32 := 128#32
  let v12372 : BitVec 32 := Scalar.muli arg17 c128_i32_2198
  let c14_i32_2199 : BitVec 32 := 14#32
  let v12373 : BitVec 32 := Scalar.addi v12372 c14_i32_2199
  let c136_i32_2200 : BitVec 32 := 136#32
  let v12374 : BitVec 32 := Scalar.muli v12373 c136_i32_2200
  v12374
def k0_mult32 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2211 : BitVec 32 := 128#32
  let v12418 : BitVec 32 := Scalar.muli arg17 c128_i32_2211
  let c15_i32_2212 : BitVec 32 := 15#32
  let v12419 : BitVec 32 := Scalar.addi v12418 c15_i32_2212
  let c136_i32_2213 : BitVec 32 := 136#32
  let v12420 : BitVec 32 := Scalar.muli v12419 c136_i32_2213
  v12420
def k0_mult33 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2224 : BitVec 32 := 128#32
  let v12464 : BitVec 32 := Scalar.muli arg17 c128_i32_2224
  let c16_i32_2225 : BitVec 32 := 16#32
  let v12465 : BitVec 32 := Scalar.addi v12464 c16_i32_2225
  let c136_i32_2226 : BitVec 32 := 136#32
  let v12466 : BitVec 32 := Scalar.muli v12465 c136_i32_2226
  v12466
def k0_mult34 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2237 : BitVec 32 := 128#32
  let v12510 : BitVec 32 := Scalar.muli arg17 c128_i32_2237
  let c17_i32_2238 : BitVec 32 := 17#32
  let v12511 : BitVec 32 := Scalar.addi v12510 c17_i32_2238
  let c136_i32_2239 : BitVec 32 := 136#32
  let v12512 : BitVec 32 := Scalar.muli v12511 c136_i32_2239
  v12512
def k0_mult35 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2250 : BitVec 32 := 128#32
  let v12556 : BitVec 32 := Scalar.muli arg17 c128_i32_2250
  let c18_i32_2251 : BitVec 32 := 18#32
  let v12557 : BitVec 32 := Scalar.addi v12556 c18_i32_2251
  let c136_i32_2252 : BitVec 32 := 136#32
  let v12558 : BitVec 32 := Scalar.muli v12557 c136_i32_2252
  v12558
def k0_mult36 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2263 : BitVec 32 := 128#32
  let v12602 : BitVec 32 := Scalar.muli arg17 c128_i32_2263
  let c19_i32_2264 : BitVec 32 := 19#32
  let v12603 : BitVec 32 := Scalar.addi v12602 c19_i32_2264
  let c136_i32_2265 : BitVec 32 := 136#32
  let v12604 : BitVec 32 := Scalar.muli v12603 c136_i32_2265
  v12604
def k0_mult37 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2276 : BitVec 32 := 128#32
  let v12648 : BitVec 32 := Scalar.muli arg17 c128_i32_2276
  let c20_i32_2277 : BitVec 32 := 20#32
  let v12649 : BitVec 32 := Scalar.addi v12648 c20_i32_2277
  let c136_i32_2278 : BitVec 32 := 136#32
  let v12650 : BitVec 32 := Scalar.muli v12649 c136_i32_2278
  v12650
def k0_mult38 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2289 : BitVec 32 := 128#32
  let v12694 : BitVec 32 := Scalar.muli arg17 c128_i32_2289
  let c21_i32_2290 : BitVec 32 := 21#32
  let v12695 : BitVec 32 := Scalar.addi v12694 c21_i32_2290
  let c136_i32_2291 : BitVec 32 := 136#32
  let v12696 : BitVec 32 := Scalar.muli v12695 c136_i32_2291
  v12696
def k0_mult39 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2302 : BitVec 32 := 128#32
  let v12740 : BitVec 32 := Scalar.muli arg17 c128_i32_2302
  let c22_i32_2303 : BitVec 32 := 22#32
  let v12741 : BitVec 32 := Scalar.addi v12740 c22_i32_2303
  let c136_i32_2304 : BitVec 32 := 136#32
  let v12742 : BitVec 32 := Scalar.muli v12741 c136_i32_2304
  v12742
def k0_mult40 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2315 : BitVec 32 := 128#32
  let v12786 : BitVec 32 := Scalar.muli arg17 c128_i32_2315
  let c23_i32_2316 : BitVec 32 := 23#32
  let v12787 : BitVec 32 := Scalar.addi v12786 c23_i32_2316
  let c136_i32_2317 : BitVec 32 := 136#32
  let v12788 : BitVec 32 := Scalar.muli v12787 c136_i32_2317
  v12788
def k0_mult41 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2328 : BitVec 32 := 128#32
  let v12832 : BitVec 32 := Scalar.muli arg17 c128_i32_2328
  let c24_i32_2329 : BitVec 32 := 24#32
  let v12833 : BitVec 32 := Scalar.addi v12832 c24_i32_2329
  let c136_i32_2330 : BitVec 32 := 136#32
  let v12834 : BitVec 32 := Scalar.muli v12833 c136_i32_2330
  v12834
def k0_mult42 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2341 : BitVec 32 := 128#32
  let v12878 : BitVec 32 := Scalar.muli arg17 c128_i32_2341
  let c25_i32_2342 : BitVec 32 := 25#32
  let v12879 : BitVec 32 := Scalar.addi v12878 c25_i32_2342
  let c136_i32_2343 : BitVec 32 := 136#32
  let v12880 : BitVec 32 := Scalar.muli v12879 c136_i32_2343
  v12880
def k0_mult43 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2354 : BitVec 32 := 128#32
  let v12924 : BitVec 32 := Scalar.muli arg17 c128_i32_2354
  let c26_i32_2355 : BitVec 32 := 26#32
  let v12925 : BitVec 32 := Scalar.addi v12924 c26_i32_2355
  let c136_i32_2356 : BitVec 32 := 136#32
  let v12926 : BitVec 32 := Scalar.muli v12925 c136_i32_2356
  v12926
def k0_mult44 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2367 : BitVec 32 := 128#32
  let v12970 : BitVec 32 := Scalar.muli arg17 c128_i32_2367
  let c27_i32_2368 : BitVec 32 := 27#32
  let v12971 : BitVec 32 := Scalar.addi v12970 c27_i32_2368
  let c136_i32_2369 : BitVec 32 := 136#32
  let v12972 : BitVec 32 := Scalar.muli v12971 c136_i32_2369
  v12972
def k0_mult45 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2380 : BitVec 32 := 128#32
  let v13016 : BitVec 32 := Scalar.muli arg17 c128_i32_2380
  let c28_i32_2381 : BitVec 32 := 28#32
  let v13017 : BitVec 32 := Scalar.addi v13016 c28_i32_2381
  let c136_i32_2382 : BitVec 32 := 136#32
  let v13018 : BitVec 32 := Scalar.muli v13017 c136_i32_2382
  v13018
def k0_mult46 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2393 : BitVec 32 := 128#32
  let v13062 : BitVec 32 := Scalar.muli arg17 c128_i32_2393
  let c29_i32_2394 : BitVec 32 := 29#32
  let v13063 : BitVec 32 := Scalar.addi v13062 c29_i32_2394
  let c136_i32_2395 : BitVec 32 := 136#32
  let v13064 : BitVec 32 := Scalar.muli v13063 c136_i32_2395
  v13064
def k0_mult47 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2406 : BitVec 32 := 128#32
  let v13108 : BitVec 32 := Scalar.muli arg17 c128_i32_2406
  let c30_i32_2407 : BitVec 32 := 30#32
  let v13109 : BitVec 32 := Scalar.addi v13108 c30_i32_2407
  let c136_i32_2408 : BitVec 32 := 136#32
  let v13110 : BitVec 32 := Scalar.muli v13109 c136_i32_2408
  v13110
def k0_mult48 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2419 : BitVec 32 := 128#32
  let v13154 : BitVec 32 := Scalar.muli arg17 c128_i32_2419
  let c31_i32_2420 : BitVec 32 := 31#32
  let v13155 : BitVec 32 := Scalar.addi v13154 c31_i32_2420
  let c136_i32_2421 : BitVec 32 := 136#32
  let v13156 : BitVec 32 := Scalar.muli v13155 c136_i32_2421
  v13156
def k0_mult49 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2432 : BitVec 32 := 128#32
  let v13200 : BitVec 32 := Scalar.muli arg17 c128_i32_2432
  let c32_i32_2433 : BitVec 32 := 32#32
  let v13201 : BitVec 32 := Scalar.addi v13200 c32_i32_2433
  let c136_i32_2434 : BitVec 32 := 136#32
  let v13202 : BitVec 32 := Scalar.muli v13201 c136_i32_2434
  v13202
def k0_mult50 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2445 : BitVec 32 := 128#32
  let v13246 : BitVec 32 := Scalar.muli arg17 c128_i32_2445
  let c33_i32_2446 : BitVec 32 := 33#32
  let v13247 : BitVec 32 := Scalar.addi v13246 c33_i32_2446
  let c136_i32_2447 : BitVec 32 := 136#32
  let v13248 : BitVec 32 := Scalar.muli v13247 c136_i32_2447
  v13248
def k0_mult51 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2458 : BitVec 32 := 128#32
  let v13292 : BitVec 32 := Scalar.muli arg17 c128_i32_2458
  let c34_i32_2459 : BitVec 32 := 34#32
  let v13293 : BitVec 32 := Scalar.addi v13292 c34_i32_2459
  let c136_i32_2460 : BitVec 32 := 136#32
  let v13294 : BitVec 32 := Scalar.muli v13293 c136_i32_2460
  v13294
def k0_mult52 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2471 : BitVec 32 := 128#32
  let v13338 : BitVec 32 := Scalar.muli arg17 c128_i32_2471
  let c35_i32_2472 : BitVec 32 := 35#32
  let v13339 : BitVec 32 := Scalar.addi v13338 c35_i32_2472
  let c136_i32_2473 : BitVec 32 := 136#32
  let v13340 : BitVec 32 := Scalar.muli v13339 c136_i32_2473
  v13340
def k0_mult53 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2484 : BitVec 32 := 128#32
  let v13384 : BitVec 32 := Scalar.muli arg17 c128_i32_2484
  let c36_i32_2485 : BitVec 32 := 36#32
  let v13385 : BitVec 32 := Scalar.addi v13384 c36_i32_2485
  let c136_i32_2486 : BitVec 32 := 136#32
  let v13386 : BitVec 32 := Scalar.muli v13385 c136_i32_2486
  v13386
def k0_mult54 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2497 : BitVec 32 := 128#32
  let v13430 : BitVec 32 := Scalar.muli arg17 c128_i32_2497
  let c37_i32_2498 : BitVec 32 := 37#32
  let v13431 : BitVec 32 := Scalar.addi v13430 c37_i32_2498
  let c136_i32_2499 : BitVec 32 := 136#32
  let v13432 : BitVec 32 := Scalar.muli v13431 c136_i32_2499
  v13432
def k0_mult55 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2510 : BitVec 32 := 128#32
  let v13476 : BitVec 32 := Scalar.muli arg17 c128_i32_2510
  let c38_i32_2511 : BitVec 32 := 38#32
  let v13477 : BitVec 32 := Scalar.addi v13476 c38_i32_2511
  let c136_i32_2512 : BitVec 32 := 136#32
  let v13478 : BitVec 32 := Scalar.muli v13477 c136_i32_2512
  v13478
def k0_mult56 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2523 : BitVec 32 := 128#32
  let v13522 : BitVec 32 := Scalar.muli arg17 c128_i32_2523
  let c39_i32_2524 : BitVec 32 := 39#32
  let v13523 : BitVec 32 := Scalar.addi v13522 c39_i32_2524
  let c136_i32_2525 : BitVec 32 := 136#32
  let v13524 : BitVec 32 := Scalar.muli v13523 c136_i32_2525
  v13524
def k0_mult57 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2536 : BitVec 32 := 128#32
  let v13568 : BitVec 32 := Scalar.muli arg17 c128_i32_2536
  let c40_i32_2537 : BitVec 32 := 40#32
  let v13569 : BitVec 32 := Scalar.addi v13568 c40_i32_2537
  let c136_i32_2538 : BitVec 32 := 136#32
  let v13570 : BitVec 32 := Scalar.muli v13569 c136_i32_2538
  v13570
def k0_mult58 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2549 : BitVec 32 := 128#32
  let v13614 : BitVec 32 := Scalar.muli arg17 c128_i32_2549
  let c41_i32_2550 : BitVec 32 := 41#32
  let v13615 : BitVec 32 := Scalar.addi v13614 c41_i32_2550
  let c136_i32_2551 : BitVec 32 := 136#32
  let v13616 : BitVec 32 := Scalar.muli v13615 c136_i32_2551
  v13616
def k0_mult59 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2562 : BitVec 32 := 128#32
  let v13660 : BitVec 32 := Scalar.muli arg17 c128_i32_2562
  let c42_i32_2563 : BitVec 32 := 42#32
  let v13661 : BitVec 32 := Scalar.addi v13660 c42_i32_2563
  let c136_i32_2564 : BitVec 32 := 136#32
  let v13662 : BitVec 32 := Scalar.muli v13661 c136_i32_2564
  v13662
def k0_mult60 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2575 : BitVec 32 := 128#32
  let v13706 : BitVec 32 := Scalar.muli arg17 c128_i32_2575
  let c43_i32_2576 : BitVec 32 := 43#32
  let v13707 : BitVec 32 := Scalar.addi v13706 c43_i32_2576
  let c136_i32_2577 : BitVec 32 := 136#32
  let v13708 : BitVec 32 := Scalar.muli v13707 c136_i32_2577
  v13708
def k0_mult61 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2588 : BitVec 32 := 128#32
  let v13752 : BitVec 32 := Scalar.muli arg17 c128_i32_2588
  let c44_i32_2589 : BitVec 32 := 44#32
  let v13753 : BitVec 32 := Scalar.addi v13752 c44_i32_2589
  let c136_i32_2590 : BitVec 32 := 136#32
  let v13754 : BitVec 32 := Scalar.muli v13753 c136_i32_2590
  v13754
def k0_mult62 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2601 : BitVec 32 := 128#32
  let v13798 : BitVec 32 := Scalar.muli arg17 c128_i32_2601
  let c45_i32_2602 : BitVec 32 := 45#32
  let v13799 : BitVec 32 := Scalar.addi v13798 c45_i32_2602
  let c136_i32_2603 : BitVec 32 := 136#32
  let v13800 : BitVec 32 := Scalar.muli v13799 c136_i32_2603
  v13800
def k0_mult63 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2614 : BitVec 32 := 128#32
  let v13844 : BitVec 32 := Scalar.muli arg17 c128_i32_2614
  let c46_i32_2615 : BitVec 32 := 46#32
  let v13845 : BitVec 32 := Scalar.addi v13844 c46_i32_2615
  let c136_i32_2616 : BitVec 32 := 136#32
  let v13846 : BitVec 32 := Scalar.muli v13845 c136_i32_2616
  v13846
def k0_mult64 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2627 : BitVec 32 := 128#32
  let v13890 : BitVec 32 := Scalar.muli arg17 c128_i32_2627
  let c47_i32_2628 : BitVec 32 := 47#32
  let v13891 : BitVec 32 := Scalar.addi v13890 c47_i32_2628
  let c136_i32_2629 : BitVec 32 := 136#32
  let v13892 : BitVec 32 := Scalar.muli v13891 c136_i32_2629
  v13892
def k0_mult65 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2640 : BitVec 32 := 128#32
  let v13936 : BitVec 32 := Scalar.muli arg17 c128_i32_2640
  let c48_i32_2641 : BitVec 32 := 48#32
  let v13937 : BitVec 32 := Scalar.addi v13936 c48_i32_2641
  let c136_i32_2642 : BitVec 32 := 136#32
  let v13938 : BitVec 32 := Scalar.muli v13937 c136_i32_2642
  v13938
def k0_mult66 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2653 : BitVec 32 := 128#32
  let v13982 : BitVec 32 := Scalar.muli arg17 c128_i32_2653
  let c49_i32_2654 : BitVec 32 := 49#32
  let v13983 : BitVec 32 := Scalar.addi v13982 c49_i32_2654
  let c136_i32_2655 : BitVec 32 := 136#32
  let v13984 : BitVec 32 := Scalar.muli v13983 c136_i32_2655
  v13984
def k0_mult67 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2666 : BitVec 32 := 128#32
  let v14028 : BitVec 32 := Scalar.muli arg17 c128_i32_2666
  let c50_i32_2667 : BitVec 32 := 50#32
  let v14029 : BitVec 32 := Scalar.addi v14028 c50_i32_2667
  let c136_i32_2668 : BitVec 32 := 136#32
  let v14030 : BitVec 32 := Scalar.muli v14029 c136_i32_2668
  v14030
def k0_mult68 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2679 : BitVec 32 := 128#32
  let v14074 : BitVec 32 := Scalar.muli arg17 c128_i32_2679
  let c51_i32_2680 : BitVec 32 := 51#32
  let v14075 : BitVec 32 := Scalar.addi v14074 c51_i32_2680
  let c136_i32_2681 : BitVec 32 := 136#32
  let v14076 : BitVec 32 := Scalar.muli v14075 c136_i32_2681
  v14076
def k0_mult69 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2692 : BitVec 32 := 128#32
  let v14120 : BitVec 32 := Scalar.muli arg17 c128_i32_2692
  let c52_i32_2693 : BitVec 32 := 52#32
  let v14121 : BitVec 32 := Scalar.addi v14120 c52_i32_2693
  let c136_i32_2694 : BitVec 32 := 136#32
  let v14122 : BitVec 32 := Scalar.muli v14121 c136_i32_2694
  v14122
def k0_mult70 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2705 : BitVec 32 := 128#32
  let v14166 : BitVec 32 := Scalar.muli arg17 c128_i32_2705
  let c53_i32_2706 : BitVec 32 := 53#32
  let v14167 : BitVec 32 := Scalar.addi v14166 c53_i32_2706
  let c136_i32_2707 : BitVec 32 := 136#32
  let v14168 : BitVec 32 := Scalar.muli v14167 c136_i32_2707
  v14168
def k0_mult71 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2718 : BitVec 32 := 128#32
  let v14212 : BitVec 32 := Scalar.muli arg17 c128_i32_2718
  let c54_i32_2719 : BitVec 32 := 54#32
  let v14213 : BitVec 32 := Scalar.addi v14212 c54_i32_2719
  let c136_i32_2720 : BitVec 32 := 136#32
  let v14214 : BitVec 32 := Scalar.muli v14213 c136_i32_2720
  v14214
def k0_mult72 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2731 : BitVec 32 := 128#32
  let v14258 : BitVec 32 := Scalar.muli arg17 c128_i32_2731
  let c55_i32_2732 : BitVec 32 := 55#32
  let v14259 : BitVec 32 := Scalar.addi v14258 c55_i32_2732
  let c136_i32_2733 : BitVec 32 := 136#32
  let v14260 : BitVec 32 := Scalar.muli v14259 c136_i32_2733
  v14260
def k0_mult73 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2744 : BitVec 32 := 128#32
  let v14304 : BitVec 32 := Scalar.muli arg17 c128_i32_2744
  let c56_i32_2745 : BitVec 32 := 56#32
  let v14305 : BitVec 32 := Scalar.addi v14304 c56_i32_2745
  let c136_i32_2746 : BitVec 32 := 136#32
  let v14306 : BitVec 32 := Scalar.muli v14305 c136_i32_2746
  v14306
def k0_mult74 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2757 : BitVec 32 := 128#32
  let v14350 : BitVec 32 := Scalar.muli arg17 c128_i32_2757
  let c57_i32_2758 : BitVec 32 := 57#32
  let v14351 : BitVec 32 := Scalar.addi v14350 c57_i32_2758
  let c136_i32_2759 : BitVec 32 := 136#32
  let v14352 : BitVec 32 := Scalar.muli v14351 c136_i32_2759
  v14352
def k0_mult75 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2770 : BitVec 32 := 128#32
  let v14396 : BitVec 32 := Scalar.muli arg17 c128_i32_2770
  let c58_i32_2771 : BitVec 32 := 58#32
  let v14397 : BitVec 32 := Scalar.addi v14396 c58_i32_2771
  let c136_i32_2772 : BitVec 32 := 136#32
  let v14398 : BitVec 32 := Scalar.muli v14397 c136_i32_2772
  v14398
def k0_mult76 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2783 : BitVec 32 := 128#32
  let v14442 : BitVec 32 := Scalar.muli arg17 c128_i32_2783
  let c59_i32_2784 : BitVec 32 := 59#32
  let v14443 : BitVec 32 := Scalar.addi v14442 c59_i32_2784
  let c136_i32_2785 : BitVec 32 := 136#32
  let v14444 : BitVec 32 := Scalar.muli v14443 c136_i32_2785
  v14444
def k0_mult77 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2796 : BitVec 32 := 128#32
  let v14488 : BitVec 32 := Scalar.muli arg17 c128_i32_2796
  let c60_i32_2797 : BitVec 32 := 60#32
  let v14489 : BitVec 32 := Scalar.addi v14488 c60_i32_2797
  let c136_i32_2798 : BitVec 32 := 136#32
  let v14490 : BitVec 32 := Scalar.muli v14489 c136_i32_2798
  v14490
def k0_mult78 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2809 : BitVec 32 := 128#32
  let v14534 : BitVec 32 := Scalar.muli arg17 c128_i32_2809
  let c61_i32_2810 : BitVec 32 := 61#32
  let v14535 : BitVec 32 := Scalar.addi v14534 c61_i32_2810
  let c136_i32_2811 : BitVec 32 := 136#32
  let v14536 : BitVec 32 := Scalar.muli v14535 c136_i32_2811
  v14536
def k0_mult79 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2822 : BitVec 32 := 128#32
  let v14580 : BitVec 32 := Scalar.muli arg17 c128_i32_2822
  let c62_i32_2823 : BitVec 32 := 62#32
  let v14581 : BitVec 32 := Scalar.addi v14580 c62_i32_2823
  let c136_i32_2824 : BitVec 32 := 136#32
  let v14582 : BitVec 32 := Scalar.muli v14581 c136_i32_2824
  v14582
def k0_mult80 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2835 : BitVec 32 := 128#32
  let v14626 : BitVec 32 := Scalar.muli arg17 c128_i32_2835
  let c63_i32_2836 : BitVec 32 := 63#32
  let v14627 : BitVec 32 := Scalar.addi v14626 c63_i32_2836
  let c136_i32_2837 : BitVec 32 := 136#32
  let v14628 : BitVec 32 := Scalar.muli v14627 c136_i32_2837
  v14628
def k0_mult81 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2848 : BitVec 32 := 128#32
  let v14672 : BitVec 32 := Scalar.muli arg17 c128_i32_2848
  let c64_i32_2849 : BitVec 32 := 64#32
  let v14673 : BitVec 32 := Scalar.addi v14672 c64_i32_2849
  let c136_i32_2850 : BitVec 32 := 136#32
  let v14674 : BitVec 32 := Scalar.muli v14673 c136_i32_2850
  v14674
def k0_mult82 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2861 : BitVec 32 := 128#32
  let v14718 : BitVec 32 := Scalar.muli arg17 c128_i32_2861
  let c65_i32_2862 : BitVec 32 := 65#32
  let v14719 : BitVec 32 := Scalar.addi v14718 c65_i32_2862
  let c136_i32_2863 : BitVec 32 := 136#32
  let v14720 : BitVec 32 := Scalar.muli v14719 c136_i32_2863
  v14720
def k0_mult83 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2874 : BitVec 32 := 128#32
  let v14764 : BitVec 32 := Scalar.muli arg17 c128_i32_2874
  let c66_i32_2875 : BitVec 32 := 66#32
  let v14765 : BitVec 32 := Scalar.addi v14764 c66_i32_2875
  let c136_i32_2876 : BitVec 32 := 136#32
  let v14766 : BitVec 32 := Scalar.muli v14765 c136_i32_2876
  v14766
def k0_mult84 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2887 : BitVec 32 := 128#32
  let v14810 : BitVec 32 := Scalar.muli arg17 c128_i32_2887
  let c67_i32_2888 : BitVec 32 := 67#32
  let v14811 : BitVec 32 := Scalar.addi v14810 c67_i32_2888
  let c136_i32_2889 : BitVec 32 := 136#32
  let v14812 : BitVec 32 := Scalar.muli v14811 c136_i32_2889
  v14812
def k0_mult85 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2900 : BitVec 32 := 128#32
  let v14856 : BitVec 32 := Scalar.muli arg17 c128_i32_2900
  let c68_i32_2901 : BitVec 32 := 68#32
  let v14857 : BitVec 32 := Scalar.addi v14856 c68_i32_2901
  let c136_i32_2902 : BitVec 32 := 136#32
  let v14858 : BitVec 32 := Scalar.muli v14857 c136_i32_2902
  v14858
def k0_mult86 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2913 : BitVec 32 := 128#32
  let v14902 : BitVec 32 := Scalar.muli arg17 c128_i32_2913
  let c69_i32_2914 : BitVec 32 := 69#32
  let v14903 : BitVec 32 := Scalar.addi v14902 c69_i32_2914
  let c136_i32_2915 : BitVec 32 := 136#32
  let v14904 : BitVec 32 := Scalar.muli v14903 c136_i32_2915
  v14904
def k0_mult87 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2926 : BitVec 32 := 128#32
  let v14948 : BitVec 32 := Scalar.muli arg17 c128_i32_2926
  let c70_i32_2927 : BitVec 32 := 70#32
  let v14949 : BitVec 32 := Scalar.addi v14948 c70_i32_2927
  let c136_i32_2928 : BitVec 32 := 136#32
  let v14950 : BitVec 32 := Scalar.muli v14949 c136_i32_2928
  v14950
def k0_mult88 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2939 : BitVec 32 := 128#32
  let v14994 : BitVec 32 := Scalar.muli arg17 c128_i32_2939
  let c71_i32_2940 : BitVec 32 := 71#32
  let v14995 : BitVec 32 := Scalar.addi v14994 c71_i32_2940
  let c136_i32_2941 : BitVec 32 := 136#32
  let v14996 : BitVec 32 := Scalar.muli v14995 c136_i32_2941
  v14996
def k0_mult89 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2952 : BitVec 32 := 128#32
  let v15040 : BitVec 32 := Scalar.muli arg17 c128_i32_2952
  let c72_i32_2953 : BitVec 32 := 72#32
  let v15041 : BitVec 32 := Scalar.addi v15040 c72_i32_2953
  let c136_i32_2954 : BitVec 32 := 136#32
  let v15042 : BitVec 32 := Scalar.muli v15041 c136_i32_2954
  v15042
def k0_mult90 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2965 : BitVec 32 := 128#32
  let v15086 : BitVec 32 := Scalar.muli arg17 c128_i32_2965
  let c73_i32_2966 : BitVec 32 := 73#32
  let v15087 : BitVec 32 := Scalar.addi v15086 c73_i32_2966
  let c136_i32_2967 : BitVec 32 := 136#32
  let v15088 : BitVec 32 := Scalar.muli v15087 c136_i32_2967
  v15088
def k0_mult91 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2978 : BitVec 32 := 128#32
  let v15132 : BitVec 32 := Scalar.muli arg17 c128_i32_2978
  let c74_i32_2979 : BitVec 32 := 74#32
  let v15133 : BitVec 32 := Scalar.addi v15132 c74_i32_2979
  let c136_i32_2980 : BitVec 32 := 136#32
  let v15134 : BitVec 32 := Scalar.muli v15133 c136_i32_2980
  v15134
def k0_mult92 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_2991 : BitVec 32 := 128#32
  let v15178 : BitVec 32 := Scalar.muli arg17 c128_i32_2991
  let c75_i32_2992 : BitVec 32 := 75#32
  let v15179 : BitVec 32 := Scalar.addi v15178 c75_i32_2992
  let c136_i32_2993 : BitVec 32 := 136#32
  let v15180 : BitVec 32 := Scalar.muli v15179 c136_i32_2993
  v15180
def k0_mult93 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3004 : BitVec 32 := 128#32
  let v15224 : BitVec 32 := Scalar.muli arg17 c128_i32_3004
  let c76_i32_3005 : BitVec 32 := 76#32
  let v15225 : BitVec 32 := Scalar.addi v15224 c76_i32_3005
  let c136_i32_3006 : BitVec 32 := 136#32
  let v15226 : BitVec 32 := Scalar.muli v15225 c136_i32_3006
  v15226
def k0_mult94 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3017 : BitVec 32 := 128#32
  let v15270 : BitVec 32 := Scalar.muli arg17 c128_i32_3017
  let c77_i32_3018 : BitVec 32 := 77#32
  let v15271 : BitVec 32 := Scalar.addi v15270 c77_i32_3018
  let c136_i32_3019 : BitVec 32 := 136#32
  let v15272 : BitVec 32 := Scalar.muli v15271 c136_i32_3019
  v15272
def k0_mult95 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3030 : BitVec 32 := 128#32
  let v15316 : BitVec 32 := Scalar.muli arg17 c128_i32_3030
  let c78_i32_3031 : BitVec 32 := 78#32
  let v15317 : BitVec 32 := Scalar.addi v15316 c78_i32_3031
  let c136_i32_3032 : BitVec 32 := 136#32
  let v15318 : BitVec 32 := Scalar.muli v15317 c136_i32_3032
  v15318
def k0_mult96 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3043 : BitVec 32 := 128#32
  let v15362 : BitVec 32 := Scalar.muli arg17 c128_i32_3043
  let c79_i32_3044 : BitVec 32 := 79#32
  let v15363 : BitVec 32 := Scalar.addi v15362 c79_i32_3044
  let c136_i32_3045 : BitVec 32 := 136#32
  let v15364 : BitVec 32 := Scalar.muli v15363 c136_i32_3045
  v15364
def k0_mult97 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3056 : BitVec 32 := 128#32
  let v15408 : BitVec 32 := Scalar.muli arg17 c128_i32_3056
  let c80_i32_3057 : BitVec 32 := 80#32
  let v15409 : BitVec 32 := Scalar.addi v15408 c80_i32_3057
  let c136_i32_3058 : BitVec 32 := 136#32
  let v15410 : BitVec 32 := Scalar.muli v15409 c136_i32_3058
  v15410
def k0_mult98 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3069 : BitVec 32 := 128#32
  let v15454 : BitVec 32 := Scalar.muli arg17 c128_i32_3069
  let c81_i32_3070 : BitVec 32 := 81#32
  let v15455 : BitVec 32 := Scalar.addi v15454 c81_i32_3070
  let c136_i32_3071 : BitVec 32 := 136#32
  let v15456 : BitVec 32 := Scalar.muli v15455 c136_i32_3071
  v15456
def k0_mult99 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3082 : BitVec 32 := 128#32
  let v15500 : BitVec 32 := Scalar.muli arg17 c128_i32_3082
  let c82_i32_3083 : BitVec 32 := 82#32
  let v15501 : BitVec 32 := Scalar.addi v15500 c82_i32_3083
  let c136_i32_3084 : BitVec 32 := 136#32
  let v15502 : BitVec 32 := Scalar.muli v15501 c136_i32_3084
  v15502
def k0_mult100 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3095 : BitVec 32 := 128#32
  let v15546 : BitVec 32 := Scalar.muli arg17 c128_i32_3095
  let c83_i32_3096 : BitVec 32 := 83#32
  let v15547 : BitVec 32 := Scalar.addi v15546 c83_i32_3096
  let c136_i32_3097 : BitVec 32 := 136#32
  let v15548 : BitVec 32 := Scalar.muli v15547 c136_i32_3097
  v15548
def k0_mult101 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3108 : BitVec 32 := 128#32
  let v15592 : BitVec 32 := Scalar.muli arg17 c128_i32_3108
  let c84_i32_3109 : BitVec 32 := 84#32
  let v15593 : BitVec 32 := Scalar.addi v15592 c84_i32_3109
  let c136_i32_3110 : BitVec 32 := 136#32
  let v15594 : BitVec 32 := Scalar.muli v15593 c136_i32_3110
  v15594
def k0_mult102 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3121 : BitVec 32 := 128#32
  let v15638 : BitVec 32 := Scalar.muli arg17 c128_i32_3121
  let c85_i32_3122 : BitVec 32 := 85#32
  let v15639 : BitVec 32 := Scalar.addi v15638 c85_i32_3122
  let c136_i32_3123 : BitVec 32 := 136#32
  let v15640 : BitVec 32 := Scalar.muli v15639 c136_i32_3123
  v15640
def k0_mult103 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3134 : BitVec 32 := 128#32
  let v15684 : BitVec 32 := Scalar.muli arg17 c128_i32_3134
  let c86_i32_3135 : BitVec 32 := 86#32
  let v15685 : BitVec 32 := Scalar.addi v15684 c86_i32_3135
  let c136_i32_3136 : BitVec 32 := 136#32
  let v15686 : BitVec 32 := Scalar.muli v15685 c136_i32_3136
  v15686
def k0_mult104 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3147 : BitVec 32 := 128#32
  let v15730 : BitVec 32 := Scalar.muli arg17 c128_i32_3147
  let c87_i32_3148 : BitVec 32 := 87#32
  let v15731 : BitVec 32 := Scalar.addi v15730 c87_i32_3148
  let c136_i32_3149 : BitVec 32 := 136#32
  let v15732 : BitVec 32 := Scalar.muli v15731 c136_i32_3149
  v15732
def k0_mult105 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3160 : BitVec 32 := 128#32
  let v15776 : BitVec 32 := Scalar.muli arg17 c128_i32_3160
  let c88_i32_3161 : BitVec 32 := 88#32
  let v15777 : BitVec 32 := Scalar.addi v15776 c88_i32_3161
  let c136_i32_3162 : BitVec 32 := 136#32
  let v15778 : BitVec 32 := Scalar.muli v15777 c136_i32_3162
  v15778
def k0_mult106 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3173 : BitVec 32 := 128#32
  let v15822 : BitVec 32 := Scalar.muli arg17 c128_i32_3173
  let c89_i32_3174 : BitVec 32 := 89#32
  let v15823 : BitVec 32 := Scalar.addi v15822 c89_i32_3174
  let c136_i32_3175 : BitVec 32 := 136#32
  let v15824 : BitVec 32 := Scalar.muli v15823 c136_i32_3175
  v15824
def k0_mult107 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3186 : BitVec 32 := 128#32
  let v15868 : BitVec 32 := Scalar.muli arg17 c128_i32_3186
  let c90_i32_3187 : BitVec 32 := 90#32
  let v15869 : BitVec 32 := Scalar.addi v15868 c90_i32_3187
  let c136_i32_3188 : BitVec 32 := 136#32
  let v15870 : BitVec 32 := Scalar.muli v15869 c136_i32_3188
  v15870
def k0_mult108 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3199 : BitVec 32 := 128#32
  let v15914 : BitVec 32 := Scalar.muli arg17 c128_i32_3199
  let c91_i32_3200 : BitVec 32 := 91#32
  let v15915 : BitVec 32 := Scalar.addi v15914 c91_i32_3200
  let c136_i32_3201 : BitVec 32 := 136#32
  let v15916 : BitVec 32 := Scalar.muli v15915 c136_i32_3201
  v15916
def k0_mult109 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3212 : BitVec 32 := 128#32
  let v15960 : BitVec 32 := Scalar.muli arg17 c128_i32_3212
  let c92_i32_3213 : BitVec 32 := 92#32
  let v15961 : BitVec 32 := Scalar.addi v15960 c92_i32_3213
  let c136_i32_3214 : BitVec 32 := 136#32
  let v15962 : BitVec 32 := Scalar.muli v15961 c136_i32_3214
  v15962
def k0_mult110 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3225 : BitVec 32 := 128#32
  let v16006 : BitVec 32 := Scalar.muli arg17 c128_i32_3225
  let c93_i32_3226 : BitVec 32 := 93#32
  let v16007 : BitVec 32 := Scalar.addi v16006 c93_i32_3226
  let c136_i32_3227 : BitVec 32 := 136#32
  let v16008 : BitVec 32 := Scalar.muli v16007 c136_i32_3227
  v16008
def k0_mult111 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3238 : BitVec 32 := 128#32
  let v16052 : BitVec 32 := Scalar.muli arg17 c128_i32_3238
  let c94_i32_3239 : BitVec 32 := 94#32
  let v16053 : BitVec 32 := Scalar.addi v16052 c94_i32_3239
  let c136_i32_3240 : BitVec 32 := 136#32
  let v16054 : BitVec 32 := Scalar.muli v16053 c136_i32_3240
  v16054
def k0_mult112 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3251 : BitVec 32 := 128#32
  let v16098 : BitVec 32 := Scalar.muli arg17 c128_i32_3251
  let c95_i32_3252 : BitVec 32 := 95#32
  let v16099 : BitVec 32 := Scalar.addi v16098 c95_i32_3252
  let c136_i32_3253 : BitVec 32 := 136#32
  let v16100 : BitVec 32 := Scalar.muli v16099 c136_i32_3253
  v16100
def k0_mult113 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3264 : BitVec 32 := 128#32
  let v16144 : BitVec 32 := Scalar.muli arg17 c128_i32_3264
  let c96_i32_3265 : BitVec 32 := 96#32
  let v16145 : BitVec 32 := Scalar.addi v16144 c96_i32_3265
  let c136_i32_3266 : BitVec 32 := 136#32
  let v16146 : BitVec 32 := Scalar.muli v16145 c136_i32_3266
  v16146
def k0_mult114 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3277 : BitVec 32 := 128#32
  let v16190 : BitVec 32 := Scalar.muli arg17 c128_i32_3277
  let c97_i32_3278 : BitVec 32 := 97#32
  let v16191 : BitVec 32 := Scalar.addi v16190 c97_i32_3278
  let c136_i32_3279 : BitVec 32 := 136#32
  let v16192 : BitVec 32 := Scalar.muli v16191 c136_i32_3279
  v16192
def k0_mult115 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3290 : BitVec 32 := 128#32
  let v16236 : BitVec 32 := Scalar.muli arg17 c128_i32_3290
  let c98_i32_3291 : BitVec 32 := 98#32
  let v16237 : BitVec 32 := Scalar.addi v16236 c98_i32_3291
  let c136_i32_3292 : BitVec 32 := 136#32
  let v16238 : BitVec 32 := Scalar.muli v16237 c136_i32_3292
  v16238
def k0_mult116 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3303 : BitVec 32 := 128#32
  let v16282 : BitVec 32 := Scalar.muli arg17 c128_i32_3303
  let c99_i32_3304 : BitVec 32 := 99#32
  let v16283 : BitVec 32 := Scalar.addi v16282 c99_i32_3304
  let c136_i32_3305 : BitVec 32 := 136#32
  let v16284 : BitVec 32 := Scalar.muli v16283 c136_i32_3305
  v16284
def k0_mult117 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3316 : BitVec 32 := 128#32
  let v16328 : BitVec 32 := Scalar.muli arg17 c128_i32_3316
  let c100_i32_3317 : BitVec 32 := 100#32
  let v16329 : BitVec 32 := Scalar.addi v16328 c100_i32_3317
  let c136_i32_3318 : BitVec 32 := 136#32
  let v16330 : BitVec 32 := Scalar.muli v16329 c136_i32_3318
  v16330
def k0_mult118 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3329 : BitVec 32 := 128#32
  let v16374 : BitVec 32 := Scalar.muli arg17 c128_i32_3329
  let c101_i32_3330 : BitVec 32 := 101#32
  let v16375 : BitVec 32 := Scalar.addi v16374 c101_i32_3330
  let c136_i32_3331 : BitVec 32 := 136#32
  let v16376 : BitVec 32 := Scalar.muli v16375 c136_i32_3331
  v16376
def k0_mult119 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3342 : BitVec 32 := 128#32
  let v16420 : BitVec 32 := Scalar.muli arg17 c128_i32_3342
  let c102_i32_3343 : BitVec 32 := 102#32
  let v16421 : BitVec 32 := Scalar.addi v16420 c102_i32_3343
  let c136_i32_3344 : BitVec 32 := 136#32
  let v16422 : BitVec 32 := Scalar.muli v16421 c136_i32_3344
  v16422
def k0_mult120 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3355 : BitVec 32 := 128#32
  let v16466 : BitVec 32 := Scalar.muli arg17 c128_i32_3355
  let c103_i32_3356 : BitVec 32 := 103#32
  let v16467 : BitVec 32 := Scalar.addi v16466 c103_i32_3356
  let c136_i32_3357 : BitVec 32 := 136#32
  let v16468 : BitVec 32 := Scalar.muli v16467 c136_i32_3357
  v16468
def k0_mult121 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3368 : BitVec 32 := 128#32
  let v16512 : BitVec 32 := Scalar.muli arg17 c128_i32_3368
  let c104_i32_3369 : BitVec 32 := 104#32
  let v16513 : BitVec 32 := Scalar.addi v16512 c104_i32_3369
  let c136_i32_3370 : BitVec 32 := 136#32
  let v16514 : BitVec 32 := Scalar.muli v16513 c136_i32_3370
  v16514
def k0_mult122 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3381 : BitVec 32 := 128#32
  let v16558 : BitVec 32 := Scalar.muli arg17 c128_i32_3381
  let c105_i32_3382 : BitVec 32 := 105#32
  let v16559 : BitVec 32 := Scalar.addi v16558 c105_i32_3382
  let c136_i32_3383 : BitVec 32 := 136#32
  let v16560 : BitVec 32 := Scalar.muli v16559 c136_i32_3383
  v16560
def k0_mult123 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3394 : BitVec 32 := 128#32
  let v16604 : BitVec 32 := Scalar.muli arg17 c128_i32_3394
  let c106_i32_3395 : BitVec 32 := 106#32
  let v16605 : BitVec 32 := Scalar.addi v16604 c106_i32_3395
  let c136_i32_3396 : BitVec 32 := 136#32
  let v16606 : BitVec 32 := Scalar.muli v16605 c136_i32_3396
  v16606
def k0_mult124 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3407 : BitVec 32 := 128#32
  let v16650 : BitVec 32 := Scalar.muli arg17 c128_i32_3407
  let c107_i32_3408 : BitVec 32 := 107#32
  let v16651 : BitVec 32 := Scalar.addi v16650 c107_i32_3408
  let c136_i32_3409 : BitVec 32 := 136#32
  let v16652 : BitVec 32 := Scalar.muli v16651 c136_i32_3409
  v16652
def k0_mult125 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3420 : BitVec 32 := 128#32
  let v16696 : BitVec 32 := Scalar.muli arg17 c128_i32_3420
  let c108_i32_3421 : BitVec 32 := 108#32
  let v16697 : BitVec 32 := Scalar.addi v16696 c108_i32_3421
  let c136_i32_3422 : BitVec 32 := 136#32
  let v16698 : BitVec 32 := Scalar.muli v16697 c136_i32_3422
  v16698
def k0_mult126 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3433 : BitVec 32 := 128#32
  let v16742 : BitVec 32 := Scalar.muli arg17 c128_i32_3433
  let c109_i32_3434 : BitVec 32 := 109#32
  let v16743 : BitVec 32 := Scalar.addi v16742 c109_i32_3434
  let c136_i32_3435 : BitVec 32 := 136#32
  let v16744 : BitVec 32 := Scalar.muli v16743 c136_i32_3435
  v16744
def k0_mult127 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3446 : BitVec 32 := 128#32
  let v16788 : BitVec 32 := Scalar.muli arg17 c128_i32_3446
  let c110_i32_3447 : BitVec 32 := 110#32
  let v16789 : BitVec 32 := Scalar.addi v16788 c110_i32_3447
  let c136_i32_3448 : BitVec 32 := 136#32
  let v16790 : BitVec 32 := Scalar.muli v16789 c136_i32_3448
  v16790
def k0_mult128 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3459 : BitVec 32 := 128#32
  let v16834 : BitVec 32 := Scalar.muli arg17 c128_i32_3459
  let c111_i32_3460 : BitVec 32 := 111#32
  let v16835 : BitVec 32 := Scalar.addi v16834 c111_i32_3460
  let c136_i32_3461 : BitVec 32 := 136#32
  let v16836 : BitVec 32 := Scalar.muli v16835 c136_i32_3461
  v16836
def k0_mult129 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3472 : BitVec 32 := 128#32
  let v16880 : BitVec 32 := Scalar.muli arg17 c128_i32_3472
  let c112_i32_3473 : BitVec 32 := 112#32
  let v16881 : BitVec 32 := Scalar.addi v16880 c112_i32_3473
  let c136_i32_3474 : BitVec 32 := 136#32
  let v16882 : BitVec 32 := Scalar.muli v16881 c136_i32_3474
  v16882
def k0_mult130 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3485 : BitVec 32 := 128#32
  let v16926 : BitVec 32 := Scalar.muli arg17 c128_i32_3485
  let c113_i32_3486 : BitVec 32 := 113#32
  let v16927 : BitVec 32 := Scalar.addi v16926 c113_i32_3486
  let c136_i32_3487 : BitVec 32 := 136#32
  let v16928 : BitVec 32 := Scalar.muli v16927 c136_i32_3487
  v16928
def k0_mult131 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3498 : BitVec 32 := 128#32
  let v16972 : BitVec 32 := Scalar.muli arg17 c128_i32_3498
  let c114_i32_3499 : BitVec 32 := 114#32
  let v16973 : BitVec 32 := Scalar.addi v16972 c114_i32_3499
  let c136_i32_3500 : BitVec 32 := 136#32
  let v16974 : BitVec 32 := Scalar.muli v16973 c136_i32_3500
  v16974
def k0_mult132 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3511 : BitVec 32 := 128#32
  let v17018 : BitVec 32 := Scalar.muli arg17 c128_i32_3511
  let c115_i32_3512 : BitVec 32 := 115#32
  let v17019 : BitVec 32 := Scalar.addi v17018 c115_i32_3512
  let c136_i32_3513 : BitVec 32 := 136#32
  let v17020 : BitVec 32 := Scalar.muli v17019 c136_i32_3513
  v17020
def k0_mult133 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3524 : BitVec 32 := 128#32
  let v17064 : BitVec 32 := Scalar.muli arg17 c128_i32_3524
  let c116_i32_3525 : BitVec 32 := 116#32
  let v17065 : BitVec 32 := Scalar.addi v17064 c116_i32_3525
  let c136_i32_3526 : BitVec 32 := 136#32
  let v17066 : BitVec 32 := Scalar.muli v17065 c136_i32_3526
  v17066
def k0_mult134 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3537 : BitVec 32 := 128#32
  let v17110 : BitVec 32 := Scalar.muli arg17 c128_i32_3537
  let c117_i32_3538 : BitVec 32 := 117#32
  let v17111 : BitVec 32 := Scalar.addi v17110 c117_i32_3538
  let c136_i32_3539 : BitVec 32 := 136#32
  let v17112 : BitVec 32 := Scalar.muli v17111 c136_i32_3539
  v17112
def k0_mult135 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3550 : BitVec 32 := 128#32
  let v17156 : BitVec 32 := Scalar.muli arg17 c128_i32_3550
  let c118_i32_3551 : BitVec 32 := 118#32
  let v17157 : BitVec 32 := Scalar.addi v17156 c118_i32_3551
  let c136_i32_3552 : BitVec 32 := 136#32
  let v17158 : BitVec 32 := Scalar.muli v17157 c136_i32_3552
  v17158
def k0_mult136 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3563 : BitVec 32 := 128#32
  let v17202 : BitVec 32 := Scalar.muli arg17 c128_i32_3563
  let c119_i32_3564 : BitVec 32 := 119#32
  let v17203 : BitVec 32 := Scalar.addi v17202 c119_i32_3564
  let c136_i32_3565 : BitVec 32 := 136#32
  let v17204 : BitVec 32 := Scalar.muli v17203 c136_i32_3565
  v17204
def k0_mult137 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3576 : BitVec 32 := 128#32
  let v17248 : BitVec 32 := Scalar.muli arg17 c128_i32_3576
  let c120_i32_3577 : BitVec 32 := 120#32
  let v17249 : BitVec 32 := Scalar.addi v17248 c120_i32_3577
  let c136_i32_3578 : BitVec 32 := 136#32
  let v17250 : BitVec 32 := Scalar.muli v17249 c136_i32_3578
  v17250
def k0_mult138 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3589 : BitVec 32 := 128#32
  let v17294 : BitVec 32 := Scalar.muli arg17 c128_i32_3589
  let c121_i32_3590 : BitVec 32 := 121#32
  let v17295 : BitVec 32 := Scalar.addi v17294 c121_i32_3590
  let c136_i32_3591 : BitVec 32 := 136#32
  let v17296 : BitVec 32 := Scalar.muli v17295 c136_i32_3591
  v17296
def k0_mult139 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3602 : BitVec 32 := 128#32
  let v17340 : BitVec 32 := Scalar.muli arg17 c128_i32_3602
  let c122_i32_3603 : BitVec 32 := 122#32
  let v17341 : BitVec 32 := Scalar.addi v17340 c122_i32_3603
  let c136_i32_3604 : BitVec 32 := 136#32
  let v17342 : BitVec 32 := Scalar.muli v17341 c136_i32_3604
  v17342
def k0_mult140 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3615 : BitVec 32 := 128#32
  let v17386 : BitVec 32 := Scalar.muli arg17 c128_i32_3615
  let c123_i32_3616 : BitVec 32 := 123#32
  let v17387 : BitVec 32 := Scalar.addi v17386 c123_i32_3616
  let c136_i32_3617 : BitVec 32 := 136#32
  let v17388 : BitVec 32 := Scalar.muli v17387 c136_i32_3617
  v17388
def k0_mult141 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3628 : BitVec 32 := 128#32
  let v17432 : BitVec 32 := Scalar.muli arg17 c128_i32_3628
  let c124_i32_3629 : BitVec 32 := 124#32
  let v17433 : BitVec 32 := Scalar.addi v17432 c124_i32_3629
  let c136_i32_3630 : BitVec 32 := 136#32
  let v17434 : BitVec 32 := Scalar.muli v17433 c136_i32_3630
  v17434
def k0_mult142 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3641 : BitVec 32 := 128#32
  let v17478 : BitVec 32 := Scalar.muli arg17 c128_i32_3641
  let c125_i32_3642 : BitVec 32 := 125#32
  let v17479 : BitVec 32 := Scalar.addi v17478 c125_i32_3642
  let c136_i32_3643 : BitVec 32 := 136#32
  let v17480 : BitVec 32 := Scalar.muli v17479 c136_i32_3643
  v17480
def k0_mult143 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3654 : BitVec 32 := 128#32
  let v17524 : BitVec 32 := Scalar.muli arg17 c128_i32_3654
  let c126_i32_3655 : BitVec 32 := 126#32
  let v17525 : BitVec 32 := Scalar.addi v17524 c126_i32_3655
  let c136_i32_3656 : BitVec 32 := 136#32
  let v17526 : BitVec 32 := Scalar.muli v17525 c136_i32_3656
  v17526
def k0_mult144 (k0_t1 : Fin k0_t1_loop.trips) : BitVec 32 :=
  let c0_i32_2011 : BitVec 32 := 0#32
  let c1_i32_2013 : BitVec 32 := 1#32
  let arg17 : BitVec 32 := Scf.iv c0_i32_2011 c1_i32_2013 k0_t1
  let c128_i32_3667 : BitVec 32 := 128#32
  let v17570 : BitVec 32 := Scalar.muli arg17 c128_i32_3667
  let c127_i32_3668 : BitVec 32 := 127#32
  let v17571 : BitVec 32 := Scalar.addi v17570 c127_i32_3668
  let c136_i32_3669 : BitVec 32 := 136#32
  let v17572 : BitVec 32 := Scalar.muli v17571 c136_i32_3669
  v17572
def k0_off11 (i : grid0.Coords) (c0_i32_530 : BitVec 32) : Fin 2 → Nat :=
  let arg1 : BitVec 32 := BitVec.ofNat 32 (i 1).val
  let c16_i32_529 : BitVec 32 := 16#32
  let v4815 : BitVec 32 := Scalar.muli arg1 c16_i32_529
  let v4816 : BitVec 32 := Scalar.addi v4815 c0_i32_530
  let v4817 : Index := Scalar.indexCast v4816
  let c0_531 : Index := 0#32
  ![v4817.toNat, 0]
def k0_mult145 (i : grid0.Coords) : BitVec 32 :=
  let arg1 : BitVec 32 := BitVec.ofNat 32 (i 1).val
  let c16_i32_1872 : BitVec 32 := 16#32
  let v11321 : BitVec 32 := Scalar.muli arg1 c16_i32_1872
  let c0_i32_1873 : BitVec 32 := 0#32
  let v11322 : BitVec 32 := Scalar.addi v11321 c0_i32_1873
  let c8_i32_1874 : BitVec 32 := 8#32
  let v11323 : BitVec 32 := Scalar.muli v11322 c8_i32_1874
  v11323
def k0_off12 (i : grid0.Coords) (c0_i32_1873 : BitVec 32) : Fin 3 → Nat :=
  let arg0 : BitVec 32 := BitVec.ofNat 32 (i 0).val
  let c2_i32_580 : BitVec 32 := 2#32
  let c0_i32_581 : BitVec 32 := 0#32
  let v7738 : BitVec 1 := Scalar.cmpi .eq c2_i32_580 c0_i32_581
  let c1_i32_582 : BitVec 32 := 1#32
  let v7739 : BitVec 32 := Scalar.select v7738 c1_i32_582 c2_i32_580
  let v7740 : BitVec 32 := Scalar.remsi arg0 v7739
  let c0_i32_584 : BitVec 32 := 0#32
  let v7742 : BitVec 1 := Scalar.cmpi .slt v7740 c0_i32_584
  let c0_i32_585 : BitVec 32 := 0#32
  let v7743 : BitVec 1 := Scalar.cmpi .slt v7739 c0_i32_585
  let v7744 : BitVec 1 := Scalar.xori v7742 v7743
  let c0_i32_583 : BitVec 32 := 0#32
  let v7741 : BitVec 1 := Scalar.cmpi .ne v7740 c0_i32_583
  let v7745 : BitVec 1 := Scalar.andi v7744 v7741
  let v7746 : BitVec 32 := Scalar.addi v7740 v7739
  let v7747 : BitVec 32 := Scalar.select v7745 v7746 v7740
  let v11325 : Index := Scalar.indexCast v7747
  let arg1 : BitVec 32 := BitVec.ofNat 32 (i 1).val
  let c16_i32_1872 : BitVec 32 := 16#32
  let v11321 : BitVec 32 := Scalar.muli arg1 c16_i32_1872
  let v11322 : BitVec 32 := Scalar.addi v11321 c0_i32_1873
  let c8_i32_1874 : BitVec 32 := 8#32
  let v11323 : BitVec 32 := Scalar.muli v11322 c8_i32_1874
  let v11324 : BitVec 32 := v11323
  let v11326 : Index := Scalar.indexCast v11324
  let c0_1875 : Index := 0#32
  ![v11325.toNat, v11326.toNat, 0]
def k0_mult146 (i : grid0.Coords) : BitVec 32 :=
  let arg1 : BitVec 32 := BitVec.ofNat 32 (i 1).val
  let c16_i32_1878 : BitVec 32 := 16#32
  let v11341 : BitVec 32 := Scalar.muli arg1 c16_i32_1878
  let c1_i32_1879 : BitVec 32 := 1#32
  let v11342 : BitVec 32 := Scalar.addi v11341 c1_i32_1879
  let c8_i32_1880 : BitVec 32 := 8#32
  let v11343 : BitVec 32 := Scalar.muli v11342 c8_i32_1880
  v11343
def k0_mult147 (i : grid0.Coords) : BitVec 32 :=
  let arg1 : BitVec 32 := BitVec.ofNat 32 (i 1).val
  let c16_i32_1884 : BitVec 32 := 16#32
  let v11361 : BitVec 32 := Scalar.muli arg1 c16_i32_1884
  let c2_i32_1885 : BitVec 32 := 2#32
  let v11362 : BitVec 32 := Scalar.addi v11361 c2_i32_1885
  let c8_i32_1886 : BitVec 32 := 8#32
  let v11363 : BitVec 32 := Scalar.muli v11362 c8_i32_1886
  v11363
def k0_mult148 (i : grid0.Coords) : BitVec 32 :=
  let arg1 : BitVec 32 := BitVec.ofNat 32 (i 1).val
  let c16_i32_1890 : BitVec 32 := 16#32
  let v11381 : BitVec 32 := Scalar.muli arg1 c16_i32_1890
  let c3_i32_1891 : BitVec 32 := 3#32
  let v11382 : BitVec 32 := Scalar.addi v11381 c3_i32_1891
  let c8_i32_1892 : BitVec 32 := 8#32
  let v11383 : BitVec 32 := Scalar.muli v11382 c8_i32_1892
  v11383
def k0_mult149 (i : grid0.Coords) : BitVec 32 :=
  let arg1 : BitVec 32 := BitVec.ofNat 32 (i 1).val
  let c16_i32_1896 : BitVec 32 := 16#32
  let v11401 : BitVec 32 := Scalar.muli arg1 c16_i32_1896
  let c4_i32_1897 : BitVec 32 := 4#32
  let v11402 : BitVec 32 := Scalar.addi v11401 c4_i32_1897
  let c8_i32_1898 : BitVec 32 := 8#32
  let v11403 : BitVec 32 := Scalar.muli v11402 c8_i32_1898
  v11403
def k0_mult150 (i : grid0.Coords) : BitVec 32 :=
  let arg1 : BitVec 32 := BitVec.ofNat 32 (i 1).val
  let c16_i32_1902 : BitVec 32 := 16#32
  let v11421 : BitVec 32 := Scalar.muli arg1 c16_i32_1902
  let c5_i32_1903 : BitVec 32 := 5#32
  let v11422 : BitVec 32 := Scalar.addi v11421 c5_i32_1903
  let c8_i32_1904 : BitVec 32 := 8#32
  let v11423 : BitVec 32 := Scalar.muli v11422 c8_i32_1904
  v11423
def k0_mult151 (i : grid0.Coords) : BitVec 32 :=
  let arg1 : BitVec 32 := BitVec.ofNat 32 (i 1).val
  let c16_i32_1908 : BitVec 32 := 16#32
  let v11441 : BitVec 32 := Scalar.muli arg1 c16_i32_1908
  let c6_i32_1909 : BitVec 32 := 6#32
  let v11442 : BitVec 32 := Scalar.addi v11441 c6_i32_1909
  let c8_i32_1910 : BitVec 32 := 8#32
  let v11443 : BitVec 32 := Scalar.muli v11442 c8_i32_1910
  v11443
def k0_mult152 (i : grid0.Coords) : BitVec 32 :=
  let arg1 : BitVec 32 := BitVec.ofNat 32 (i 1).val
  let c16_i32_1914 : BitVec 32 := 16#32
  let v11461 : BitVec 32 := Scalar.muli arg1 c16_i32_1914
  let c7_i32_1915 : BitVec 32 := 7#32
  let v11462 : BitVec 32 := Scalar.addi v11461 c7_i32_1915
  let c8_i32_1916 : BitVec 32 := 8#32
  let v11463 : BitVec 32 := Scalar.muli v11462 c8_i32_1916
  v11463
def k0_mult153 (i : grid0.Coords) : BitVec 32 :=
  let arg1 : BitVec 32 := BitVec.ofNat 32 (i 1).val
  let c16_i32_1920 : BitVec 32 := 16#32
  let v11481 : BitVec 32 := Scalar.muli arg1 c16_i32_1920
  let c8_i32_1921 : BitVec 32 := 8#32
  let v11482 : BitVec 32 := Scalar.addi v11481 c8_i32_1921
  let c8_i32_1922 : BitVec 32 := 8#32
  let v11483 : BitVec 32 := Scalar.muli v11482 c8_i32_1922
  v11483
def k0_mult154 (i : grid0.Coords) : BitVec 32 :=
  let arg1 : BitVec 32 := BitVec.ofNat 32 (i 1).val
  let c16_i32_1926 : BitVec 32 := 16#32
  let v11501 : BitVec 32 := Scalar.muli arg1 c16_i32_1926
  let c9_i32_1927 : BitVec 32 := 9#32
  let v11502 : BitVec 32 := Scalar.addi v11501 c9_i32_1927
  let c8_i32_1928 : BitVec 32 := 8#32
  let v11503 : BitVec 32 := Scalar.muli v11502 c8_i32_1928
  v11503
def k0_mult155 (i : grid0.Coords) : BitVec 32 :=
  let arg1 : BitVec 32 := BitVec.ofNat 32 (i 1).val
  let c16_i32_1932 : BitVec 32 := 16#32
  let v11521 : BitVec 32 := Scalar.muli arg1 c16_i32_1932
  let c10_i32_1933 : BitVec 32 := 10#32
  let v11522 : BitVec 32 := Scalar.addi v11521 c10_i32_1933
  let c8_i32_1934 : BitVec 32 := 8#32
  let v11523 : BitVec 32 := Scalar.muli v11522 c8_i32_1934
  v11523
def k0_mult156 (i : grid0.Coords) : BitVec 32 :=
  let arg1 : BitVec 32 := BitVec.ofNat 32 (i 1).val
  let c16_i32_1938 : BitVec 32 := 16#32
  let v11541 : BitVec 32 := Scalar.muli arg1 c16_i32_1938
  let c11_i32_1939 : BitVec 32 := 11#32
  let v11542 : BitVec 32 := Scalar.addi v11541 c11_i32_1939
  let c8_i32_1940 : BitVec 32 := 8#32
  let v11543 : BitVec 32 := Scalar.muli v11542 c8_i32_1940
  v11543
def k0_mult157 (i : grid0.Coords) : BitVec 32 :=
  let arg1 : BitVec 32 := BitVec.ofNat 32 (i 1).val
  let c16_i32_1944 : BitVec 32 := 16#32
  let v11561 : BitVec 32 := Scalar.muli arg1 c16_i32_1944
  let c12_i32_1945 : BitVec 32 := 12#32
  let v11562 : BitVec 32 := Scalar.addi v11561 c12_i32_1945
  let c8_i32_1946 : BitVec 32 := 8#32
  let v11563 : BitVec 32 := Scalar.muli v11562 c8_i32_1946
  v11563
def k0_mult158 (i : grid0.Coords) : BitVec 32 :=
  let arg1 : BitVec 32 := BitVec.ofNat 32 (i 1).val
  let c16_i32_1950 : BitVec 32 := 16#32
  let v11581 : BitVec 32 := Scalar.muli arg1 c16_i32_1950
  let c13_i32_1951 : BitVec 32 := 13#32
  let v11582 : BitVec 32 := Scalar.addi v11581 c13_i32_1951
  let c8_i32_1952 : BitVec 32 := 8#32
  let v11583 : BitVec 32 := Scalar.muli v11582 c8_i32_1952
  v11583
def k0_mult159 (i : grid0.Coords) : BitVec 32 :=
  let arg1 : BitVec 32 := BitVec.ofNat 32 (i 1).val
  let c16_i32_1956 : BitVec 32 := 16#32
  let v11601 : BitVec 32 := Scalar.muli arg1 c16_i32_1956
  let c14_i32_1957 : BitVec 32 := 14#32
  let v11602 : BitVec 32 := Scalar.addi v11601 c14_i32_1957
  let c8_i32_1958 : BitVec 32 := 8#32
  let v11603 : BitVec 32 := Scalar.muli v11602 c8_i32_1958
  v11603
def k0_mult160 (i : grid0.Coords) : BitVec 32 :=
  let arg1 : BitVec 32 := BitVec.ofNat 32 (i 1).val
  let c16_i32_1962 : BitVec 32 := 16#32
  let v11621 : BitVec 32 := Scalar.muli arg1 c16_i32_1962
  let c15_i32_1963 : BitVec 32 := 15#32
  let v11622 : BitVec 32 := Scalar.addi v11621 c15_i32_1963
  let c8_i32_1964 : BitVec 32 := 8#32
  let v11623 : BitVec 32 := Scalar.muli v11622 c8_i32_1964
  v11623
def k0_cond4 (i : grid0.Coords) : BitVec 1 :=
  let arg1 : BitVec 32 := BitVec.ofNat 32 (i 1).val
  let c7_i32_1975 : BitVec 32 := 7#32
  let v11648 : BitVec 1 := Scalar.cmpi .eq arg1 c7_i32_1975
  let v11649 : BitVec 32 := Scalar.extui v11648
  let c0_i32_1976 : BitVec 32 := 0#32
  let v11650 : BitVec 1 := Scalar.cmpi .ne v11649 c0_i32_1976
  v11650

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![v0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![c0_i32_1.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1088x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Kernel2.lean ====
abbrev S4x4096x4x192 : Shape := ⟨4, ![4, 4096, 4, 192]⟩
abbrev S4x4096x4x128 : Shape := ⟨4, ![4, 4096, 4, 128]⟩
abbrev S16384x1024 : Shape := ⟨2, ![16384, 1024]⟩
abbrev S_ : Shape := ⟨0, ![]⟩
abbrev S4x4x4096x192 : Shape := ⟨4, ![4, 4, 4096, 192]⟩
abbrev S4x4x4096x256 : Shape := ⟨4, ![4, 4, 4096, 256]⟩
abbrev S4x4x4096x128 : Shape := ⟨4, ![4, 4, 4096, 128]⟩
abbrev S4x4096x512 : Shape := ⟨3, ![4, 4096, 512]⟩
abbrev S1024x16384 : Shape := ⟨2, ![1024, 16384]⟩
abbrev S1x1x1024x256 : Shape := ⟨4, ![1, 1, 1024, 256]⟩
abbrev S1x1x4096x256 : Shape := ⟨4, ![1, 1, 4096, 256]⟩
abbrev S1x1x4096x128 : Shape := ⟨4, ![1, 1, 4096, 128]⟩
abbrev S256x1024 : Shape := ⟨2, ![256, 1024]⟩
abbrev S1x1024x128 : Shape := ⟨3, ![1, 1024, 128]⟩
abbrev S1024x256 : Shape := ⟨2, ![1024, 256]⟩
abbrev S16x1024x256 : Shape := ⟨3, ![16, 1024, 256]⟩
abbrev S256x128 : Shape := ⟨2, ![256, 128]⟩
abbrev S1024x128 : Shape := ⟨2, ![1024, 128]⟩
abbrev S1x1x256x256 : Shape := ⟨4, ![1, 1, 256, 256]⟩
abbrev S256x256 : Shape := ⟨2, ![256, 256]⟩
abbrev S1x1024x256 : Shape := ⟨3, ![1, 1024, 256]⟩
abbrev S1024 : Shape := ⟨1, ![1024]⟩
abbrev S1024x1 : Shape := ⟨2, ![1024, 1]⟩
abbrev S1x1x256x128 : Shape := ⟨4, ![1, 1, 256, 128]⟩

abbrev nBuf : Space → Nat
  | .hbm => 29
  | .vmem => 17
  | .smem => 0
  | _ => 0

abbrev bufTy : (tb : Table) → Fin (tcTables nBuf tb) → BufTy
  | .hbm, ⟨0, _⟩ => ⟨S4x4096x4x192, .f32⟩
  | .hbm, ⟨1, _⟩ => ⟨S4x4096x4x192, .f32⟩
  | .hbm, ⟨2, _⟩ => ⟨S4x4096x4x128, .f32⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4x4096x4x192, .f32⟩
  | .hbm, ⟨13, _⟩ => ⟨S4x4096x4x192, .f32⟩
  | .hbm, ⟨14, _⟩ => ⟨S4x4x4096x192, .f32⟩
  | .hbm, ⟨15, _⟩ => ⟨S_, .i32⟩
  | .hbm, ⟨16, _⟩ => ⟨S_, .f32⟩
  | .hbm, ⟨17, _⟩ => ⟨S4x4x4096x256, .f32⟩
  | .hbm, ⟨18, _⟩ => ⟨S4x4x4096x256, .bf16⟩
  | .hbm, ⟨19, _⟩ => ⟨S4x4x4096x192, .f32⟩
  | .hbm, ⟨20, _⟩ => ⟨S_, .i32⟩
  | .hbm, ⟨21, _⟩ => ⟨S_, .f32⟩
  | .hbm, ⟨22, _⟩ => ⟨S4x4x4096x256, .f32⟩
  | .hbm, ⟨23, _⟩ => ⟨S4x4x4096x256, .bf16⟩
  | .hbm, ⟨24, _⟩ => ⟨S4x4x4096x128, .f32⟩
  | .hbm, ⟨25, _⟩ => ⟨S4x4x4096x128, .bf16⟩
  | .hbm, ⟨26, _⟩ => ⟨S4x4096x512, .bf16⟩
  | .hbm, ⟨27, _⟩ => ⟨S1024x16384, .bf16⟩
  | .hbm, ⟨28, _⟩ => ⟨S16384x1024, .bf16⟩
  | .local _ .vmem, ⟨0, _⟩ => ⟨S1x1x1024x256, .bf16⟩
  | .local _ .vmem, ⟨1, _⟩ => ⟨S1x1x1024x256, .bf16⟩
  | .local _ .vmem, ⟨2, _⟩ => ⟨S1x1x4096x256, .bf16⟩
  | .local _ .vmem, ⟨3, _⟩ => ⟨S1x1x4096x256, .bf16⟩
  | .local _ .vmem, ⟨4, _⟩ => ⟨S1x1x4096x128, .bf16⟩
  | .local _ .vmem, ⟨5, _⟩ => ⟨S1x1x4096x128, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024x128, .bf16⟩
  | .local _ .vmem, ⟨11, _⟩ => ⟨S1x1024x128, .bf16⟩
  | .local _ .vmem, ⟨12, _⟩ => ⟨S1024x256, .bf16⟩
  | .local _ .vmem, ⟨13, _⟩ => ⟨S1024x256, .bf16⟩
  | .local _ .vmem, ⟨14, _⟩ => ⟨S256x1024, .bf16⟩
  | .local _ .vmem, ⟨15, _⟩ => ⟨S256x1024, .bf16⟩
  | .local _ .vmem, ⟨16, _⟩ => ⟨S16x1024x256, .f32⟩
  | _, _ => ⟨S4x4096x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_call1_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14_0 : Ref sig .tc := ⟨.hbm, 26, rfl⟩
abbrev main_v14_1 : Ref sig .tc := ⟨.hbm, 27, rfl⟩
abbrev main_v14_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 4, 4], ![false, false, false]⟩

@[reducible] def k0_t1_loop : Scf.Loop 32 :=
  let c0_i32 : BitVec 32 := 0#32
  let c16_i32 : BitVec 32 := 16#32
  let v4 : BitVec 32 := Scalar.addi c0_i32 c16_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32 : BitVec 32 := 256#32
  let v25 : BitVec 32 := Scalar.muli arg12 c256_i32
  v25
def k0_off1 (k0_t1 : Fin k0_t1_loop.trips) : Fin 4 → Nat :=
  let c0_22 : Index := 0#32
  let c0_23 : Index := 0#32
  let c0_i32 : BitVec 32 := 0#32
  let c1_i32 : BitVec 32 := 1#32
  let arg12 : BitVec 32 := Scf.iv c0_i32 c1_i32 k0_t1
  let c256_i32 : BitVec 32 := 256#32
  let v25 : BitVec 32 := Scalar.muli arg12 c256_i32
  let v26 : BitVec 32 := v25
  let v27 : Index := Scalar.indexCast v26
  let c0_24 : Index := 0#32
  ![0, 0, v27.toNat, 0]
def k0_off2 (k0_t1 : Fin k0_t1_loop.trips) : Fin 3 → Nat :=
  let c0_i32 : BitVec 32 := 0#32
  let c1_i32 : BitVec 32 := 1#32
  let arg12 : BitVec 32 := Scf.iv c0_i32 c1_i32 k0_t1
  let v31 : Index := Scalar.indexCast arg12
  let c0_26 : Index := 0#32
  let c0_27 : Index := 0#32
  ![v31.toNat, 0, 0]
@[reducible] def k0_t2_loop : Scf.Loop 32 :=
  let c0_i32_7 : BitVec 32 := 0#32
  let c16_i32_8 : BitVec 32 := 16#32
  let v9 : BitVec 32 := Scalar.addi c0_i32_7 c16_i32_8
  let c1_i32_9 : BitVec 32 := 1#32
  ⟨c0_i32_7, v9, c1_i32_9⟩
def k0_off3 (k0_t2 : Fin k0_t2_loop.trips) : Fin 3 → Nat :=
  let c0_i32_7 : BitVec 32 := 0#32
  let c1_i32_9 : BitVec 32 := 1#32
  let arg12 : BitVec 32 := Scf.iv c0_i32_7 c1_i32_9 k0_t2
  let v25 : Index := Scalar.indexCast arg12
  let c0_22 : Index := 0#32
  let c0_23 : Index := 0#32
  ![v25.toNat, 0, 0]
def k0_mult2 (k0_t2 : Fin k0_t2_loop.trips) : BitVec 32 :=
  let c0_i32_7 : BitVec 32 := 0#32
  let c1_i32_9 : BitVec 32 := 1#32
  let arg12 : BitVec 32 := Scf.iv c0_i32_7 c1_i32_9 k0_t2
  let c256_i32 : BitVec 32 := 256#32
  let v32 : BitVec 32 := Scalar.muli arg12 c256_i32
  v32
def k0_off4 (k0_t2 : Fin k0_t2_loop.trips) : Fin 4 → Nat :=
  let c0_24 : Index := 0#32
  let c0_25 : Index := 0#32
  let c0_i32_7 : BitVec 32 := 0#32
  let c1_i32_9 : BitVec 32 := 1#32
  let arg12 : BitVec 32 := Scf.iv c0_i32_7 c1_i32_9 k0_t2
  let c256_i32 : BitVec 32 := 256#32
  let v32 : BitVec 32 := Scalar.muli arg12 c256_i32
  let v33 : BitVec 32 := v32
  let v34 : Index := Scalar.indexCast v33
  let c0_26 : Index := 0#32
  ![0, 0, v34.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c0_i32 : BitVec 32 := 0#32
  let c0_i32_1 : BitVec 32 := 0#32
  ![v3.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c0_i32 : BitVec 32 := 0#32
  let c0_i32_1 : BitVec 32 := 0#32
  ![v3.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c0_i32 : BitVec 32 := 0#32
  let c0_i32_1 : BitVec 32 := 0#32
  ![c0_i32.toNat, v3.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c0_i32 : BitVec 32 := 0#32
  let c0_i32_1 : BitVec 32 := 0#32
  ![v3.toNat, c0_i32.toNat]

abbrev stage0_0 : Fin 2 → Memref sig .tc .vmem S1x1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference2Ideal.lean ====
abbrev S4x4096x4x192 : Shape := ⟨4, ![4, 4096, 4, 192]⟩
abbrev S4x4096x4x128 : Shape := ⟨4, ![4, 4096, 4, 128]⟩
abbrev S16384x1024 : Shape := ⟨2, ![16384, 1024]⟩
abbrev S4x4x4096x4096 : Shape := ⟨4, ![4, 4, 4096, 4096]⟩
abbrev S_ : Shape := ⟨0, ![]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩
abbrev S4x4096x512 : Shape := ⟨3, ![4, 4096, 512]⟩
abbrev S1024x16384 : Shape := ⟨2, ![1024, 16384]⟩

abbrev nBuf : Space → Nat
  | .hbm => 31
  | .vmem => 0
  | .smem => 0
  | _ => 0

abbrev bufTy : (tb : Table) → Fin (tcTables nBuf tb) → BufTy
  | .hbm, ⟨0, _⟩ => ⟨S4x4096x4x192, .f32⟩
  | .hbm, ⟨1, _⟩ => ⟨S4x4096x4x192, .f32⟩
  | .hbm, ⟨2, _⟩ => ⟨S4x4096x4x128, .f32⟩
  | .hbm, ⟨3, _⟩ => ⟨S16384x1024, .f32⟩
  | .hbm, ⟨4, _⟩ => ⟨S16384x1024, .f32⟩
  | .hbm, ⟨5, _⟩ => ⟨S4x4x4096x4096, .f32⟩
  | .hbm, ⟨6, _⟩ => ⟨S_, .f32⟩
  | .hbm, ⟨7, _⟩ => ⟨S_, .f32⟩
  | .hbm, ⟨8, _⟩ => ⟨S4x4x4096x4096, .f32⟩
  | .hbm, ⟨9, _⟩ => ⟨S4x4x4096x4096, .f32⟩
  | .hbm, ⟨10, _⟩ => ⟨S_, .f32⟩
  | .hbm, ⟨11, _⟩ => ⟨S4x4x4096, .f32⟩
  | .hbm, ⟨12, _⟩ => ⟨S_, .f32⟩
  | .hbm, ⟨13, _⟩ => ⟨S4x4x4096, .f32⟩
  | .hbm, ⟨14, _⟩ => ⟨S4x4x4096, .f32⟩
  | .hbm, ⟨15, _⟩ => ⟨S4x4x4096x1, .f32⟩
  | .hbm, ⟨16, _⟩ => ⟨S4x4x4096x4096, .f32⟩
  | .hbm, ⟨17, _⟩ => ⟨S4x4x4096x4096, .f32⟩
  | .hbm, ⟨18, _⟩ => ⟨S4x4x4096x4096, .f32⟩
  | .hbm, ⟨19, _⟩ => ⟨S_, .f32⟩
  | .hbm, ⟨20, _⟩ => ⟨S4x4x4096, .f32⟩
  | .hbm, ⟨21, _⟩ => ⟨S4x4x4096x1, .f32⟩
  | .hbm, ⟨22, _⟩ => ⟨S4x4x4096x4096, .f32⟩
  | .hbm, ⟨23, _⟩ => ⟨S4x4x4096x4096, .f32⟩
  | .hbm, ⟨24, _⟩ => ⟨S4x4x128x4096, .f32⟩
  | .hbm, ⟨25, _⟩ => ⟨S4x4096x4x128, .f32⟩
  | .hbm, ⟨26, _⟩ => ⟨S4x4096x512, .f32⟩
  | .hbm, ⟨27, _⟩ => ⟨S4x4096x512, .bf16⟩
  | .hbm, ⟨28, _⟩ => ⟨S1024x16384, .f32⟩
  | .hbm, ⟨29, _⟩ => ⟨S1024x16384, .bf16⟩
  | .hbm, ⟨30, _⟩ => ⟨S16384x1024, .bf16⟩
  | _, _ => ⟨S4x4096x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel3.lean ====
abbrev S4x4096x512 : Shape := ⟨3, ![4, 4096, 512]⟩
abbrev S4x4096x1024 : Shape := ⟨3, ![4, 4096, 1024]⟩
abbrev S4x6144 : Shape := ⟨2, ![4, 6144]⟩
abbrev S512 : Shape := ⟨1, ![512]⟩
abbrev S1024x1024 : Shape := ⟨2, ![1024, 1024]⟩
abbrev S1024 : Shape := ⟨1, ![1024]⟩
abbrev S1024x2048 : Shape := ⟨2, ![1024, 2048]⟩
abbrev S8x2x128x128 : Shape := ⟨4, ![8, 2, 128, 128]⟩
abbrev S16x128x128 : Shape := ⟨3, ![16, 128, 128]⟩
abbrev S16384x512 : Shape := ⟨2, ![16384, 512]⟩
abbrev S16384x1024 : Shape := ⟨2, ![16384, 1024]⟩
abbrev S4x6x1024 : Shape := ⟨3, ![4, 6, 1024]⟩
abbrev S1x512 : Shape := ⟨2, ![1, 512]⟩
abbrev S1x1024 : Shape := ⟨2, ![1, 1024]⟩
abbrev S32x8x1088x128 : Shape := ⟨4, ![32, 8, 1088, 128]⟩
abbrev S512x512 : Shape := ⟨2, ![512, 512]⟩
abbrev S512x1024 : Shape := ⟨2, ![512, 1024]⟩
abbrev S1x6x1024 : Shape := ⟨3, ![1, 6, 1024]⟩
abbrev S1x8x1088x128 : Shape := ⟨4, ![1, 8, 1088, 128]⟩
abbrev S1x1x1024 : Shape := ⟨3, ![1, 1, 1024]⟩
abbrev S512x1 : Shape := ⟨2, ![512, 1]⟩
abbrev S512x2048 : Shape := ⟨2, ![512, 2048]⟩
abbrev S8x128 : Shape := ⟨2, ![8, 128]⟩
abbrev S1x128x128 : Shape := ⟨3, ![1, 128, 128]⟩
abbrev S128x128 : Shape := ⟨2, ![128, 128]⟩
abbrev S512x128 : Shape := ⟨2, ![512, 128]⟩
abbrev S128x512 : Shape := ⟨2, ![128, 512]⟩
abbrev S1x1x128x128 : Shape := ⟨4, ![1, 1, 128, 128]⟩
abbrev S1x1x8x128 : Shape := ⟨4, ![1, 1, 8, 128]⟩

abbrev nBuf : Space → Nat
  | .hbm => 24
  | .vmem => 19
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x1024, .f32⟩
  | .hbm, ⟨3, _⟩ => ⟨S4x6144, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1024x2048, .f32⟩
  | .hbm, ⟨8, _⟩ => ⟨S8x2x128x128, .f32⟩
  | .hbm, ⟨9, _⟩ => ⟨S16x128x128, .f32⟩
  | .hbm, ⟨10, _⟩ => ⟨S16x128x128, .bf16⟩
  | .hbm, ⟨11, _⟩ => ⟨S16384x512, .f32⟩
  | .hbm, ⟨12, _⟩ => ⟨S16384x512, .bf16⟩
  | .hbm, ⟨13, _⟩ => ⟨S16384x512, .f32⟩
  | .hbm, ⟨14, _⟩ => ⟨S16384x512, .bf16⟩
  | .hbm, ⟨15, _⟩ => ⟨S16384x1024, .f32⟩
  | .hbm, ⟨16, _⟩ => ⟨S4x6x1024, .f32⟩
  | .hbm, ⟨17, _⟩ => ⟨S1x512, .f32⟩
  | .hbm, ⟨18, _⟩ => ⟨S1024x1024, .bf16⟩
  | .hbm, ⟨19, _⟩ => ⟨S1x1024, .f32⟩
  | .hbm, ⟨20, _⟩ => ⟨S1024x2048, .bf16⟩
  | .hbm, ⟨21, _⟩ => ⟨S16384x1024, .f32⟩
  | .hbm, ⟨22, _⟩ => ⟨S16384x1024, .bf16⟩
  | .hbm, ⟨23, _⟩ => ⟨S32x8x1088x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x512, .f32⟩
  | .local _ .vmem, ⟨9, _⟩ => ⟨S1024x1024, .bf16⟩
  | .local _ .vmem, ⟨10, _⟩ => ⟨S1x1024, .f32⟩
  | .local _ .vmem, ⟨11, _⟩ => ⟨S1024x2048, .bf16⟩
  | .local _ .vmem, ⟨12, _⟩ => ⟨S16x128x128, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x8x1088x128, .f32⟩
  | .local _ .vmem, ⟨18, _⟩ => ⟨S1x8x1088x128, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x1088x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S4x4096x512 : Shape := ⟨3, ![4, 4096, 512]⟩
abbrev S4x4096x1024 : Shape := ⟨3, ![4, 4096, 1024]⟩
abbrev S4x6144 : Shape := ⟨2, ![4, 6144]⟩
abbrev S512 : Shape := ⟨1, ![512]⟩
abbrev S1024x1024 : Shape := ⟨2, ![1024, 1024]⟩
abbrev S1024 : Shape := ⟨1, ![1024]⟩
abbrev S1024x2048 : Shape := ⟨2, ![1024, 2048]⟩
abbrev S8x2x128x128 : Shape := ⟨4, ![8, 2, 128, 128]⟩
abbrev S4x1024 : Shape := ⟨2, ![4, 1024]⟩
abbrev S_ : Shape := ⟨0, ![]⟩
abbrev S4x4096 : Shape := ⟨2, ![4, 4096]⟩
abbrev S4x4096x1 : Shape := ⟨3, ![4, 4096, 1]⟩
abbrev S1x1x512 : Shape := ⟨3, ![1, 1, 512]⟩
abbrev S4x1x1024 : Shape := ⟨3, ![4, 1, 1024]⟩
abbrev S1x1x1024 : Shape := ⟨3, ![1, 1, 1024]⟩
abbrev S16384x1024 : Shape := ⟨2, ![16384, 1024]⟩
abbrev S16384x2048 : Shape := ⟨2, ![16384, 2048]⟩
abbrev S16384x8x2x128 : Shape := ⟨4, ![16384, 8, 2, 128]⟩
abbrev S16384x8x1x128 : Shape := ⟨4, ![16384, 8, 1, 128]⟩
abbrev S16384x8x128 : Shape := ⟨3, ![16384, 8, 128]⟩
abbrev S8x1x128x128 : Shape := ⟨4, ![8, 1, 128, 128]⟩
abbrev S8x128x128 : Shape := ⟨3, ![8, 128, 128]⟩
abbrev S8x128x16384 : Shape := ⟨3, ![8, 128, 16384]⟩
abbrev S32x4x128x8x2x128 : Shape := ⟨6, ![32, 4, 128, 8, 2, 128]⟩
abbrev S32x8x2x4x128x128 : Shape := ⟨6, ![32, 8, 2, 4, 128, 128]⟩
abbrev S32x8x2x4x136x128 : Shape := ⟨6, ![32, 8, 2, 4, 136, 128]⟩
abbrev S32x8x1088x128 : Shape := ⟨4, ![32, 8, 1088, 128]⟩

abbrev nBuf : Space → Nat
  | .hbm => 88
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x1024, .f32⟩
  | .hbm, ⟨3, _⟩ => ⟨S4x6144, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1024x2048, .f32⟩
  | .hbm, ⟨8, _⟩ => ⟨S8x2x128x128, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S4x4096x512, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x1, .f32⟩
  | .hbm, ⟨26, _⟩ => ⟨S4x4096x512, .f32⟩
  | .hbm, ⟨27, _⟩ => ⟨S4x4096x512, .f32⟩
  | .hbm, ⟨28, _⟩ => ⟨S1x1x512, .f32⟩
  | .hbm, ⟨29, _⟩ => ⟨S4x4096x512, .f32⟩
  | .hbm, ⟨30, _⟩ => ⟨S4x4096x512, .f32⟩
  | .hbm, ⟨31, _⟩ => ⟨S4x4096x1024, .f32⟩
  | .hbm, ⟨32, _⟩ => ⟨S4x1x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S_, .f32⟩
  | .hbm, ⟨39, _⟩ => ⟨S4x4096, .f32⟩
  | .hbm, ⟨40, _⟩ => ⟨S4x4096x1, .f32⟩
  | .hbm, ⟨41, _⟩ => ⟨S_, .f32⟩
  | .hbm, ⟨42, _⟩ => ⟨S4x4096x1, .f32⟩
  | .hbm, ⟨43, _⟩ => ⟨S4x4096x1, .f32⟩
  | .hbm, ⟨44, _⟩ => ⟨S_, .f32⟩
  | .hbm, ⟨45, _⟩ => ⟨S4x4096x1, .f32⟩
  | .hbm, ⟨46, _⟩ => ⟨S4x4096x1, .f32⟩
  | .hbm, ⟨47, _⟩ => ⟨S4x4096x1, .f32⟩
  | .hbm, ⟨48, _⟩ => ⟨S4x4096x1024, .f32⟩
  | .hbm, ⟨49, _⟩ => ⟨S4x4096x1024, .f32⟩
  | .hbm, ⟨50, _⟩ => ⟨S1x1x1024, .f32⟩
  | .hbm, ⟨51, _⟩ => ⟨S4x4096x1024, .f32⟩
  | .hbm, ⟨52, _⟩ => ⟨S4x4096x1024, .f32⟩
  | .hbm, ⟨53, _⟩ => ⟨S4x1x1024, .f32⟩
  | .hbm, ⟨54, _⟩ => ⟨S_, .f32⟩
  | .hbm, ⟨55, _⟩ => ⟨S4x1x1024, .f32⟩
  | .hbm, ⟨56, _⟩ => ⟨S4x1x1024, .f32⟩
  | .hbm, ⟨57, _⟩ => ⟨S4x4096x1024, .f32⟩
  | .hbm, ⟨58, _⟩ => ⟨S4x4096x1024, .f32⟩
  | .hbm, ⟨59, _⟩ => ⟨S4x1x1024, .f32⟩
  | .hbm, ⟨60, _⟩ => ⟨S4x4096x1024, .f32⟩
  | .hbm, ⟨61, _⟩ => ⟨S4x4096x1024, .f32⟩
  | .hbm, ⟨62, _⟩ => ⟨S16384x1024, .f32⟩
  | .hbm, ⟨63, _⟩ => ⟨S16384x2048, .f32⟩
  | .hbm, ⟨64, _⟩ => ⟨S16384x8x2x128, .f32⟩
  | .hbm, ⟨65, _⟩ => ⟨S16384x8x1x128, .f32⟩
  | .hbm, ⟨66, _⟩ => ⟨S16384x8x128, .f32⟩
  | .hbm, ⟨67, _⟩ => ⟨S8x1x128x128, .f32⟩
  | .hbm, ⟨68, _⟩ => ⟨S8x128x128, .f32⟩
  | .hbm, ⟨69, _⟩ => ⟨S8x128x16384, .f32⟩
  | .hbm, ⟨70, _⟩ => ⟨S16384x8x128, .f32⟩
  | .hbm, ⟨71, _⟩ => ⟨S16384x8x1x128, .f32⟩
  | .hbm, ⟨72, _⟩ => ⟨S16384x8x128, .f32⟩
  | .hbm, ⟨73, _⟩ => ⟨S8x1x128x128, .f32⟩
  | .hbm, ⟨74, _⟩ => ⟨S8x128x128, .f32⟩
  | .hbm, ⟨75, _⟩ => ⟨S8x128x16384, .f32⟩
  | .hbm, ⟨76, _⟩ => ⟨S16384x8x128, .f32⟩
  | .hbm, ⟨77, _⟩ => ⟨S16384x8x1x128, .f32⟩
  | .hbm, ⟨78, _⟩ => ⟨S16384x8x1x128, .f32⟩
  | .hbm, ⟨79, _⟩ => ⟨S16384x8x2x128, .f32⟩
  | .hbm, ⟨80, _⟩ => ⟨S32x4x128x8x2x128, .f32⟩
  | .hbm, ⟨81, _⟩ => ⟨S32x8x2x4x128x128, .f32⟩
  | .hbm, ⟨82, _⟩ => ⟨S_, .i32⟩
  | .hbm, ⟨83, _⟩ => ⟨S_, .f32⟩
  | .hbm, ⟨84, _⟩ => ⟨S32x8x2x4x136x128, .f32⟩
  | .hbm, ⟨85, _⟩ => ⟨S32x8x1088x128, .f32⟩
  | .hbm, ⟨86, _⟩ => ⟨S16384x1024, .f32⟩
  | .hbm, ⟨87, _⟩ => ⟨S16384x1024, .bf16⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_c : Ref sig .tc := ⟨.hbm, 82, rfl⟩
abbrev main_call0_v0 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩

abbrev nD : Nat := 1
abbrev τ : Topo := Topo.v7x

variable {F : FTy → Type} [FloatOps F]
-- ==== Kernel4.lean ====
abbrev S4x4096x1024 : Shape := ⟨3, ![4, 4096, 1024]⟩
abbrev S4x4096 : Shape := ⟨2, ![4, 4096]⟩
abbrev S4x6144 : Shape := ⟨2, ![4, 6144]⟩
abbrev S1024 : Shape := ⟨1, ![1024]⟩
abbrev S1024x1472 : Shape := ⟨2, ![1024, 1472]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S512 : Shape := ⟨1, ![512]⟩
abbrev S4x128x128 : Shape := ⟨3, ![4, 128, 128]⟩
abbrev S4x128 : Shape := ⟨2, ![4, 128]⟩
abbrev S32 : Shape := ⟨1, ![32]⟩
abbrev S_ : Shape := ⟨0, ![]⟩
abbrev S64 : Shape := ⟨1, ![64]⟩
abbrev S1x64 : Shape := ⟨2, ![1, 64]⟩
abbrev S1x128 : Shape := ⟨2, ![1, 128]⟩
abbrev S1024x64 : Shape := ⟨2, ![1024, 64]⟩
abbrev S1024x384 : Shape := ⟨2, ![1024, 384]⟩
abbrev S1024x128 : Shape := ⟨2, ![1024, 128]⟩
abbrev S1024x32 : Shape := ⟨2, ![1024, 32]⟩
abbrev S1024x1024 : Shape := ⟨2, ![1024, 1024]⟩
abbrev S1024x1664 : Shape := ⟨2, ![1024, 1664]⟩
abbrev S256x4x192 : Shape := ⟨3, ![256, 4, 192]⟩
abbrev S256x4x128 : Shape := ⟨3, ![256, 4, 128]⟩
abbrev S256x512 : Shape := ⟨2, ![256, 512]⟩
abbrev S256x1x64 : Shape := ⟨3, ![256, 1, 64]⟩
abbrev S256x64 : Shape := ⟨2, ![256, 64]⟩
abbrev S256x128 : Shape := ⟨2, ![256, 128]⟩
abbrev S256x32 : Shape := ⟨2, ![256, 32]⟩
abbrev S256x1536 : Shape := ⟨2, ![256, 1536]⟩
abbrev S4x4096x1 : Shape := ⟨3, ![4, 4096, 1]⟩
abbrev S4x6x1024 : Shape := ⟨3, ![4, 6, 1024]⟩
abbrev S1x1024 : Shape := ⟨2, ![1, 1024]⟩
abbrev S1x256 : Shape := ⟨2, ![1, 256]⟩
abbrev S1x512 : Shape := ⟨2, ![1, 512]⟩
abbrev S4x128x1 : Shape := ⟨3, ![4, 128, 1]⟩
abbrev S4x4x4096x256 : Shape := ⟨4, ![4, 4, 4096, 256]⟩
abbrev S4x4x4096x128 : Shape := ⟨4, ![4, 4, 4096, 128]⟩
abbrev S4x4096x512 : Shape := ⟨3, ![4, 4096, 512]⟩
abbrev S1x512x1024 : Shape := ⟨3, ![1, 512, 1024]⟩
abbrev S1x512x1 : Shape := ⟨3, ![1, 512, 1]⟩
abbrev S1x6x1024 : Shape := ⟨3, ![1, 6, 1024]⟩
abbrev S1x4x512x256 : Shape := ⟨4, ![1, 4, 512, 256]⟩
abbrev S1x4x512x128 : Shape := ⟨4, ![1, 4, 512, 128]⟩
abbrev S1x512x512 : Shape := ⟨3, ![1, 512, 512]⟩
abbrev S512x1024 : Shape := ⟨2, ![512, 1024]⟩
abbrev S1x1x1024 : Shape := ⟨3, ![1, 1, 1024]⟩
abbrev S512x1 : Shape := ⟨2, ![512, 1]⟩
abbrev S512x1664 : Shape := ⟨2, ![512, 1664]⟩
abbrev S512x128 : Shape := ⟨2, ![512, 128]⟩
abbrev S512x256 : Shape := ⟨2, ![512, 256]⟩
abbrev S512x1536 : Shape := ⟨2, ![512, 1536]⟩
abbrev S1x1x512x128 : Shape := ⟨4, ![1, 1, 512, 128]⟩
abbrev S512x512 : Shape := ⟨2, ![512, 512]⟩
abbrev S1x128x128 : Shape := ⟨3, ![1, 128, 128]⟩
abbrev S128x128 : Shape := ⟨2, ![128, 128]⟩
abbrev S1x128x1 : Shape := ⟨3, ![1, 128, 1]⟩
abbrev S128x1 : Shape := ⟨2, ![128, 1]⟩
abbrev S128x512 : Shape := ⟨2, ![128, 512]⟩
abbrev S1x128x512 : Shape := ⟨3, ![1, 128, 512]⟩

abbrev nBuf : Space → Nat
  | .hbm => 116
  | .vmem => 25
  | .smem => 0
  | _ => 0

abbrev bufTy : (tb : Table) → Fin (tcTables nBuf tb) → BufTy
  | .hbm, ⟨0, _⟩ => ⟨S4x4096x1024, .f32⟩
  | .hbm, ⟨1, _⟩ => ⟨S4x4096, .i32⟩
  | .hbm, ⟨2, _⟩ => ⟨S4x6144, .f32⟩
  | .hbm, ⟨3, _⟩ => ⟨S1024, .f32⟩
  | .hbm, ⟨4, _⟩ => ⟨S1024x1472, .f32⟩
  | .hbm, ⟨5, _⟩ => ⟨S256, .f32⟩
  | .hbm, ⟨6, _⟩ => ⟨S256x768, .f32⟩
  | .hbm, ⟨7, _⟩ => ⟨S128, .f32⟩
  | .hbm, ⟨8, _⟩ => ⟨S128x1024, .f32⟩
  | .hbm, ⟨9, _⟩ => ⟨S512, .f32⟩
  | .hbm, ⟨10, _⟩ => ⟨S4x128x128, .f32⟩
  | .hbm, ⟨11, _⟩ => ⟨S4x128, .f32⟩
  | .hbm, ⟨12, _⟩ => ⟨S512, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S64, .f32⟩
  | .hbm, ⟨30, _⟩ => ⟨S1x64, .f32⟩
  | .hbm, ⟨31, _⟩ => ⟨S_, .i32⟩
  | .hbm, ⟨32, _⟩ => ⟨S_, .f32⟩
  | .hbm, ⟨33, _⟩ => ⟨S1x128, .f32⟩
  | .hbm, ⟨34, _⟩ => ⟨S1024x64, .f32⟩
  | .hbm, ⟨35, _⟩ => ⟨S1024x384, .f32⟩
  | .hbm, ⟨36, _⟩ => ⟨S_, .i32⟩
  | .hbm, ⟨37, _⟩ => ⟨S_, .f32⟩
  | .hbm, ⟨38, _⟩ => ⟨S1024x128, .f32⟩
  | .hbm, ⟨39, _⟩ => ⟨S1024x32, .f32⟩
  | .hbm, ⟨40, _⟩ => ⟨S1024x32, .f32⟩
  | .hbm, ⟨41, _⟩ => ⟨S1024x32, .f32⟩
  | .hbm, ⟨42, _⟩ => ⟨S1024x64, .f32⟩
  | .hbm, ⟨43, _⟩ => ⟨S_, .i32⟩
  | .hbm, ⟨44, _⟩ => ⟨S_, .f32⟩
  | .hbm, ⟨45, _⟩ => ⟨S1024x128, .f32⟩
  | .hbm, ⟨46, _⟩ => ⟨S1024x1024, .f32⟩
  | .hbm, ⟨47, _⟩ => ⟨S1024x1664, .f32⟩
  | .hbm, ⟨48, _⟩ => ⟨S1024x1664, .bf16⟩
  | .hbm, ⟨49, _⟩ => ⟨S256x4x192, .f32⟩
  | .hbm, ⟨50, _⟩ => ⟨S256x4x128, .f32⟩
  | .hbm, ⟨51, _⟩ => ⟨S256x512, .f32⟩
  | .hbm, ⟨52, _⟩ => ⟨S256x1x64, .f32⟩
  | .hbm, ⟨53, _⟩ => ⟨S256x64, .f32⟩
  | .hbm, ⟨54, _⟩ => ⟨S256x1x64, .f32⟩
  | .hbm, ⟨55, _⟩ => ⟨S256x64, .f32⟩
  | .hbm, ⟨56, _⟩ => ⟨S256x1x64, .f32⟩
  | .hbm, ⟨57, _⟩ => ⟨S256x64, .f32⟩
  | .hbm, ⟨58, _⟩ => ⟨S256x1x64, .f32⟩
  | .hbm, ⟨59, _⟩ => ⟨S256x64, .f32⟩
  | .hbm, ⟨60, _⟩ => ⟨S_, .i32⟩
  | .hbm, ⟨61, _⟩ => ⟨S_, .f32⟩
  | .hbm, ⟨62, _⟩ => ⟨S256x128, .f32⟩
  | .hbm, ⟨63, _⟩ => ⟨S_, .i32⟩
  | .hbm, ⟨64, _⟩ => ⟨S_, .f32⟩
  | .hbm, ⟨65, _⟩ => ⟨S256x128, .f32⟩
  | .hbm, ⟨66, _⟩ => ⟨S_, .i32⟩
  | .hbm, ⟨67, _⟩ => ⟨S_, .f32⟩
  | .hbm, ⟨68, _⟩ => ⟨S256x128, .f32⟩
  | .hbm, ⟨69, _⟩ => ⟨S_, .i32⟩
  | .hbm, ⟨70, _⟩ => ⟨S_, .f32⟩
  | .hbm, ⟨71, _⟩ => ⟨S256x128, .f32⟩
  | .hbm, ⟨72, _⟩ => ⟨S256x32, .f32⟩
  | .hbm, ⟨73, _⟩ => ⟨S256x32, .f32⟩
  | .hbm, ⟨74, _⟩ => ⟨S256x32, .f32⟩
  | .hbm, ⟨75, _⟩ => ⟨S256x64, .f32⟩
  | .hbm, ⟨76, _⟩ => ⟨S_, .i32⟩
  | .hbm, ⟨77, _⟩ => ⟨S_, .f32⟩
  | .hbm, ⟨78, _⟩ => ⟨S256x128, .f32⟩
  | .hbm, ⟨79, _⟩ => ⟨S256x32, .f32⟩
  | .hbm, ⟨80, _⟩ => ⟨S256x32, .f32⟩
  | .hbm, ⟨81, _⟩ => ⟨S256x32, .f32⟩
  | .hbm, ⟨82, _⟩ => ⟨S256x64, .f32⟩
  | .hbm, ⟨83, _⟩ => ⟨S_, .i32⟩
  | .hbm, ⟨84, _⟩ => ⟨S_, .f32⟩
  | .hbm, ⟨85, _⟩ => ⟨S256x128, .f32⟩
  | .hbm, ⟨86, _⟩ => ⟨S256x32, .f32⟩
  | .hbm, ⟨87, _⟩ => ⟨S256x32, .f32⟩
  | .hbm, ⟨88, _⟩ => ⟨S256x32, .f32⟩
  | .hbm, ⟨89, _⟩ => ⟨S256x64, .f32⟩
  | .hbm, ⟨90, _⟩ => ⟨S_, .i32⟩
  | .hbm, ⟨91, _⟩ => ⟨S_, .f32⟩
  | .hbm, ⟨92, _⟩ => ⟨S256x128, .f32⟩
  | .hbm, ⟨93, _⟩ => ⟨S256x32, .f32⟩
  | .hbm, ⟨94, _⟩ => ⟨S256x32, .f32⟩
  | .hbm, ⟨95, _⟩ => ⟨S256x32, .f32⟩
  | .hbm, ⟨96, _⟩ => ⟨S256x64, .f32⟩
  | .hbm, ⟨97, _⟩ => ⟨S_, .i32⟩
  | .hbm, ⟨98, _⟩ => ⟨S_, .f32⟩
  | .hbm, ⟨99, _⟩ => ⟨S256x128, .f32⟩
  | .hbm, ⟨100, _⟩ => ⟨S256x1536, .f32⟩
  | .hbm, ⟨101, _⟩ => ⟨S256x1536, .bf16⟩
  | .hbm, ⟨102, _⟩ => ⟨S4x4096x1, .i32⟩
  | .hbm, ⟨103, _⟩ => ⟨S4x6x1024, .f32⟩
  | .hbm, ⟨104, _⟩ => ⟨S1x1024, .f32⟩
  | .hbm, ⟨105, _⟩ => ⟨S1x256, .f32⟩
  | .hbm, ⟨106, _⟩ => ⟨S1x128, .f32⟩
  | .hbm, ⟨107, _⟩ => ⟨S128x1024, .bf16⟩
  | .hbm, ⟨108, _⟩ => ⟨S1x512, .f32⟩
  | .hbm, ⟨109, _⟩ => ⟨S4x128x128, .bf16⟩
  | .hbm, ⟨110, _⟩ => ⟨S4x128x1, .f32⟩
  | .hbm, ⟨111, _⟩ => ⟨S1x512, .f32⟩
  | .hbm, ⟨112, _⟩ => ⟨S4x4x4096x256, .bf16⟩
  | .hbm, ⟨113, _⟩ => ⟨S4x4x4096x256, .bf16⟩
  | .hbm, ⟨114, _⟩ => ⟨S4x4x4096x128, .bf16⟩
  | .hbm, ⟨115, _⟩ => ⟨S4x4096x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1, .i32⟩
  | .local _ .vmem, ⟨3, _⟩ => ⟨S1x512x1, .i32⟩
  | .local _ .vmem, ⟨4, _⟩ => ⟨S1x6x1024, .f32⟩
  | .local _ .vmem, ⟨5, _⟩ => ⟨S1x6x1024, .f32⟩
  | .local _ .vmem, ⟨6, _⟩ => ⟨S1x1024, .f32⟩
  | .local _ .vmem, ⟨7, _⟩ => ⟨S1024x1664, .bf16⟩
  | .local _ .vmem, ⟨8, _⟩ => ⟨S1x256, .f32⟩
  | .local _ .vmem, ⟨9, _⟩ => ⟨S256x1536, .bf16⟩
  | .local _ .vmem, ⟨10, _⟩ => ⟨S1x128, .f32⟩
  | .local _ .vmem, ⟨11, _⟩ => ⟨S128x1024, .bf16⟩
  | .local _ .vmem, ⟨12, _⟩ => ⟨S1x128, .f32⟩
  | .local _ .vmem, ⟨13, _⟩ => ⟨S1x512, .f32⟩
  | .local _ .vmem, ⟨14, _⟩ => ⟨S4x128x128, .bf16⟩
  | .local _ .vmem, ⟨15, _⟩ => ⟨S4x128x1, .f32⟩
  | .local _ .vmem, ⟨16, _⟩ => ⟨S1x512, .f32⟩
  | .local _ .vmem, ⟨17, _⟩ => ⟨S1x4x512x256, .bf16⟩
  | .local _ .vmem, ⟨18, _⟩ => ⟨S1x4x512x256, .bf16⟩
  | .local _ .vmem, ⟨19, _⟩ => ⟨S1x4x512x256, .bf16⟩
  | .local _ .vmem, ⟨20, _⟩ => ⟨S1x4x512x256, .bf16⟩
  | .local _ .vmem, ⟨21, _⟩ => ⟨S1x4x512x128, .bf16⟩
  | .local _ .vmem, ⟨22, _⟩ => ⟨S1x4x512x128, .bf16⟩
  | .local _ .vmem, ⟨23, _⟩ => ⟨S1x512x512, .bf16⟩
  | .local _ .vmem, ⟨24, _⟩ => ⟨S1x512x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_cst_3 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_call0_v0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c_4 : Ref sig .tc := ⟨.hbm, 36, rfl⟩
abbrev main_call1_v0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_5 : Ref sig .tc := ⟨.hbm, 43, rfl⟩
abbrev main_call2_v0 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_6 : Ref sig .tc := ⟨.hbm, 60, rfl⟩
abbrev main_call3_v0 : Ref sig .tc := ⟨.hbm, 61, rfl⟩
abbrev main_v36 : Ref sig .tc := ⟨.hbm, 62, rfl⟩
abbrev main_c_7 : Ref sig .tc := ⟨.hbm, 63, rfl⟩
abbrev main_call4_v0 : Ref sig .tc := ⟨.hbm, 64, rfl⟩
abbrev main_v37 : Ref sig .tc := ⟨.hbm, 65, rfl⟩
abbrev main_c_8 : Ref sig .tc := ⟨.hbm, 66, rfl⟩
abbrev main_call5_v0 : Ref sig .tc := ⟨.hbm, 67, rfl⟩
abbrev main_v38 : Ref sig .tc := ⟨.hbm, 68, rfl⟩
abbrev main_c_9 : Ref sig .tc := ⟨.hbm, 69, rfl⟩
abbrev main_call6_v0 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_c_10 : Ref sig .tc := ⟨.hbm, 76, rfl⟩
abbrev main_call7_v0 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_c_11 : Ref sig .tc := ⟨.hbm, 83, rfl⟩
abbrev main_call8_v0 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_c_12 : Ref sig .tc := ⟨.hbm, 90, rfl⟩
abbrev main_call9_v0 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_c_13 : Ref sig .tc := ⟨.hbm, 97, rfl⟩
abbrev main_call10_v0 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72_0 : Ref sig .tc := ⟨.hbm, 112, rfl⟩
abbrev main_v72_1 : Ref sig .tc := ⟨.hbm, 113, rfl⟩
abbrev main_v72_2 : Ref sig .tc := ⟨.hbm, 114, rfl⟩
abbrev main_v72_3 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1664 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4x128x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x4x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4x512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x4x512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Kernel4Ideal.lean ====
variable {F : FTy → Type} [FloatOps F] [Named F]
def κ : String → Option EReal := fun
  | "scale" => some ((((Real.sqrt 192) * (Real.log 2))⁻¹ : ℝ) : EReal)
  | _ => none
-- ==== Reference4Ideal.lean ====
abbrev S4x4096x1024 : Shape := ⟨3, ![4, 4096, 1024]⟩
abbrev S4x4096 : Shape := ⟨2, ![4, 4096]⟩
abbrev S4x6144 : Shape := ⟨2, ![4, 6144]⟩
abbrev S1024 : Shape := ⟨1, ![1024]⟩
abbrev S1024x1472 : Shape := ⟨2, ![1024, 1472]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S512 : Shape := ⟨1, ![512]⟩
abbrev S4x128x128 : Shape := ⟨3, ![4, 128, 128]⟩
abbrev S4x128 : Shape := ⟨2, ![4, 128]⟩
abbrev S32 : Shape := ⟨1, ![32]⟩
abbrev S_ : Shape := ⟨0, ![]⟩
abbrev S4x4096x1 : Shape := ⟨3, ![4, 4096, 1]⟩
abbrev S1x1x32 : Shape := ⟨3, ![1, 1, 32]⟩
abbrev S4x4096x32 : Shape := ⟨3, ![4, 4096, 32]⟩
abbrev S4x1024 : Shape := ⟨2, ![4, 1024]⟩
abbrev S1x1x1024 : Shape := ⟨3, ![1, 1, 1024]⟩
abbrev S4x1x1024 : Shape := ⟨3, ![4, 1, 1024]⟩
abbrev S4x4096x1472 : Shape := ⟨3, ![4, 4096, 1472]⟩
abbrev S4x4096x256 : Shape := ⟨3, ![4, 4096, 256]⟩
abbrev S1x1x256 : Shape := ⟨3, ![1, 1, 256]⟩
abbrev S4x4096x768 : Shape := ⟨3, ![4, 4096, 768]⟩
abbrev S4x4096x4x192 : Shape := ⟨4, ![4, 4096, 4, 192]⟩
abbrev S4x4096x4x128 : Shape := ⟨4, ![4, 4096, 4, 128]⟩
abbrev S4x4096x4x64 : Shape := ⟨4, ![4, 4096, 4, 64]⟩
abbrev S4x4096x1x32 : Shape := ⟨4, ![4, 4096, 1, 32]⟩
abbrev S4x4096x4x32 : Shape := ⟨4, ![4, 4096, 4, 32]⟩
abbrev S4x4096x128 : Shape := ⟨3, ![4, 4096, 128]⟩
abbrev S1x1x128 : Shape := ⟨3, ![1, 1, 128]⟩
abbrev S4x4096x4x256 : Shape := ⟨4, ![4, 4096, 4, 256]⟩
abbrev S4x4096x64 : Shape := ⟨3, ![4, 4096, 64]⟩
abbrev S4x4096x1x64 : Shape := ⟨4, ![4, 4096, 1, 64]⟩
abbrev S4x4096x512 : Shape := ⟨3, ![4, 4096, 512]⟩
abbrev S1x1x512 : Shape := ⟨3, ![1, 1, 512]⟩
abbrev S4x32x128x4x128 : Shape := ⟨5, ![4, 32, 128, 4, 128]⟩
abbrev S4x4x32x128x128 : Shape := ⟨5, ![4, 4, 32, 128, 128]⟩
abbrev S128x4 : Shape := ⟨2, ![128, 4]⟩
abbrev S1x1x128x4x1 : Shape := ⟨5, ![1, 1, 128, 4, 1]⟩
abbrev S4x4x4096x256 : Shape := ⟨4, ![4, 4, 4096, 256]⟩
abbrev S4x4x4096x128 : Shape := ⟨4, ![4, 4, 4096, 128]⟩

abbrev nBuf : Space → Nat
  | .hbm => 228
  | .vmem => 0
  | .smem => 0
  | _ => 0

abbrev hbmTy0_0 (i : Nat) : BufTy := match i % 128 with
  | 0 => ⟨S4x4096x1024, .f32⟩
  | 1 => ⟨S4x4096, .i32⟩
  | 2 => ⟨S4x6144, .f32⟩
  | 3 => ⟨S1024, .f32⟩
  | 4 => ⟨S1024x1472, .f32⟩
  | 5 => ⟨S256, .f32⟩
  | 6 => ⟨S256x768, .f32⟩
  | 7 => ⟨S128, .f32⟩
  | 8 => ⟨S128x1024, .f32⟩
  | 9 => ⟨S512, .f32⟩
  | 10 => ⟨S4x128x128, .f32⟩
  | 11 => ⟨S4x128, .f32⟩
  | 12 => ⟨S512, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S32, .f32⟩
  | 26 => ⟨S_, .f32⟩
  | 27 => ⟨S32, .f32⟩
  | 28 => ⟨S32, .f32⟩
  | 29 => ⟨S4x4096, .f32⟩
  | 30 => ⟨S4x4096x1, .f32⟩
  | 31 => ⟨S1x1x32, .f32⟩
  | 32 => ⟨S4x4096x32, .f32⟩
  | 33 => ⟨S4x4096x32, .f32⟩
  | 34 => ⟨S4x4096x32, .f32⟩
  | 35 => ⟨S4x4096x32, .f32⟩
  | 36 => ⟨S4x4096x32, .f32⟩
  | 37 => ⟨S4x1024, .f32⟩
  | 38 => ⟨S4x1024, .f32⟩
  | 39 => ⟨S4x1024, .f32⟩
  | 40 => ⟨S4x1024, .f32⟩
  | 41 => ⟨S4x1024, .f32⟩
  | 42 => ⟨S4x1024, .f32⟩
  | 43 => ⟨S4x4096x1024, .f32⟩
  | 44 => ⟨S_, .f32⟩
  | 45 => ⟨S4x4096, .f32⟩
  | 46 => ⟨S4x4096x1, .f32⟩
  | 47 => ⟨S_, .f32⟩
  | 48 => ⟨S4x4096x1, .f32⟩
  | 49 => ⟨S4x4096x1, .f32⟩
  | 50 => ⟨S_, .f32⟩
  | 51 => ⟨S4x4096x1, .f32⟩
  | 52 => ⟨S4x4096x1, .f32⟩
  | 53 => ⟨S4x4096x1, .f32⟩
  | 54 => ⟨S4x4096x1024, .f32⟩
  | 55 => ⟨S4x4096x1024, .f32⟩
  | 56 => ⟨S1x1x1024, .f32⟩
  | 57 => ⟨S4x4096x1024, .f32⟩
  | 58 => ⟨S4x4096x1024, .f32⟩
  | 59 => ⟨S4x1x1024, .f32⟩
  | 60 => ⟨S_, .f32⟩
  | 61 => ⟨S4x1x1024, .f32⟩
  | 62 => ⟨S4x1x1024, .f32⟩
  | 63 => ⟨S4x4096x1024, .f32⟩
  | 64 => ⟨S4x4096x1024, .f32⟩
  | 65 => ⟨S4x1x1024, .f32⟩
  | 66 => ⟨S4x4096x1024, .f32⟩
  | 67 => ⟨S4x4096x1024, .f32⟩
  | 68 => ⟨S4x4096x1472, .f32⟩
  | 69 => ⟨S4x4096x256, .f32⟩
  | 70 => ⟨S4x4096x256, .f32⟩
  | 71 => ⟨S_, .f32⟩
  | 72 => ⟨S4x4096, .f32⟩
  | 73 => ⟨S4x4096x1, .f32⟩
  | 74 => ⟨S_, .f32⟩
  | 75 => ⟨S4x4096x1, .f32⟩
  | 76 => ⟨S4x4096x1, .f32⟩
  | 77 => ⟨S_, .f32⟩
  | 78 => ⟨S4x4096x1, .f32⟩
  | 79 => ⟨S4x4096x1, .f32⟩
  | 80 => ⟨S4x4096x1, .f32⟩
  | 81 => ⟨S4x4096x256, .f32⟩
  | 82 => ⟨S4x4096x256, .f32⟩
  | 83 => ⟨S1x1x256, .f32⟩
  | 84 => ⟨S4x4096x256, .f32⟩
  | 85 => ⟨S4x4096x256, .f32⟩
  | 86 => ⟨S4x4096x768, .f32⟩
  | 87 => ⟨S4x4096x4x192, .f32⟩
  | 88 => ⟨S4x4096x4x128, .f32⟩
  | 89 => ⟨S4x4096x4x64, .f32⟩
  | 90 => ⟨S4x4096x1x32, .f32⟩
  | 91 => ⟨S4x4096x1x32, .f32⟩
  | 92 => ⟨S4x4096x4x32, .f32⟩
  | 93 => ⟨S4x4096x4x32, .f32⟩
  | 94 => ⟨S4x4096x4x32, .f32⟩
  | 95 => ⟨S4x4096x4x32, .f32⟩
  | 96 => ⟨S4x4096x4x32, .f32⟩
  | 97 => ⟨S4x4096x4x32, .f32⟩
  | 98 => ⟨S4x4096x4x32, .f32⟩
  | 99 => ⟨S4x4096x4x32, .f32⟩
  | 100 => ⟨S4x4096x4x32, .f32⟩
  | 101 => ⟨S4x4096x4x32, .f32⟩
  | 102 => ⟨S4x4096x4x32, .f32⟩
  | 103 => ⟨S4x4096x4x32, .f32⟩
  | 104 => ⟨S4x4096x4x64, .f32⟩
  | 105 => ⟨S4x4096x4x192, .f32⟩
  | 106 => ⟨S4x4096x128, .f32⟩
  | 107 => ⟨S4x4096x128, .f32⟩
  | 108 => ⟨S_, .f32⟩
  | 109 => ⟨S4x4096, .f32⟩
  | 110 => ⟨S4x4096x1, .f32⟩
  | 111 => ⟨S_, .f32⟩
  | 112 => ⟨S4x4096x1, .f32⟩
  | 113 => ⟨S4x4096x1, .f32⟩
  | 114 => ⟨S_, .f32⟩
  | 115 => ⟨S4x4096x1, .f32⟩
  | 116 => ⟨S4x4096x1, .f32⟩
  | 117 => ⟨S4x4096x1, .f32⟩
  | 118 => ⟨S4x4096x128, .f32⟩
  | 119 => ⟨S4x4096x128, .f32⟩
  | 120 => ⟨S1x1x128, .f32⟩
  | 121 => ⟨S4x4096x128, .f32⟩
  | 122 => ⟨S4x4096x128, .f32⟩
  | 123 => ⟨S4x4096x1024, .f32⟩
  | 124 => ⟨S4x4096x4x256, .f32⟩
  | 125 => ⟨S4x4096x64, .f32⟩
  | 126 => ⟨S4x4096x32, .f32⟩
  | 127 => ⟨S4x4096x32, .f32⟩
  | _ => ⟨S4x4096x1024, .f32⟩

abbrev hbmTy0_1 (i : Nat) : BufTy := match i % 128 with
  | 0 => ⟨S4x4096x32, .f32⟩
  | 1 => ⟨S4x4096x32, .f32⟩
  | 2 => ⟨S4x4096x32, .f32⟩
  | 3 => ⟨S4x4096x32, .f32⟩
  | 4 => ⟨S4x4096x32, .f32⟩
  | 5 => ⟨S4x4096x32, .f32⟩
  | 6 => ⟨S4x4096x64, .f32⟩
  | 7 => ⟨S4x4096x4x128, .f32⟩
  | 8 => ⟨S4x4096x1x64, .f32⟩
  | 9 => ⟨S4x4096x4x64, .f32⟩
  | 10 => ⟨S4x4096x4x192, .f32⟩
  | 11 => ⟨S4x4096x512, .f32⟩
  | 12 => ⟨S_, .f32⟩
  | 13 => ⟨S4x4096x512, .f32⟩
  | 14 => ⟨S4x4096x512, .f32⟩
  | 15 => ⟨S_, .f32⟩
  | 16 => ⟨S4x4096x512, .f32⟩
  | 17 => ⟨S4x4096x512, .f32⟩
  | 18 => ⟨S4x4096x512, .f32⟩
  | 19 => ⟨S_, .f32⟩
  | 20 => ⟨S4x4096x512, .f32⟩
  | 21 => ⟨S4x4096x512, .f32⟩
  | 22 => ⟨S4x4096x512, .f32⟩
  | 23 => ⟨S4x4096x512, .f32⟩
  | 24 => ⟨S_, .f32⟩
  | 25 => ⟨S4x4096x512, .f32⟩
  | 26 => ⟨S4x4096x512, .f32⟩
  | 27 => ⟨S_, .f32⟩
  | 28 => ⟨S4x4096x512, .f32⟩
  | 29 => ⟨S4x4096x512, .f32⟩
  | 30 => ⟨S4x4096x512, .f32⟩
  | 31 => ⟨S_, .f32⟩
  | 32 => ⟨S4x4096x512, .f32⟩
  | 33 => ⟨S4x4096x512, .f32⟩
  | 34 => ⟨S4x4096x512, .f32⟩
  | 35 => ⟨S4x4096x512, .f32⟩
  | 36 => ⟨S_, .f32⟩
  | 37 => ⟨S4x4096, .f32⟩
  | 38 => ⟨S4x4096x1, .f32⟩
  | 39 => ⟨S_, .f32⟩
  | 40 => ⟨S4x4096x1, .f32⟩
  | 41 => ⟨S4x4096x1, .f32⟩
  | 42 => ⟨S_, .f32⟩
  | 43 => ⟨S4x4096x1, .f32⟩
  | 44 => ⟨S4x4096x1, .f32⟩
  | 45 => ⟨S4x4096x1, .f32⟩
  | 46 => ⟨S4x4096x512, .f32⟩
  | 47 => ⟨S4x4096x512, .f32⟩
  | 48 => ⟨S1x1x512, .f32⟩
  | 49 => ⟨S4x4096x512, .f32⟩
  | 50 => ⟨S4x4096x512, .f32⟩
  | 51 => ⟨S4x32x128x4x128, .f32⟩
  | 52 => ⟨S4x4x32x128x128, .f32⟩
  | 53 => ⟨S4x32x128x4x128, .f32⟩
  | 54 => ⟨S128x4, .f32⟩
  | 55 => ⟨S1x1x128x4x1, .f32⟩
  | 56 => ⟨S4x32x128x4x128, .f32⟩
  | 57 => ⟨S4x32x128x4x128, .f32⟩
  | 58 => ⟨S4x32x128x4x128, .f32⟩
  | 59 => ⟨S4x32x128x4x128, .f32⟩
  | 60 => ⟨S4x4096x512, .f32⟩
  | 61 => ⟨S4x4096x512, .f32⟩
  | 62 => ⟨S_, .f32⟩
  | 63 => ⟨S4x4096, .f32⟩
  | 64 => ⟨S4x4096x1, .f32⟩
  | 65 => ⟨S_, .f32⟩
  | 66 => ⟨S4x4096x1, .f32⟩
  | 67 => ⟨S4x4096x1, .f32⟩
  | 68 => ⟨S_, .f32⟩
  | 69 => ⟨S4x4096x1, .f32⟩
  | 70 => ⟨S4x4096x1, .f32⟩
  | 71 => ⟨S4x4096x1, .f32⟩
  | 72 => ⟨S4x4096x512, .f32⟩
  | 73 => ⟨S4x4096x512, .f32⟩
  | 74 => ⟨S1x1x512, .f32⟩
  | 75 => ⟨S4x4096x512, .f32⟩
  | 76 => ⟨S4x4096x512, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S4x4096x4x192, .f32⟩
  | 85 => ⟨S4x4096x4x192, .f32⟩
  | 86 => ⟨S_, .i32⟩
  | 87 => ⟨S_, .f32⟩
  | 88 => ⟨S4x4096x4x256, .f32⟩
  | 89 => ⟨S4x4x4096x256, .f32⟩
  | 90 => ⟨S4x4x4096x256, .bf16⟩
  | 91 => ⟨S_, .i32⟩
  | 92 => ⟨S_, .f32⟩
  | 93 => ⟨S4x4096x4x256, .f32⟩
  | 94 => ⟨S4x4x4096x256, .f32⟩
  | 95 => ⟨S4x4x4096x256, .bf16⟩
  | 96 => ⟨S4x4096x4x128, .f32⟩
  | 97 => ⟨S4x4x4096x128, .f32⟩
  | 98 => ⟨S4x4x4096x128, .bf16⟩
  | 99 => ⟨S4x4096x512, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_cst_3 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_11 : Ref sig .tc := ⟨.hbm, 108, rfl⟩
abbrev main_v83 : Ref sig .tc := ⟨.hbm, 109, rfl⟩
abbrev main_v84 : Ref sig .tc := ⟨.hbm, 110, rfl⟩
abbrev main_cst_12 : Ref sig .tc := ⟨.hbm, 111, rfl⟩
abbrev main_v85 : Ref sig .tc := ⟨.hbm, 112, rfl⟩
abbrev main_v86 : Ref sig .tc := ⟨.hbm, 113, rfl⟩
abbrev main_cst_13 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_cst_14 : Ref sig .tc := ⟨.hbm, 140, rfl⟩
abbrev main_v112 : Ref sig .tc := ⟨.hbm, 141, rfl⟩
abbrev main_v113 : Ref sig .tc := ⟨.hbm, 142, rfl⟩
abbrev main_cst_15 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_cst_16 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_cst_17 : Ref sig .tc := ⟨.hbm, 152, rfl⟩
abbrev main_v121 : Ref sig .tc := ⟨.hbm, 153, rfl⟩
abbrev main_v122 : Ref sig .tc := ⟨.hbm, 154, rfl⟩
abbrev main_cst_18 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_cst_19 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_cst_20 : Ref sig .tc := ⟨.hbm, 164, rfl⟩
abbrev main_v130 : Ref sig .tc := ⟨.hbm, 165, rfl⟩
abbrev main_v131 : Ref sig .tc := ⟨.hbm, 166, rfl⟩
abbrev main_cst_21 : Ref sig .tc := ⟨.hbm, 167, rfl⟩
abbrev main_v132 : Ref sig .tc := ⟨.hbm, 168, rfl⟩
abbrev main_v133 : Ref sig .tc := ⟨.hbm, 169, rfl⟩
abbrev main_cst_22 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_cst_23 : Ref sig .tc := ⟨.hbm, 190, rfl⟩
abbrev main_v153 : Ref sig .tc := ⟨.hbm, 191, rfl⟩
abbrev main_v154 : Ref sig .tc := ⟨.hbm, 192, rfl⟩
abbrev main_cst_24 : Ref sig .tc := ⟨.hbm, 193, rfl⟩
abbrev main_v155 : Ref sig .tc := ⟨.hbm, 194, rfl⟩
abbrev main_v156 : Ref sig .tc := ⟨.hbm, 195, rfl⟩
abbrev main_cst_25 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_cst_26 : Ref sig .tc := ⟨.hbm, 205, rfl⟩
abbrev main_v165 : Ref sig .tc := ⟨.hbm, 206, rfl⟩
abbrev main_cst_27 : Ref sig .tc := ⟨.hbm, 207, rfl⟩
abbrev main_v166 : Ref sig .tc := ⟨.hbm, 208, rfl⟩
abbrev main_v167 : Ref sig .tc := ⟨.hbm, 209, rfl⟩
abbrev main_cst_28 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_c : Ref sig .tc := ⟨.hbm, 214, rfl⟩
abbrev main_call0_v0 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_c_29 : Ref sig .tc := ⟨.hbm, 219, rfl⟩
abbrev main_call1_v0 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩

abbrev nD : Nat := 1
abbrev τ : Topo := Topo.v7x

variable {F : FTy → Type} [FloatOps F]
-- ==== Kernel5.lean ====
abbrev S4x1024 : Shape := ⟨2, ![4, 1024]⟩
abbrev S1024x6144 : Shape := ⟨2, ![1024, 6144]⟩
abbrev S6144 : Shape := ⟨1, ![6144]⟩
abbrev S_ : Shape := ⟨0, ![]⟩
abbrev S8x1024 : Shape := ⟨2, ![8, 1024]⟩
abbrev S1x6144 : Shape := ⟨2, ![1, 6144]⟩
abbrev S8x6144 : Shape := ⟨2, ![8, 6144]⟩
abbrev S1024x1024 : Shape := ⟨2, ![1024, 1024]⟩
abbrev S1x1024 : Shape := ⟨2, ![1, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024x6144, .f32⟩
  | .hbm, ⟨2, _⟩ => ⟨S6144, .f32⟩
  | .hbm, ⟨3, _⟩ => ⟨S_, .i32⟩
  | .hbm, ⟨4, _⟩ => ⟨S_, .f32⟩
  | .hbm, ⟨5, _⟩ => ⟨S8x1024, .f32⟩
  | .hbm, ⟨6, _⟩ => ⟨S1x6144, .f32⟩
  | .hbm, ⟨7, _⟩ => ⟨S8x6144, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S4x1024 : Shape := ⟨2, ![4, 1024]⟩
abbrev S1024x6144 : Shape := ⟨2, ![1024, 6144]⟩
abbrev S6144 : Shape := ⟨1, ![6144]⟩
abbrev S_ : Shape := ⟨0, ![]⟩
abbrev S8x1024 : Shape := ⟨2, ![8, 1024]⟩
abbrev S8x6144 : Shape := ⟨2, ![8, 6144]⟩
abbrev S1x6144 : Shape := ⟨2, ![1, 6144]⟩

abbrev nBuf : Space → Nat
  | .hbm => 19
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024x6144, .f32⟩
  | .hbm, ⟨2, _⟩ => ⟨S6144, .f32⟩
  | .hbm, ⟨3, _⟩ => ⟨S_, .i32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x6144, .f32⟩
  | .hbm, ⟨16, _⟩ => ⟨S1x6144, .f32⟩
  | .hbm, ⟨17, _⟩ => ⟨S8x6144, .f32⟩
  | .hbm, ⟨18, _⟩ => ⟨S8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_call1_v0 : Ref sig .tc := ⟨.hbm, 6, rfl⟩
abbrev main_call1_v1 : Ref sig .tc := ⟨.hbm, 7, rfl⟩
abbrev main_call1_cst : Ref sig .tc := ⟨.hbm, 8, rfl⟩
abbrev main_call1_v2 : Ref sig .tc := ⟨.hbm, 9, rfl⟩
abbrev main_call1_v3 : Ref sig .tc := ⟨.hbm, 10, rfl⟩
abbrev main_call1_cst_0 : Ref sig .tc := ⟨.hbm, 11, rfl⟩
abbrev main_call1_v4 : Ref sig .tc := ⟨.hbm, 12, rfl⟩
abbrev main_call1_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩

abbrev nD : Nat := 1
abbrev τ : Topo := Topo.v7x

variable {F : FTy → Type} [FloatOps F]
-- ==== Proof.PeerLoop.lean ====
/-
  The expert call's counted loop (two trips, each storing 128 gate matrices into the word scratch): one trip keeps the
  word scratch, the gate table's column half and the two staging tables held, each at some contents.
-/
module

public import proofs.«01_k».proof.Proof.Gen.Kernel.Loops
public import proofs.«01_k».proof.Proof.Gen.Kernel.Launch
public import Idealize.ShloMosaic.Lib.Tactic

@[expose] public section

set_option maxRecDepth 16384

noncomputable section

namespace Cert.Proof.Peer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The algebra of the frame kit. -/
abbrev UU (nD : Nat) (τ : Topo) : Type := UR sig nD τ
/-- No variants: nothing loops through a recursive call. -/
abbrev 𝒱₀ : Variants := Variants.none

local notation "𝕄" => MT nD τ sig Unit (Elt F) ℕ (UU nD τ) ℕ

/-- What memref `M`'s buffer on core `c` may hold. -/
abbrev Bf (c : Dev nD) {sp : Space} {S : Shape} {e : EltTy} (M : Memref sig .tc sp S e) : Type := Buf (Elt F) (M.view.loc (c : Thread nD τ))
/-- Memref `M`'s buffer on core `c`, held whole at `f`. -/
abbrev pt (c : Dev nD) {sp : Space} {S : Shape} {e : EltTy} (M : Memref sig .tc sp S e) (f : Bf (F := F) c M) : sProp 𝕄 :=
  M.view.loc (c : Thread nD τ) ↦{fullShare} f

section Loop

variable (c : Dev nD) (i : grid0.Coords)
  (arg2 : Memref sig .tc .vmem S512x1024 .bf16) (harg2 : arg2.IsWhole)
  (arg3 : Memref sig .tc .vmem S1x1x1088x128 .f32) (harg3 : arg3.IsWhole)
  (arg4 : Memref sig .tc .vmem S1024x2048 .bf16) (harg4 : arg4.IsWhole)
  (arg5 : Memref sig .tc .vmem S2048x1024 .bf16) (harg5 : arg5.IsWhole)
  (arg6 : Memref sig .tc .vmem S512x1024 .f32) (harg6 : arg6.IsWhole)
  (arg7 : Memref sig .tc .vmem S1x6x1024 .f32) (harg7 : arg7.IsWhole)
  (arg8 : Memref sig .tc .vmem S1x1024 .f32) (harg8 : arg8.IsWhole)
  (arg9 : Memref sig .tc .vmem S512x1024 .f32) (harg9 : arg9.IsWhole)
  (arg10 : Memref sig .tc .vmem S34816x128 .i32) (harg10 : arg10.IsWhole)
  (arg11 : Memref sig .tc .vmem S512x1024 .f32) (harg11 : arg11.IsWhole)
  (arg12 : Memref sig .tc .vmem S2x1024x128 .i32) (harg12 : arg12.IsWhole)
  (arg13 : Memref sig .tc .vmem S2x1024x128 .i32) (harg13 : arg13.IsWhole)
  (arg14 : Memref sig .tc .vmem S2x1024x128 .f32) (harg14 : arg14.IsWhole)
  (arg15 : Memref sig .tc .vmem S512x128 .i32) (harg15 : arg15.IsWhole)
  (arg16 : Memref sig .tc .vmem S512x128 .f32) (harg16 : arg16.IsWhole)

set_option warn.classDefReducibility false in
/-- The loop's invariant: the four buffers a trip touches, each at some contents. -/
@[sl_loop] noncomputable def loopInv_k0_t1 (arg0 : BitVec 32) (arg1 : BitVec 32)
    (k0_h2 : k0_cond2 i = 1#1) (v16 : BitVec 32) (k0_h3 : k0_cond3 i = 1#1) (v11711 : IVec S128x128 32) (cst_2009 : F .bf16) (cst_2010 : F .bf16) :
    LoopInvTy_k0_t1 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 arg1 k0_h2 v16 k0_h3 v11711 cst_2009 cst_2010 where
  inv k _ := iprop((∃ f, pt c arg10 f) ∗ (∃ f, pt c arg13 f) ∗ (∃ f, pt c arg15 f) ∗ (∃ f, pt c arg16 f))
  step k _ := by
    iintro ⟨⟨%f10, H10⟩, ⟨%f13, H13⟩, ⟨%f15, H15⟩, ⟨%f16, H16⟩⟩
    sl_unfold [k0_t1_body]
    sl_exec_parts
    sl_step
    isplitl [H10]; · iexists _; iexact H10
    isplitl [H13]; · iexists _; iexact H13
    isplitl [H15]; · iexists _; iexact H15
    iexists _; iexact H16

end Loop

end Cert.Proof.Peer

end
-- ==== Proof.PeerBody.lean ====
/-
  The expert call's body, run once for any grid point: from its fifteen buffers, each held whole at some contents, it
  returns them held whole at some contents, the seven inputs at the contents they had.
-/
module

public import proofs.«01_k».proof.Proof.PeerLoop

@[expose] public section

set_option maxRecDepth 16384

noncomputable section

namespace Cert.Proof.Peer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UU nD τ) ℕ

section Body

variable (c : Dev nD) (i : grid0.Coords)
  (arg2 : Memref sig .tc .vmem S512x1024 .bf16) (harg2 : arg2.IsWhole)
  (arg3 : Memref sig .tc .vmem S1x1x1088x128 .f32) (harg3 : arg3.IsWhole)
  (arg4 : Memref sig .tc .vmem S1024x2048 .bf16) (harg4 : arg4.IsWhole)
  (arg5 : Memref sig .tc .vmem S2048x1024 .bf16) (harg5 : arg5.IsWhole)
  (arg6 : Memref sig .tc .vmem S512x1024 .f32) (harg6 : arg6.IsWhole)
  (arg7 : Memref sig .tc .vmem S1x6x1024 .f32) (harg7 : arg7.IsWhole)
  (arg8 : Memref sig .tc .vmem S1x1024 .f32) (harg8 : arg8.IsWhole)
  (arg9 : Memref sig .tc .vmem S512x1024 .f32) (harg9 : arg9.IsWhole)
  (arg10 : Memref sig .tc .vmem S34816x128 .i32) (harg10 : arg10.IsWhole)
  (arg11 : Memref sig .tc .vmem S512x1024 .f32) (harg11 : arg11.IsWhole)
  (arg12 : Memref sig .tc .vmem S2x1024x128 .i32) (harg12 : arg12.IsWhole)
  (arg13 : Memref sig .tc .vmem S2x1024x128 .i32) (harg13 : arg13.IsWhole)
  (arg14 : Memref sig .tc .vmem S2x1024x128 .f32) (harg14 : arg14.IsWhole)
  (arg15 : Memref sig .tc .vmem S512x128 .i32) (harg15 : arg15.IsWhole)
  (arg16 : Memref sig .tc .vmem S512x128 .f32) (harg16 : arg16.IsWhole)
  (f2 : Bf (F := F) c arg2) (f3 : Bf (F := F) c arg3) (f4 : Bf (F := F) c arg4) (f5 : Bf (F := F) c arg5)
  (f6 : Bf (F := F) c arg6) (f7 : Bf (F := F) c arg7) (f8 : Bf (F := F) c arg8) (f9 : Bf (F := F) c arg9)
  (f10 : Bf (F := F) c arg10) (f11 : Bf (F := F) c arg11) (f12 : Bf (F := F) c arg12) (f13 : Bf (F := F) c arg13)
  (f14 : Bf (F := F) c arg14) (f15 : Bf (F := F) c arg15) (f16 : Bf (F := F) c arg16)

/-- What the body returns with: the inputs as they were, everything else at some contents. -/
abbrev after : sProp 𝕄 :=
  iprop(pt c arg2 f2 ∗ pt c arg3 f3 ∗ pt c arg4 f4 ∗ pt c arg5 f5 ∗ pt c arg6 f6 ∗ pt c arg7 f7 ∗ pt c arg8 f8
    ∗ (∃ f, pt c arg9 f) ∗ (∃ f, pt c arg10 f) ∗ (∃ f, pt c arg11 f) ∗ (∃ f, pt c arg12 f) ∗ (∃ f, pt c arg13 f)
    ∗ (∃ f, pt c arg14 f) ∗ (∃ f, pt c arg15 f) ∗ (∃ f, pt c arg16 f))

/-- The first step of the grid's first axis: only the routing tables are filled. -/
theorem body_first (E : Set ℕ) (hE : E = Set.univ) (h1 : k0_cond1 i = 1#1) (h2 : ¬ k0_cond2 i = 1#1) (K : PUnit → sProp 𝕄) :
    iprop(pt c arg2 f2 ∗ pt c arg3 f3 ∗ pt c arg4 f4 ∗ pt c arg5 f5 ∗ pt c arg6 f6 ∗ pt c arg7 f7 ∗ pt c arg8 f8
      ∗ pt c arg9 f9 ∗ pt c arg10 f10 ∗ pt c arg11 f11 ∗ pt c arg12 f12 ∗ pt c arg13 f13
      ∗ pt c arg14 f14 ∗ pt c arg15 f15 ∗ pt c arg16 f16
      ∗ (after c arg2 arg3 arg4 arg5 arg6 arg7 arg8 arg9 arg10 arg11 arg12 arg13 arg14 arg15 arg16 f2 f3 f4 f5 f6 f7 f8 -∗ K ⟨⟩))
    ⊢ wp frame (wpE (defs₀ (F := F)) 𝒱₀ c none) E
        (cc0_peer i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  subst hE
  iintro ⟨H2, H3, H4, H5, H6, H7, H8, H9, H10, H11, H12, H13, H14, H15, H16, Hk⟩
  sl_exec_parts!
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

end Body

end Cert.Proof.Peer

end
-- ==== Proof.PeerOff.lean ====
/-
  Where the expert call keeps the sorted routing of a step: the plane is the parity of the first grid coordinate, the
  rows are those of the second.
-/
module

public import proofs.«01_k».proof.Proof.PeerLoop

@[expose] public section

namespace Cert.Proof.Peer

open Cert.Kernel Cert.Kernel.Gen
open Idealize.ShloMosaic Idealize.ShloMosaic.TcCoe Idealize.ShloMosaic.Tactic

/-- The offsets of the sixteen row groups. -/
theorem k0_off12_eq : ∀ (i : grid0.Coords) (r : Fin 16),
    k0_off12 i (BitVec.ofNat 32 r.val) = ![(i 0).val % 2, 128 * (i 1).val + 8 * r.val, 0] := by decide +kernel

instance closedOff12_0 (i : grid0.Coords) : ClosedOff (k0_off12 i 0#32) := ⟨![(i 0).val % 2, 128 * (i 1).val + 8 * 0, 0], k0_off12_eq i 0⟩
instance closedOff12_1 (i : grid0.Coords) : ClosedOff (k0_off12 i 1#32) := ⟨![(i 0).val % 2, 128 * (i 1).val + 8 * 1, 0], k0_off12_eq i 1⟩
instance closedOff12_2 (i : grid0.Coords) : ClosedOff (k0_off12 i 2#32) := ⟨![(i 0).val % 2, 128 * (i 1).val + 8 * 2, 0], k0_off12_eq i 2⟩
instance closedOff12_3 (i : grid0.Coords) : ClosedOff (k0_off12 i 3#32) := ⟨![(i 0).val % 2, 128 * (i 1).val + 8 * 3, 0], k0_off12_eq i 3⟩
instance closedOff12_4 (i : grid0.Coords) : ClosedOff (k0_off12 i 4#32) := ⟨![(i 0).val % 2, 128 * (i 1).val + 8 * 4, 0], k0_off12_eq i 4⟩
instance closedOff12_5 (i : grid0.Coords) : ClosedOff (k0_off12 i 5#32) := ⟨![(i 0).val % 2, 128 * (i 1).val + 8 * 5, 0], k0_off12_eq i 5⟩
instance closedOff12_6 (i : grid0.Coords) : ClosedOff (k0_off12 i 6#32) := ⟨![(i 0).val % 2, 128 * (i 1).val + 8 * 6, 0], k0_off12_eq i 6⟩
instance closedOff12_7 (i : grid0.Coords) : ClosedOff (k0_off12 i 7#32) := ⟨![(i 0).val % 2, 128 * (i 1).val + 8 * 7, 0], k0_off12_eq i 7⟩
instance closedOff12_8 (i : grid0.Coords) : ClosedOff (k0_off12 i 8#32) := ⟨![(i 0).val % 2, 128 * (i 1).val + 8 * 8, 0], k0_off12_eq i 8⟩
instance closedOff12_9 (i : grid0.Coords) : ClosedOff (k0_off12 i 9#32) := ⟨![(i 0).val % 2, 128 * (i 1).val + 8 * 9, 0], k0_off12_eq i 9⟩
instance closedOff12_10 (i : grid0.Coords) : ClosedOff (k0_off12 i 10#32) := ⟨![(i 0).val % 2, 128 * (i 1).val + 8 * 10, 0], k0_off12_eq i 10⟩
instance closedOff12_11 (i : grid0.Coords) : ClosedOff (k0_off12 i 11#32) := ⟨![(i 0).val % 2, 128 * (i 1).val + 8 * 11, 0], k0_off12_eq i 11⟩
instance closedOff12_12 (i : grid0.Coords) : ClosedOff (k0_off12 i 12#32) := ⟨![(i 0).val % 2, 128 * (i 1).val + 8 * 12, 0], k0_off12_eq i 12⟩
instance closedOff12_13 (i : grid0.Coords) : ClosedOff (k0_off12 i 13#32) := ⟨![(i 0).val % 2, 128 * (i 1).val + 8 * 13, 0], k0_off12_eq i 13⟩
instance closedOff12_14 (i : grid0.Coords) : ClosedOff (k0_off12 i 14#32) := ⟨![(i 0).val % 2, 128 * (i 1).val + 8 * 14, 0], k0_off12_eq i 14⟩
instance closedOff12_15 (i : grid0.Coords) : ClosedOff (k0_off12 i 15#32) := ⟨![(i 0).val % 2, 128 * (i 1).val + 8 * 15, 0], k0_off12_eq i 15⟩

end Cert.Proof.Peer

end
-- ==== Proof.PeerMid.lean ====
/-
  The expert call's body at one kind of grid point. A later step, neither the first nor the last of its row: the gate tile of the step is built and its product added.
-/
module

public import proofs.«01_k».proof.Proof.PeerBody
public import proofs.«01_k».proof.Proof.PeerOff

@[expose] public section

set_option maxRecDepth 16384

noncomputable section

namespace Cert.Proof.Peer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UU nD τ) ℕ

section Body

variable (c : Dev nD) (i : grid0.Coords)
  (arg2 : Memref sig .tc .vmem S512x1024 .bf16) (harg2 : arg2.IsWhole)
  (arg3 : Memref sig .tc .vmem S1x1x1088x128 .f32) (harg3 : arg3.IsWhole)
  (arg4 : Memref sig .tc .vmem S1024x2048 .bf16) (harg4 : arg4.IsWhole)
  (arg5 : Memref sig .tc .vmem S2048x1024 .bf16) (harg5 : arg5.IsWhole)
  (arg6 : Memref sig .tc .vmem S512x1024 .f32) (harg6 : arg6.IsWhole)
  (arg7 : Memref sig .tc .vmem S1x6x1024 .f32) (harg7 : arg7.IsWhole)
  (arg8 : Memref sig .tc .vmem S1x1024 .f32) (harg8 : arg8.IsWhole)
  (arg9 : Memref sig .tc .vmem S512x1024 .f32) (harg9 : arg9.IsWhole)
  (arg10 : Memref sig .tc .vmem S34816x128 .i32) (harg10 : arg10.IsWhole)
  (arg11 : Memref sig .tc .vmem S512x1024 .f32) (harg11 : arg11.IsWhole)
  (arg12 : Memref sig .tc .vmem S2x1024x128 .i32) (harg12 : arg12.IsWhole)
  (arg13 : Memref sig .tc .vmem S2x1024x128 .i32) (harg13 : arg13.IsWhole)
  (arg14 : Memref sig .tc .vmem S2x1024x128 .f32) (harg14 : arg14.IsWhole)
  (arg15 : Memref sig .tc .vmem S512x128 .i32) (harg15 : arg15.IsWhole)
  (arg16 : Memref sig .tc .vmem S512x128 .f32) (harg16 : arg16.IsWhole)
  (f2 : Bf (F := F) c arg2) (f3 : Bf (F := F) c arg3) (f4 : Bf (F := F) c arg4) (f5 : Bf (F := F) c arg5)
  (f6 : Bf (F := F) c arg6) (f7 : Bf (F := F) c arg7) (f8 : Bf (F := F) c arg8) (f9 : Bf (F := F) c arg9)
  (f10 : Bf (F := F) c arg10) (f11 : Bf (F := F) c arg11) (f12 : Bf (F := F) c arg12) (f13 : Bf (F := F) c arg13)
  (f14 : Bf (F := F) c arg14) (f15 : Bf (F := F) c arg15) (f16 : Bf (F := F) c arg16)

/-- A later step, neither the first nor the last of its row: the gate tile of the step is built and its product added. -/
theorem body_middle (E : Set ℕ) (hE : E = Set.univ) (h1 : ¬ k0_cond1 i = 1#1) (h2 : k0_cond2 i = 1#1) (h3 : ¬ k0_cond3 i = 1#1) (h4 : ¬ k0_cond4 i = 1#1) (K : PUnit → sProp 𝕄) :
    iprop(pt c arg2 f2 ∗ pt c arg3 f3 ∗ pt c arg4 f4 ∗ pt c arg5 f5 ∗ pt c arg6 f6 ∗ pt c arg7 f7 ∗ pt c arg8 f8
      ∗ pt c arg9 f9 ∗ pt c arg10 f10 ∗ pt c arg11 f11 ∗ pt c arg12 f12 ∗ pt c arg13 f13
      ∗ pt c arg14 f14 ∗ pt c arg15 f15 ∗ pt c arg16 f16
      ∗ (after c arg2 arg3 arg4 arg5 arg6 arg7 arg8 arg9 arg10 arg11 arg12 arg13 arg14 arg15 arg16 f2 f3 f4 f5 f6 f7 f8 -∗ K ⟨⟩))
    ⊢ wp frame (wpE (defs₀ (F := F)) 𝒱₀ c none) E
        (cc0_peer i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  subst hE
  iintro ⟨H2, H3, H4, H5, H6, H7, H8, H9, H10, H11, H12, H13, H14, H15, H16, Hk⟩
  sl_exec_parts!
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

end Body

end Cert.Proof.Peer

end
-- ==== Proof.PeerStart.lean ====
/-
  The expert call's body at one kind of grid point. The first step of a row: the sum is cleared and the word scratch filled by the counted loop.
-/
module

public import proofs.«01_k».proof.Proof.PeerBody
public import proofs.«01_k».proof.Proof.PeerOff

@[expose] public section

set_option maxRecDepth 16384

noncomputable section

namespace Cert.Proof.Peer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UU nD τ) ℕ

section Body

variable (c : Dev nD) (i : grid0.Coords)
  (arg2 : Memref sig .tc .vmem S512x1024 .bf16) (harg2 : arg2.IsWhole)
  (arg3 : Memref sig .tc .vmem S1x1x1088x128 .f32) (harg3 : arg3.IsWhole)
  (arg4 : Memref sig .tc .vmem S1024x2048 .bf16) (harg4 : arg4.IsWhole)
  (arg5 : Memref sig .tc .vmem S2048x1024 .bf16) (harg5 : arg5.IsWhole)
  (arg6 : Memref sig .tc .vmem S512x1024 .f32) (harg6 : arg6.IsWhole)
  (arg7 : Memref sig .tc .vmem S1x6x1024 .f32) (harg7 : arg7.IsWhole)
  (arg8 : Memref sig .tc .vmem S1x1024 .f32) (harg8 : arg8.IsWhole)
  (arg9 : Memref sig .tc .vmem S512x1024 .f32) (harg9 : arg9.IsWhole)
  (arg10 : Memref sig .tc .vmem S34816x128 .i32) (harg10 : arg10.IsWhole)
  (arg11 : Memref sig .tc .vmem S512x1024 .f32) (harg11 : arg11.IsWhole)
  (arg12 : Memref sig .tc .vmem S2x1024x128 .i32) (harg12 : arg12.IsWhole)
  (arg13 : Memref sig .tc .vmem S2x1024x128 .i32) (harg13 : arg13.IsWhole)
  (arg14 : Memref sig .tc .vmem S2x1024x128 .f32) (harg14 : arg14.IsWhole)
  (arg15 : Memref sig .tc .vmem S512x128 .i32) (harg15 : arg15.IsWhole)
  (arg16 : Memref sig .tc .vmem S512x128 .f32) (harg16 : arg16.IsWhole)
  (f2 : Bf (F := F) c arg2) (f3 : Bf (F := F) c arg3) (f4 : Bf (F := F) c arg4) (f5 : Bf (F := F) c arg5)
  (f6 : Bf (F := F) c arg6) (f7 : Bf (F := F) c arg7) (f8 : Bf (F := F) c arg8) (f9 : Bf (F := F) c arg9)
  (f10 : Bf (F := F) c arg10) (f11 : Bf (F := F) c arg11) (f12 : Bf (F := F) c arg12) (f13 : Bf (F := F) c arg13)
  (f14 : Bf (F := F) c arg14) (f15 : Bf (F := F) c arg15) (f16 : Bf (F := F) c arg16)

/-- The first step of a row: the sum is cleared and the word scratch filled by the counted loop. -/
theorem body_start (E : Set ℕ) (hE : E = Set.univ) (h1 : ¬ k0_cond1 i = 1#1) (h2 : k0_cond2 i = 1#1) (h3 : k0_cond3 i = 1#1) (h4 : ¬ k0_cond4 i = 1#1) (K : PUnit → sProp 𝕄) :
    iprop(pt c arg2 f2 ∗ pt c arg3 f3 ∗ pt c arg4 f4 ∗ pt c arg5 f5 ∗ pt c arg6 f6 ∗ pt c arg7 f7 ∗ pt c arg8 f8
      ∗ pt c arg9 f9 ∗ pt c arg10 f10 ∗ pt c arg11 f11 ∗ pt c arg12 f12 ∗ pt c arg13 f13
      ∗ pt c arg14 f14 ∗ pt c arg15 f15 ∗ pt c arg16 f16
      ∗ (after c arg2 arg3 arg4 arg5 arg6 arg7 arg8 arg9 arg10 arg11 arg12 arg13 arg14 arg15 arg16 f2 f3 f4 f5 f6 f7 f8 -∗ K ⟨⟩))
    ⊢ wp frame (wpE (defs₀ (F := F)) 𝒱₀ c none) E
        (cc0_peer i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  subst hE
  iintro ⟨H2, H3, H4, H5, H6, H7, H8, H9, H10, H11, H12, H13, H14, H15, H16, Hk⟩
  sl_exec_parts!
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

end Body

end Cert.Proof.Peer

end
-- ==== Proof.PeerLast.lean ====
/-
  The expert call's body at one kind of grid point. The last step of a row: the sum is finished, normed and stored.
-/
module

public import proofs.«01_k».proof.Proof.PeerBody
public import proofs.«01_k».proof.Proof.PeerOff

@[expose] public section

set_option maxRecDepth 16384

noncomputable section

namespace Cert.Proof.Peer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UU nD τ) ℕ

section Body

variable (c : Dev nD) (i : grid0.Coords)
  (arg2 : Memref sig .tc .vmem S512x1024 .bf16) (harg2 : arg2.IsWhole)
  (arg3 : Memref sig .tc .vmem S1x1x1088x128 .f32) (harg3 : arg3.IsWhole)
  (arg4 : Memref sig .tc .vmem S1024x2048 .bf16) (harg4 : arg4.IsWhole)
  (arg5 : Memref sig .tc .vmem S2048x1024 .bf16) (harg5 : arg5.IsWhole)
  (arg6 : Memref sig .tc .vmem S512x1024 .f32) (harg6 : arg6.IsWhole)
  (arg7 : Memref sig .tc .vmem S1x6x1024 .f32) (harg7 : arg7.IsWhole)
  (arg8 : Memref sig .tc .vmem S1x1024 .f32) (harg8 : arg8.IsWhole)
  (arg9 : Memref sig .tc .vmem S512x1024 .f32) (harg9 : arg9.IsWhole)
  (arg10 : Memref sig .tc .vmem S34816x128 .i32) (harg10 : arg10.IsWhole)
  (arg11 : Memref sig .tc .vmem S512x1024 .f32) (harg11 : arg11.IsWhole)
  (arg12 : Memref sig .tc .vmem S2x1024x128 .i32) (harg12 : arg12.IsWhole)
  (arg13 : Memref sig .tc .vmem S2x1024x128 .i32) (harg13 : arg13.IsWhole)
  (arg14 : Memref sig .tc .vmem S2x1024x128 .f32) (harg14 : arg14.IsWhole)
  (arg15 : Memref sig .tc .vmem S512x128 .i32) (harg15 : arg15.IsWhole)
  (arg16 : Memref sig .tc .vmem S512x128 .f32) (harg16 : arg16.IsWhole)
  (f2 : Bf (F := F) c arg2) (f3 : Bf (F := F) c arg3) (f4 : Bf (F := F) c arg4) (f5 : Bf (F := F) c arg5)
  (f6 : Bf (F := F) c arg6) (f7 : Bf (F := F) c arg7) (f8 : Bf (F := F) c arg8) (f9 : Bf (F := F) c arg9)
  (f10 : Bf (F := F) c arg10) (f11 : Bf (F := F) c arg11) (f12 : Bf (F := F) c arg12) (f13 : Bf (F := F) c arg13)
  (f14 : Bf (F := F) c arg14) (f15 : Bf (F := F) c arg15) (f16 : Bf (F := F) c arg16)

/-- The last step of a row: the sum is finished, normed and stored. -/
theorem body_last (E : Set ℕ) (hE : E = Set.univ) (h1 : ¬ k0_cond1 i = 1#1) (h2 : k0_cond2 i = 1#1) (h3 : ¬ k0_cond3 i = 1#1) (h4 : k0_cond4 i = 1#1) (K : PUnit → sProp 𝕄) :
    iprop(pt c arg2 f2 ∗ pt c arg3 f3 ∗ pt c arg4 f4 ∗ pt c arg5 f5 ∗ pt c arg6 f6 ∗ pt c arg7 f7 ∗ pt c arg8 f8
      ∗ pt c arg9 f9 ∗ pt c arg10 f10 ∗ pt c arg11 f11 ∗ pt c arg12 f12 ∗ pt c arg13 f13
      ∗ pt c arg14 f14 ∗ pt c arg15 f15 ∗ pt c arg16 f16
      ∗ (after c arg2 arg3 arg4 arg5 arg6 arg7 arg8 arg9 arg10 arg11 arg12 arg13 arg14 arg15 arg16 f2 f3 f4 f5 f6 f7 f8 -∗ K ⟨⟩))
    ⊢ wp frame (wpE (defs₀ (F := F)) 𝒱₀ c none) E
        (cc0_peer i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  subst hE
  iintro ⟨H2, H3, H4, H5, H6, H7, H8, H9, H10, H11, H12, H13, H14, H15, H16, Hk⟩
  sl_exec_parts!
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

end Body

end Cert.Proof.Peer

end
-- ==== Proof.PeerRun.lean ====
/-
  The expert call run over its whole grid: the body keeps its inputs at every point, whichever of the four kinds the point
  is, so the call ends with its arguments unchanged and every counter at zero. What the result array holds is not named.
-/
module

public import proofs.«01_k».proof.Proof.PeerBody
public import proofs.«01_k».proof.Proof.PeerMid
public import proofs.«01_k».proof.Proof.PeerStart
public import proofs.«01_k».proof.Proof.PeerLast
public import proofs.«01_k».proof.Proof.Gen.Kernel.Frame
public import Idealize.ShloMosaic.Lib.Claim

@[expose] public section

set_option maxRecDepth 16384

noncomputable section

namespace Cert.Proof.Peer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [BitOps F]

local notation "𝕄" => MT nD τ sig Unit (Elt F) ℕ (UR sig nD τ) ℕ

/-- Every grid point is of one of four kinds: a first step; a first, a middle or a last step over the experts. -/
theorem kinds : ∀ i : grid0.Coords, (k0_cond1 i = 1#1 ∧ ¬ k0_cond2 i = 1#1)
    ∨ (¬ k0_cond1 i = 1#1 ∧ k0_cond2 i = 1#1 ∧ k0_cond3 i = 1#1 ∧ ¬ k0_cond4 i = 1#1)
    ∨ (¬ k0_cond1 i = 1#1 ∧ k0_cond2 i = 1#1 ∧ ¬ k0_cond3 i = 1#1 ∧ ¬ k0_cond4 i = 1#1)
    ∨ (¬ k0_cond1 i = 1#1 ∧ k0_cond2 i = 1#1 ∧ ¬ k0_cond3 i = 1#1 ∧ k0_cond4 i = 1#1) := by
  decide +kernel

/-- Owning a whole memref at `X` is holding its buffer at contents that read as `X`, -/
theorem pt_of_owns (c : Dev nD) {sp : Space} {S : Shape} {e : EltTy} (M : Memref sig .tc sp S e) (h : M.IsWhole) (X : S.Idx → Elt F e) :
    (owns (c : Thread nD τ) M fullShare X : sProp 𝕄) ⊢ iprop(∃ f : Bf (F := F) c M, ⌜M.view.read (Elt F) f = X⌝ ∗ pt c M f) := by
  unfold owns
  rw [h.set_eq_univ]

/-- and back. -/
theorem owns_of_pt (c : Dev nD) {sp : Space} {S : Shape} {e : EltTy} (M : Memref sig .tc sp S e) (h : M.IsWhole) (f : Bf (F := F) c M) (X : S.Idx → Elt F e)
    (hX : M.view.read (Elt F) f = X) : (pt c M f : sProp 𝕄) ⊢ owns (c : Thread nD τ) M fullShare X := by
  subst hX
  refine BIBase.Entails.trans ?_ (owns_intro (c : Thread nD τ) M fullShare f)
  rw [h.set_eq_univ]

section Body

variable (c : Dev nD) (i : grid0.Coords)
  (arg2 : Memref sig .tc .vmem S512x1024 .bf16) (harg2 : arg2.IsWhole)
  (arg3 : Memref sig .tc .vmem S1x1x1088x128 .f32) (harg3 : arg3.IsWhole)
  (arg4 : Memref sig .tc .vmem S1024x2048 .bf16) (harg4 : arg4.IsWhole)
  (arg5 : Memref sig .tc .vmem S2048x1024 .bf16) (harg5 : arg5.IsWhole)
  (arg6 : Memref sig .tc .vmem S512x1024 .f32) (harg6 : arg6.IsWhole)
  (arg7 : Memref sig .tc .vmem S1x6x1024 .f32) (harg7 : arg7.IsWhole)
  (arg8 : Memref sig .tc .vmem S1x1024 .f32) (harg8 : arg8.IsWhole)
  (arg9 : Memref sig .tc .vmem S512x1024 .f32) (harg9 : arg9.IsWhole)
  (arg10 : Memref sig .tc .vmem S34816x128 .i32) (harg10 : arg10.IsWhole)
  (arg11 : Memref sig .tc .vmem S512x1024 .f32) (harg11 : arg11.IsWhole)
  (arg12 : Memref sig .tc .vmem S2x1024x128 .i32) (harg12 : arg12.IsWhole)
  (arg13 : Memref sig .tc .vmem S2x1024x128 .i32) (harg13 : arg13.IsWhole)
  (arg14 : Memref sig .tc .vmem S2x1024x128 .f32) (harg14 : arg14.IsWhole)
  (arg15 : Memref sig .tc .vmem S512x128 .i32) (harg15 : arg15.IsWhole)
  (arg16 : Memref sig .tc .vmem S512x128 .f32) (harg16 : arg16.IsWhole)

/-- The body at a point of any kind. -/
theorem body_any (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (K : PUnit → sProp 𝕄) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16
      ∗ (after c arg2 arg3 arg4 arg5 arg6 arg7 arg8 arg9 arg10 arg11 arg12 arg13 arg14 arg15 arg16 f2 f3 f4 f5 f6 f7 f8 -∗ K ⟨⟩))
    ⊢ wp frame (wpE (defs₀ (F := F)) 𝒱₀ c none) Set.univ
        (cc0_peer i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rcases kinds i with ⟨h1, h2⟩ | ⟨h1, h2, h3, h4⟩ | ⟨h1, h2, h3, h4⟩ | ⟨h1, h2, h3, h4⟩
  · exact body_first c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16 Set.univ rfl h1 h2 K
  · exact body_start c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16 Set.univ rfl h1 h2 h3 h4 K
  · exact body_middle c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16 Set.univ rfl h1 h2 h3 h4 K
  · exact body_last c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16 Set.univ rfl h1 h2 h3 h4 K

/-- The same with the windows' buffers owned: the inputs come back as they were, the result at some contents. -/
theorem body_owned (X2 : S512x1024.Idx → Elt F .bf16) (X3 : S1x1x1088x128.Idx → Elt F .f32) (X4 : S1024x2048.Idx → Elt F .bf16) (X5 : S2048x1024.Idx → Elt F .bf16) (X6 : S512x1024.Idx → Elt F .f32) (X7 : S1x6x1024.Idx → Elt F .f32) (X8 : S1x1024.Idx → Elt F .f32) (K : PUnit → sProp 𝕄) :
    iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ (∃ X, owns (c : Thread nD τ) arg9 fullShare X)
      ∗ (∃ f, pt c arg10 f) ∗ (∃ f, pt c arg11 f) ∗ (∃ f, pt c arg12 f) ∗ (∃ f, pt c arg13 f) ∗ (∃ f, pt c arg14 f) ∗ (∃ f, pt c arg15 f) ∗ (∃ f, pt c arg16 f)
      ∗ (((owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ (∃ X, owns (c : Thread nD τ) arg9 fullShare X) ∗ (∃ f, pt c arg10 f) ∗ (∃ f, pt c arg11 f) ∗ (∃ f, pt c arg12 f) ∗ (∃ f, pt c arg13 f) ∗ (∃ f, pt c arg14 f) ∗ (∃ f, pt c arg15 f) ∗ (∃ f, pt c arg16 f))) -∗ K ⟨⟩))
    ⊢ wp frame (wpE (defs₀ (F := F)) 𝒱₀ c none) Set.univ
        (cc0_peer i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H2, H3, H4, H5, H6, H7, H8, ⟨%X9, H9⟩, ⟨%f10, H10⟩, ⟨%f11, H11⟩, ⟨%f12, H12⟩, ⟨%f13, H13⟩, ⟨%f14, H14⟩, ⟨%f15, H15⟩, ⟨%f16, H16⟩, Hk⟩
  ihave P2 := (pt_of_owns c arg2 harg2 X2) $$ H2
  icases P2 with ⟨%f2, %e2, H2⟩
  ihave P3 := (pt_of_owns c arg3 harg3 X3) $$ H3
  icases P3 with ⟨%f3, %e3, H3⟩
  ihave P4 := (pt_of_owns c arg4 harg4 X4) $$ H4
  icases P4 with ⟨%f4, %e4, H4⟩
  ihave P5 := (pt_of_owns c arg5 harg5 X5) $$ H5
  icases P5 with ⟨%f5, %e5, H5⟩
  ihave P6 := (pt_of_owns c arg6 harg6 X6) $$ H6
  icases P6 with ⟨%f6, %e6, H6⟩
  ihave P7 := (pt_of_owns c arg7 harg7 X7) $$ H7
  icases P7 with ⟨%f7, %e7, H7⟩
  ihave P8 := (pt_of_owns c arg8 harg8 X8) $$ H8
  icases P8 with ⟨%f8, %e8, H8⟩
  ihave P9 := (pt_of_owns c arg9 harg9 X9) $$ H9
  icases P9 with ⟨%f9, %e9, H9⟩
  iapply (body_any c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16 K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H2, H3, H4, H5, H6, H7, H8, ⟨%g9, H9⟩, H10, H11, H12, H13, H14, H15, H16⟩
  iapply Hk
  isplitl [H2]; · iapply (owns_of_pt c arg2 harg2 f2 X2 e2); iexact H2
  isplitl [H3]; · iapply (owns_of_pt c arg3 harg3 f3 X3 e3); iexact H3
  isplitl [H4]; · iapply (owns_of_pt c arg4 harg4 f4 X4 e4); iexact H4
  isplitl [H5]; · iapply (owns_of_pt c arg5 harg5 f5 X5 e5); iexact H5
  isplitl [H6]; · iapply (owns_of_pt c arg6 harg6 f6 X6 e6); iexact H6
  isplitl [H7]; · iapply (owns_of_pt c arg7 harg7 f7 X7 e7); iexact H7
  isplitl [H8]; · iapply (owns_of_pt c arg8 harg8 f8 X8 e8); iexact H8
  isplitl [H9]; · iexists _; iapply (owns_of_pt c arg9 harg9 g9 _ rfl); iexact H9
  isplitl [H10]; · iexact H10
  isplitl [H11]; · iexact H11
  isplitl [H12]; · iexact H12
  isplitl [H13]; · iexact H13
  isplitl [H14]; · iexact H14
  isplitl [H15]; · iexact H15
  iexact H16

end Body

/-! ## The launch -/

variable (m : (ℓ : Loc nD τ sig) → Buf (Elt F) ℓ) (ρ : Dev nD → PrngReg)

/-- The result's window is forgotten: nothing here reads what it holds. -/
def fgt : Fin cfg0.W → Bool := fun w => decide (w = (7 : Fin 8))

/-- The proof data: the inputs' buffers keep their blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ X, owns (c : Thread nD τ) (st0_7 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, owns (c : Thread nD τ) (st0_7 t) fullShare X))

/-- The kernel's own buffers, one by one. -/
theorem phi_eq (c : Dev nD) :
    (Pipeline.ΦA spec0 c : sProp 𝕄)
      = iprop(iprop((∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f)) ∗ (∃ r, prngReg c r)) := by
  unfold Pipeline.ΦA; rw [scopedRest0_eq]

/-- The body at any point of the grid. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, phi_eq]
  iintro ⟨⟨⟨S0, S1, S2, S3, S4, S5, S6⟩, Hg⟩, Ho, ⟨%d0, H0⟩, ⟨%d1, H1⟩, ⟨%d2, H2⟩, ⟨%d3, H3⟩, ⟨%d4, H4⟩, ⟨%d5, H5⟩, ⟨%d6, H6⟩, H7⟩
  iapply (body_owned c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, H5, H6, H7, S0, S1, S2, S3, S4, S5, S6⟩
  isplitl [S0 S1 S2 S3 S4 S5 S6 Hg]
  · isplitr [Hg]
    · isplitl [S0]; · iexact S0
      isplitl [S1]; · iexact S1
      isplitl [S2]; · iexact S2
      isplitl [S3]; · iexact S3
      isplitl [S4]; · iexact S4
      isplitl [S5]; · iexact S5
      iexact S6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ fgt := fun t => by
  rw [bigSep_W0, bigSep_W0, defs₀_row]
  exact triple_restated (sound_body m c t) rfl .rfl fun _ => .rfl

-- the library's launch theorem is unified with this statement through plain definitions
set_option backward.isDefEq.respectTransparency.types false in
/-- The launch: every execution ends, the inputs' arrays as at entry and every counter at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ 𝒱₀ fgt m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

/-- An input's array after the run is the array at entry. -/
theorem input_kept {r : PUnit × MemSt nD τ sig (Elt F)} (h : Pipeline.RDat.FramePost cfg0 (fun c => (dats m 0 c).toRForget fgt) (V m) r)
    (c : Dev nD) (w : Fin cfg0.W) (hw : fgt w = false) (hin : (cfg0.win w).isOut = false) :
    r.2.mem ((cfg0.spec w).arr.view.loc (c.tc : Thread nD τ)) = V m c (Pipeline.arrRef spec0 w) :=
  ((Pipeline.Dat.toRForget_arrAt_iff (dats m 0 c) hw _ _).mp ((h c).1 w)).trans
    (((dats m 0 c).arrAt_in w hin _).trans (A_eq m c w))

/-- The argument arrays end unchanged, the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(input_kept m h.1 c 0 rfl rfl).trans (V_main_arg0 m c),
      (input_kept m h.1 c 1 rfl rfl).trans (V_main_arg1 m c),
      (input_kept m h.1 c 2 rfl rfl).trans (V_main_arg2 m c),
      (input_kept m h.1 c 3 rfl rfl).trans (V_main_arg3 m c),
      (input_kept m h.1 c 4 rfl rfl).trans (V_main_arg4 m c),
      (input_kept m h.1 c 5 rfl rfl).trans (V_main_arg5 m c),
      ((h.1 c).2 main_arg6 (Pipeline.mem_restRefs_of main_arg6 (by decide) (by decide))).trans (V_main_arg6 m c)⟩, h.2⟩)
    (run_main m ρ)

end Cert.Proof.Peer

end
-- ==== Proof.AttnMath.lean ====
/-
  Softmax attention over the extended reals, two ways: base two with the scale folded into the scores and one division at
  the end, and base e with the scores divided and every weight divided by the sum. For finite scores they are equal,
  whatever the values are.
-/
module

public import Idealize.ShloMosaic.PureOps.Ideal
public import Mathlib.Analysis.SpecialFunctions.Pow.Real

@[expose] public section

noncomputable section

namespace Cert.Proof.Attn.Math

open Idealize.ShloMosaic

/-- A positive real factor distributes over any finite sum of extended reals. -/
theorem sum_mul_coe {ι : Type*} (s : Finset ι) (f : ι → EReal) (c : ℝ) (hc : 0 < c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc.le) (EReal.coe_ne_top c) _ _

/-- A sum of reals is the real sum. -/
theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The greatest of finitely many reals, at least one, is one of them. -/
theorem sup_coe {n : ℕ} (X : Fin (n + 1) → ℝ) : ∃ t : ℝ, Finset.univ.sup (fun j => (X j : EReal)) = (t : EReal) := by
  obtain ⟨j, _, hj⟩ := Finset.exists_mem_eq_sup Finset.univ Finset.univ_nonempty (fun j => (X j : EReal))
  exact ⟨X j, hj⟩

/-- A positive real factor comes out of the maximum. -/
theorem sup_mul_coe {n : ℕ} (X : Fin n → ℝ) (c : ℝ) (hc : 0 < c) :
    Finset.univ.sup (fun j => ((X j * c : ℝ) : EReal)) = Finset.univ.sup (fun j => (X j : EReal)) * (c : EReal) := by
  refine le_antisymm (Finset.sup_le fun j _ => ?_) ?_
  · rw [EReal.coe_mul]
    exact mul_le_mul_of_nonneg_right (Finset.le_sup (f := fun j => (X j : EReal)) (Finset.mem_univ j)) (by exact_mod_cast hc.le)
  · rcases n with _ | n
    · simp [EReal.bot_mul_coe_of_pos hc]
    · obtain ⟨j, _, hj⟩ := Finset.exists_mem_eq_sup Finset.univ Finset.univ_nonempty (fun j => (X j : EReal))
      rw [hj, ← EReal.coe_mul]
      exact Finset.le_sup (f := fun j => ((X j * c : ℝ) : EReal)) (Finset.mem_univ j)

/-- With `c = 1 / (s log 2)`, powers of two of numbers scaled by `c` are exponentials of the numbers divided by `s`. -/
theorem exp2_scaled (s : ℝ) (hs : 0 < s) (x : ℝ) : Real.rpow 2 (x * (1 / (s * Real.log 2))) = Real.exp (x * (1 / s)) := by
  have h2 : Real.log 2 ≠ 0 := (Real.log_pos one_lt_two).ne'
  show (2 : ℝ) ^ (x * (1 / (s * Real.log 2))) = _
  rw [Real.rpow_def_of_pos two_pos]
  congr 1
  field_simp

/-- The two softmax averages agree. -/
theorem attention {n : ℕ} (X : Fin (n + 1) → ℝ) (V : Fin (n + 1) → EReal) (s : ℝ) (hs : 0 < s) :
    Ideal.div
        (∑ j, Ideal.exp2 ((X j : EReal) * ((1 / (s * Real.log 2) : ℝ) : EReal)
          - Finset.univ.sup (fun j => (X j : EReal) * ((1 / (s * Real.log 2) : ℝ) : EReal))) * V j)
        (∑ j, Ideal.exp2 ((X j : EReal) * ((1 / (s * Real.log 2) : ℝ) : EReal)
          - Finset.univ.sup (fun j => (X j : EReal) * ((1 / (s * Real.log 2) : ℝ) : EReal))))
      = ∑ j, Ideal.div
          (Ideal.exp (Ideal.div (X j) (s : EReal) - Finset.univ.sup (fun j => Ideal.div (X j) (s : EReal))))
          (∑ j, Ideal.exp (Ideal.div (X j) (s : EReal) - Finset.univ.sup (fun j => Ideal.div (X j) (s : EReal)))) * V j := by
  have hc : 0 < 1 / (s * Real.log 2) := one_div_pos.mpr (mul_pos hs (Real.log_pos one_lt_two))
  have hd : ∀ j, Ideal.div (X j : EReal) (s : EReal) = ((X j * (1 / s) : ℝ) : EReal) := fun j => by
    rw [Ideal.div_coe hs.ne', EReal.coe_mul]
  have hm : ∀ j, (X j : EReal) * ((1 / (s * Real.log 2) : ℝ) : EReal) = ((X j * (1 / (s * Real.log 2)) : ℝ) : EReal) :=
    fun j => (EReal.coe_mul _ _).symm
  obtain ⟨t, ht⟩ := sup_coe X
  simp only [hd, hm]
  rw [sup_mul_coe X _ hc, sup_mul_coe X _ (one_div_pos.mpr hs), ht]
  have hw : ∀ j, Ideal.exp2 (((X j * (1 / (s * Real.log 2)) : ℝ) : EReal) - (t : EReal) * ((1 / (s * Real.log 2) : ℝ) : EReal))
      = ((Real.exp ((X j - t) * (1 / s)) : ℝ) : EReal) := fun j => by
    rw [← EReal.coe_mul, ← EReal.coe_sub, ← sub_mul, Ideal.exp2_coe, exp2_scaled s hs]
  have he : ∀ j, Ideal.exp (((X j * (1 / s) : ℝ) : EReal) - (t : EReal) * ((1 / s : ℝ) : EReal))
      = ((Real.exp ((X j - t) * (1 / s)) : ℝ) : EReal) := fun j => by
    rw [← EReal.coe_mul, ← EReal.coe_sub, ← sub_mul, Ideal.exp_coe]
  simp only [hw, he]
  rw [sum_coe]
  have hL : 0 < ∑ j, Real.exp ((X j - t) * (1 / s)) := Finset.sum_pos (fun j _ => Real.exp_pos _) Finset.univ_nonempty
  rw [Ideal.div_coe hL.ne', sum_mul_coe _ _ _ (one_div_pos.mpr hL)]
  refine Finset.sum_congr rfl fun j _ => ?_
  rw [Ideal.div_coe hL.ne', mul_assoc, mul_assoc, mul_comm (V j)]

/-- The same for any positive number of keys. -/
theorem attention_of_pos {n : ℕ} (hn : 0 < n) (X : Fin n → ℝ) (V : Fin n → EReal) (s : ℝ) (hs : 0 < s) :
    Ideal.div
        (∑ j, Ideal.exp2 ((X j : EReal) * ((1 / (s * Real.log 2) : ℝ) : EReal)
          - Finset.univ.sup (fun j => (X j : EReal) * ((1 / (s * Real.log 2) : ℝ) : EReal))) * V j)
        (∑ j, Ideal.exp2 ((X j : EReal) * ((1 / (s * Real.log 2) : ℝ) : EReal)
          - Finset.univ.sup (fun j => (X j : EReal) * ((1 / (s * Real.log 2) : ℝ) : EReal))))
      = ∑ j, Ideal.div
          (Ideal.exp (Ideal.div (X j) (s : EReal) - Finset.univ.sup (fun j => Ideal.div (X j) (s : EReal))))
          (∑ j, Ideal.exp (Ideal.div (X j) (s : EReal) - Finset.univ.sup (fun j => Ideal.div (X j) (s : EReal)))) * V j := by
  obtain ⟨k, rfl⟩ : ∃ k, n = k + 1 := ⟨n - 1, by omega⟩
  exact attention X V s hs

end Cert.Proof.Attn.Math

end
-- ==== Proof.AttnBody.lean ====
/-
  The attention call's body, run once for any float values: on whole staging buffers that hold one tile of queries and a
  head's keys and values, it leaves the three results' tiles at closed forms of those tiles. The first counted loop keeps
  the score tiles of the trips before it in the scratch buffer and the running row maxima (`mAt`); the second one the
  weighted sums (`aAt`).
-/
module

public import proofs.«01_k».proof.Proof.Gen.Kernel2Ideal.Skeleton
public import proofs.«01_k».proof.Proof.Gen.Kernel2Ideal.Launch
public import Idealize.ShloMosaic.Lib.Pipeline.FrameBody
public import Idealize.ShloMosaic.Lib.WritesUnit
public import Idealize.ShloMosaic.Lib.Exec
public import Idealize.ShloMosaic.Lib.Pipeline.Value
public import Idealize.ShloMosaic.Lib.VecWindow
public import Idealize.ShloMosaic.Lib.Tactic

@[expose] public section

set_option maxRecDepth 16384

noncomputable section

namespace Cert.Proof.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What the loops carry, in closed form -/

/-- The keys that trip `k` of the first loop reads: rows `256 k … 256 k + 255` of the head's keys. -/
def kb (x1 : Vec F S1x1x4096x256 .bf16) (k : Fin k0_t1_loop.trips) : Vec F S1x1x256x256 .bf16 :=
  View.ld x1 (Rect.unit (s := S1x1x4096x256) (k0_off1 k) S1x1x256x256.size (k0_off1_inb k))

/-- The values that trip `k` of the second loop reads. -/
def vb (x2 : Vec F S1x1x4096x128 .bf16) (k : Fin k0_t2_loop.trips) : Vec F S1x1x256x128 .bf16 :=
  View.ld x2 (Rect.unit (s := S1x1x4096x128) (k0_off4 k) S1x1x256x128.size (k0_off4_inb k))

/-- The running maxima before trip `k` of the first loop. -/
def mAt (x0 : Vec F S1x1x1024x256 .bf16) (x1 : Vec F S1x1x4096x256 .bf16) : ℕ → FVec F S1024x128 .f32
  | 0 => k0_pay1
  | k + 1 => if h : k < k0_t1_loop.trips then k0_pay4 x0 (mAt x0 x1 k) (kb x1 ⟨k, h⟩) else mAt x0 x1 k

/-- The row maxima the second loop reads. -/
abbrev mEnd (x0 : Vec F S1x1x1024x256 .bf16) (x1 : Vec F S1x1x4096x256 .bf16) : FVec F S1024x128 .f32 :=
  mAt x0 x1 k0_t1_loop.trips

/-- The weighted sums before trip `k` of the second loop. -/
def aAt (x0 : Vec F S1x1x1024x256 .bf16) (x1 : Vec F S1x1x4096x256 .bf16) (x2 : Vec F S1x1x4096x128 .bf16) :
    ℕ → FVec F S1024x256 .f32
  | 0 => k0_pay5
  | k + 1 => if h : k < k0_t2_loop.trips then
      k0_pay6 (mEnd x0 x1) (aAt x0 x1 x2 k) (k0_pay3 x0 (kb x1 ⟨k, h⟩)) (vb x2 ⟨k, h⟩) else aAt x0 x1 x2 k

/-- The attention tile the body stores. -/
def out5 (x0 : Vec F S1x1x1024x256 .bf16) (x1 : Vec F S1x1x4096x256 .bf16) (x2 : Vec F S1x1x4096x128 .bf16) :
    Vec F S1x1024x128 .bf16 := k0_pay7 (aAt x0 x1 x2 k0_t2_loop.trips)

theorem mAt_succ (x0 : Vec F S1x1x1024x256 .bf16) (x1 : Vec F S1x1x4096x256 .bf16) (k : Fin k0_t1_loop.trips) :
    mAt x0 x1 (k.val + 1) = k0_pay4 x0 (mAt x0 x1 k.val) (kb x1 k) := by rw [mAt, dif_pos k.isLt]

theorem aAt_succ (x0 : Vec F S1x1x1024x256 .bf16) (x1 : Vec F S1x1x4096x256 .bf16) (x2 : Vec F S1x1x4096x128 .bf16)
    (k : Fin k0_t2_loop.trips) : aAt x0 x1 x2 (k.val + 1)
      = k0_pay6 (mEnd x0 x1) (aAt x0 x1 x2 k.val) (k0_pay3 x0 (kb x1 k)) (vb x2 k) := by rw [aAt, dif_pos k.isLt]

/-! ## The loops -/

/-- A store of the whole of a buffer leaves what was stored, whatever was there. -/
theorem read_store8 (M : Memref sig .tc .vmem S1x1024x128 .bf16) (f : M.view.ty.Contents (Elt F)) (w : Vec F S1x1024x128 .bf16) :
    M.view.read (Elt F) (M.view.writes (Elt F) f [⟨Rect.unit ![0, 0, 0] S1x1024x128.size inb_S1x1024x128_S1x1024x128_0_0_0, w⟩]) = w :=
  View.read_writes_full (s := S1x1024x128) M.view f _ w []

/-- The same for the transposed table's block. -/
theorem read_store9 (M : Memref sig .tc .vmem S1024x256 .bf16) (f : M.view.ty.Contents (Elt F)) (w : Vec F S1024x256 .bf16) :
    M.view.read (Elt F) (M.view.writes (Elt F) f [⟨Rect.unit ![0, 0] S1024x256.size inb_S1024x256_S1024x256_0_0, w⟩]) = w :=
  View.read_writes_full (s := S1024x256) M.view f _ w []

/-- The same for the second table's block. -/
theorem read_store10 (M : Memref sig .tc .vmem S256x1024 .bf16) (f : M.view.ty.Contents (Elt F)) (w : Vec F S256x1024 .bf16) :
    M.view.read (Elt F) (M.view.writes (Elt F) f [⟨Rect.unit ![0, 0] S256x1024.size inb_S256x1024_S256x1024_0_0, w⟩]) = w :=
  View.read_writes_full (s := S256x1024) M.view f _ w []

section Loops

variable (c : Dev nD) (i : grid0.Coords)
  (arg3 : Memref sig .tc .vmem S1x1x1024x256 .bf16) (harg3 : arg3.IsWhole)
  (arg4 : Memref sig .tc .vmem S1x1x4096x256 .bf16) (harg4 : arg4.IsWhole)
  (arg5 : Memref sig .tc .vmem S1x1x4096x128 .bf16) (harg5 : arg5.IsWhole)
  (arg6 : Memref sig .tc .vmem S256x1024 .f32) (harg6 : arg6.IsWhole)
  (arg7 : Memref sig .tc .vmem S256x1024 .f32) (harg7 : arg7.IsWhole)
  (arg8 : Memref sig .tc .vmem S1x1024x128 .bf16) (harg8 : arg8.IsWhole)
  (arg9 : Memref sig .tc .vmem S1024x256 .bf16) (harg9 : arg9.IsWhole)
  (arg10 : Memref sig .tc .vmem S256x1024 .bf16) (harg10 : arg10.IsWhole)
  (arg11 : Memref sig .tc .vmem S16x1024x256 .f32) (harg11 : arg11.IsWhole)

/-- Tile `j` of the scratch buffer's contents, as trip `j` writes and reads it. -/
abbrev tile (X : Vec F S16x1024x256 .f32) (j : Fin k0_t1_loop.trips) : Vec F S1x1024x256 .f32 :=
  View.ld X (Rect.unit (s := S16x1024x256) (k0_off2 j) S1x1024x256.size (k0_off2_inb j))

/-- The scratch buffer holds the score tiles of the trips before `k`. -/
def Tiles (x0 : Vec F S1x1x1024x256 .bf16) (x1 : Vec F S1x1x4096x256 .bf16) (X : Vec F S16x1024x256 .f32) (k : ℕ) : Prop :=
  ∀ j : Fin k0_t1_loop.trips, j.val < k → tile X j = k0_pay3 x0 (kb x1 j)

/-- Trip `k`'s store adds its own tile and keeps the earlier ones. -/
theorem Tiles.step {x0 : Vec F S1x1x1024x256 .bf16} {x1 : Vec F S1x1x4096x256 .bf16}
    {f : arg11.view.ty.Contents (Elt F)} (k : Fin k0_t1_loop.trips)
    (h : Tiles x0 x1 (arg11.view.read (Elt F) f) k.val) (w : Vec F S1x1024x256 .f32) (hw : w = k0_pay3 x0 (kb x1 k)) :
    Tiles x0 x1 (arg11.view.read (Elt F) (arg11.view.writes (Elt F) f
      [⟨Rect.unit (s := S16x1024x256) (k0_off2 k) S1x1024x256.size (k0_off2_inb k), w⟩])) (k.val + 1) := by
  intro j hj
  by_cases hjk : j = k
  · subst hjk
    rw [← hw]
    funext x
    exact View.read_writes_cons_emb arg11.view f (Rect.unit (s := S16x1024x256) (k0_off2 j) S1x1024x256.size (k0_off2_inb j)) w [] x
  · have hlt : j.val < k.val := by
      have : j.val ≠ k.val := fun e => hjk (Fin.ext e)
      omega
    rw [← h j hlt]
    funext x
    refine (View.read_writes_cons_unit_of_not_mem arg11.view f (k0_off2_inb k) w []
      ((Rect.unit (s := S16x1024x256) (k0_off2 j) S1x1024x256.size (k0_off2_inb j)).toLoadRect.idx x) (k0_off2_eq k) (0 : Fin 3) (Or.inl ?_)).trans ?_
    swap
    · rw [View.writes_nil]
    show k0_off2 j 0 + 1 * (x 0).val < k.val
    have h0 : (x 0).val < 1 := (x 0).isLt
    rw [k0_off2_eq j]
    show j.val + 1 * (x 0).val < k.val
    omega

/-- The first loop: the keys stay, the scratch buffer fills tile by tile, the carried value is the running maximum. -/
@[instance_reducible] def inv1 (x0 : Vec F S1x1x1024x256 .bf16) (x1 : Vec F S1x1x4096x256 .bf16) :
    Idealize.ShloMosaic.LoopInv (M := 𝕄) Idealize.ShloMosaic.frame
      (wpE (defs₀ (F := F)) Variants.none (c : Thread nD τ) none) Set.univ
      k0_t1_loop.lb k0_t1_loop.ub k0_t1_loop.st k0_t1_ok (k0_pay1 (F := F))
      (k0_t1_body (F := F) i arg3 harg3 arg4 harg4 arg5 harg5 arg6 harg6 arg7 harg7 arg8 harg8 arg9 harg9 arg10 harg10 arg11 harg11 x0) where
  inv k acc := iprop((arg4.view.loc (c : Thread nD τ) ↦[arg4.view.set]{fullShare} (harg4.unread x1))
    ∗ (∃ f, (arg11.view.loc (c : Thread nD τ) ↦[arg11.view.set]{fullShare} f) ∗ ⌜Tiles x0 x1 (arg11.view.read (Elt F) f) k⌝)
    ∗ ⌜acc = mAt x0 x1 k⌝)
  step k acc := by
    have hk : k.val < 16 := Nat.lt_of_lt_of_le k.isLt k0_t1_abs.2.1
    iintro ⟨H4, ⟨%f, H11, %hf⟩, %hacc⟩
    subst hacc
    sl_unfold [k0_t1_body]
    sl_exec
    sl_step
    have hkb : View.readAt (Elt F) arg4.view (Rect.unit (s := S1x1x4096x256) (k0_off1 k) S1x1x256x256.size (k0_off1_inb k)).toLoadRect
        (harg4.unread x1) = kb x1 k := by
      rw [View.readAt_eq_ld, harg4.read_unread]; rfl
    isplitl [H4]; · iexact H4
    isplitl [H11]
    · iexists _; isplitl [H11]; · iexact H11
      ipureintro
      exact Tiles.step arg11 k hf _ (by rw [hkb])
    ipureintro
    rw [mAt_succ, ← hkb]

/-- The second loop: keys' score tiles and the values stay, the carried value is the running weighted sum. -/
@[instance_reducible] def inv2 (x0 : Vec F S1x1x1024x256 .bf16) (x1 : Vec F S1x1x4096x256 .bf16) (x2 : Vec F S1x1x4096x128 .bf16) :
    Idealize.ShloMosaic.LoopInv (M := 𝕄) Idealize.ShloMosaic.frame
      (wpE (defs₀ (F := F)) Variants.none (c : Thread nD τ) none) Set.univ
      k0_t2_loop.lb k0_t2_loop.ub k0_t2_loop.st k0_t2_ok (k0_pay5 (F := F))
      (k0_t2_body (F := F) i arg3 harg3 arg4 harg4 arg5 harg5 arg6 harg6 arg7 harg7 arg8 harg8 arg9 harg9 arg10 harg10 arg11 harg11 (mEnd x0 x1)) where
  inv k acc := iprop((arg5.view.loc (c : Thread nD τ) ↦[arg5.view.set]{fullShare} (harg5.unread x2))
    ∗ (∃ f, (arg11.view.loc (c : Thread nD τ) ↦[arg11.view.set]{fullShare} f) ∗ ⌜Tiles x0 x1 (arg11.view.read (Elt F) f) k0_t1_loop.trips⌝)
    ∗ ⌜acc = aAt x0 x1 x2 k⌝)
  step k acc := by
    have hk : k.val < 16 := Nat.lt_of_lt_of_le k.isLt k0_t2_abs.2.1
    iintro ⟨H5, ⟨%f, H11, %hf⟩, %hacc⟩
    subst hacc
    sl_unfold [k0_t2_body]
    sl_exec
    sl_step
    have hvb : View.readAt (Elt F) arg5.view (Rect.unit (s := S1x1x4096x128) (k0_off4 k) S1x1x256x128.size (k0_off4_inb k)).toLoadRect
        (harg5.unread x2) = vb x2 k := by
      rw [View.readAt_eq_ld, harg5.read_unread]; rfl
    have hst : View.readAt (Elt F) arg11.view (Rect.unit (s := S16x1024x256) (k0_off3 k) S1x1024x256.size (k0_off3_inb k)).toLoadRect f
        = k0_pay3 x0 (kb x1 k) := hf k k.isLt
    isplitl [H5]; · iexact H5
    isplitl [H11]
    · iexists _; isplitl [H11]; · iexact H11
      ipureintro; exact hf
    ipureintro
    rw [aAt_succ, ← hvb, ← hst]

set_option maxHeartbeats 1000000 in
/-- The body: from whole staging buffers holding the inputs' tiles, to the three results' tiles. -/
theorem body (x0 : Vec F S1x1x1024x256 .bf16) (x1 : Vec F S1x1x4096x256 .bf16) (x2 : Vec F S1x1x4096x128 .bf16)
    (x3 x4 : Vec F S256x1024 .f32) (E : Set ℕ) (hE : E = Set.univ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (out5 x0 x1 x2) ∗ owns (c : Thread nD τ) arg9 fullShare (k0_pay8 x3)
            ∗ owns (c : Thread nD τ) arg10 fullShare (k0_pay9 x4) ∗ (∃ d, owns (c : Thread nD τ) arg11 fullShare d)) -∗ K ⟨⟩))
      ⊢ wp frame (wpE (defs₀ (F := F)) Variants.none c none) E
          (cc0_attention i arg3 harg3 arg4 harg4 arg5 harg5 arg6 harg6 arg7 harg7 arg8 harg8 arg9 harg9 arg10 harg10 arg11 harg11) K := by
  subst hE
  simp only [cc0_attention_eq_skeleton]; unfold cc0_attention_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
  obtain rfl := harg3.eq_unread hf0; obtain rfl := harg4.eq_unread hf1; obtain rfl := harg5.eq_unread hf2; obtain rfl := harg6.eq_unread hf3; obtain rfl := harg7.eq_unread hf4
  have hz4 : (![0, 0, 0, 0] : Fin 4 → Nat) = fun _ => 0 := funext fun a => by fin_cases a <;> rfl
  have hx0 : View.readAt (Elt F) arg3.view (Rect.unit (s := S1x1x1024x256) ![0, 0, 0, 0] S1x1x1024x256.size inb_S1x1x1024x256_S1x1x1024x256_0_0_0_0).toLoadRect
        (harg3.unread x0) = x0 := by
    rw [View.readAt_eq_ld, harg3.read_unread, View.ld_unit_zero (S := S1x1x1024x256) hz4]
  let L1 := inv1 c i arg3 harg3 arg4 harg4 arg5 harg5 arg6 harg6 arg7 harg7 arg8 harg8 arg9 harg9 arg10 harg10 arg11 harg11 x0 x1
  let L2 := inv2 c i arg3 harg3 arg4 harg4 arg5 harg5 arg6 harg6 arg7 harg7 arg8 harg8 arg9 harg9 arg10 harg10 arg11 harg11 x0 x1 x2
  have htile0 : Tiles x0 x1 (arg11.view.read (Elt F) fs0) 0 := fun j hj => absurd hj (Nat.not_lt_zero _)
  have hz2 : (![0, 0] : Fin 2 → Nat) = fun _ => 0 := funext fun a => by fin_cases a <;> rfl
  have hx3 : View.readAt (Elt F) arg6.view (Rect.unit (s := S256x1024) ![0, 0] S256x1024.size inb_S256x1024_S256x1024_0_0).toLoadRect
        (harg6.unread x3) = x3 := by
    rw [View.readAt_eq_ld, harg6.read_unread, View.ld_unit_zero (S := S256x1024) hz2]
  have hx4 : View.readAt (Elt F) arg7.view (Rect.unit (s := S256x1024) ![0, 0] S256x1024.size inb_S256x1024_S256x1024_0_0).toLoadRect
        (harg7.unread x4) = x4 := by
    rw [View.readAt_eq_ld, harg7.read_unread, View.ld_unit_zero (S := S256x1024) hz2]
  sl_exec
  sl_exec
  sl_step
  iapply Hk
  isplitl [H0]; · iexists _; isplitr; · ipureintro; exact harg3.read_unread _
                  iexact H0
  isplitl [H1]; · iexists _; isplitr; · ipureintro; exact harg4.read_unread _
                  iexact H1
  isplitl [H2]; · iexists _; isplitr; · ipureintro; exact harg5.read_unread _
                  iexact H2
  isplitl [H3]; · iexists _; isplitr; · ipureintro; exact harg6.read_unread _
                  iexact H3
  isplitl [H4]; · iexists _; isplitr; · ipureintro; exact harg7.read_unread _
                  iexact H4
  isplitl [H5]; · iexists _; isplitr
                  · ipureintro
                    exact read_store8 arg8 f5 (out5 x0 x1 x2)
                  iexact H5
  isplitl [H6]; · iexists _; isplitr
                  · ipureintro
                    exact read_store9 arg9 f6 _
                  iexact H6
  isplitl [H7]; · iexists _; isplitr
                  · ipureintro
                    exact read_store10 arg10 f7 _
                  iexact H7
  iexists (arg11.view.read (Elt F) fL1); iexists fL1; isplitr; · ipureintro; rfl
  iexact HS0

end Loops

end Cert.Proof.Attn

end
-- ==== Proof.AttnTile.lean ====
/-
  The attention tile at one element, over the extended reals: with `sc r j` the score of query row `r` against key `j`,
  the first loop's maxima end at the row's greatest score, the second loop's sums at the sums over all keys of
  `2 ^ (sc r j - greatest)` times the value (columns below 128) or times one (the others), and the tile is the quotient.
-/
module

public import proofs.«01_k».proof.Proof.AttnBody
public import Idealize.ShloMosaic.Lib.Pointwise

@[expose] public section

set_option maxRecDepth 16384

noncomputable section

namespace Cert.Proof.Attn

open Cert.Kernel2Ideal Cert.Kernel2Ideal.Gen
open Idealize.ShloMosaic

/-! ## The body's values at an element -/

theorem pay2_apply (x0 : Vec Ideal S1x1x1024x256 .bf16) (y : Vec Ideal S1x1x256x256 .bf16) (r : Fin 1024) (l : Fin 256) :
    k0_pay2 x0 y (ix2 r l) = ∑ d : Fin 256, x0 (ix4 0 0 r d) * y (ix4 0 0 l d) := by
  pointwise [k0_pay2]

theorem pay3_apply (x0 : Vec Ideal S1x1x1024x256 .bf16) (y : Vec Ideal S1x1x256x256 .bf16) (r : Fin 1024) (l : Fin 256) :
    k0_pay3 x0 y (ix3 0 r l) = k0_pay2 x0 y (ix2 r l) := by
  pointwise [k0_pay3]

theorem pay4_apply (x0 : Vec Ideal S1x1x1024x256 .bf16) (m : FVec Ideal S1024x128 .f32) (y : Vec Ideal S1x1x256x256 .bf16)
    (r : Fin 1024) (l : Fin 128) : k0_pay4 x0 m y (ix2 r l)
      = max (max (m (ix2 r l)) (k0_pay2 x0 y (ix2 r ⟨l.val, by omega⟩))) (k0_pay2 x0 y (ix2 r ⟨128 + l.val, by omega⟩)) := by
  pointwise [k0_pay4]

theorem pay6_apply (m : FVec Ideal S1024x128 .f32) (a : FVec Ideal S1024x256 .f32) (s : Vec Ideal S1x1024x256 .f32)
    (v : Vec Ideal S1x1x256x128 .bf16) (r : Fin 1024) (l : Fin 256) : k0_pay6 m a s v (ix2 r l)
      = a (ix2 r l) + ∑ x : Fin 256,
          Ideal.exp2 (s (ix3 0 r x) - Finset.univ.fold max (Ideal.ofBits FTy.f32 4286578688#32) (fun x => m (ix2 r x)))
            * if h : l.val < 128 then v (ix4 0 0 x ⟨l.val, h⟩) else 1 := by
  pointwise [k0_pay6]
  rfl

theorem pay7_apply (a : FVec Ideal S1024x256 .f32) (r : Fin 1024) (l : Fin 128) :
    k0_pay7 a (ix3 0 r l) = Ideal.div (a (ix2 r ⟨l.val, by omega⟩)) (a (ix2 r ⟨128 + l.val, by omega⟩)) := by
  pointwise [k0_pay7]

theorem trips1 : k0_t1_loop.trips = 16 := by decide +kernel
theorem trips2 : k0_t2_loop.trips = 16 := by decide +kernel

theorem neg_inf : Ideal.ofBits FTy.f32 4286578688#32 = (⊥ : EReal) := by simp [Ideal.ofBits, Ideal.ieee]

/-! ## The blocks of keys and values the trips read -/

theorem kb_apply (x1 : Vec Ideal S1x1x4096x256 .bf16) (k : Fin k0_t1_loop.trips) (l d : Fin 256) (h : 256 * k.val + l.val < 4096) :
    kb x1 k (ix4 0 0 l d) = x1 (ix4 0 0 ⟨256 * k.val + l.val, h⟩ d) := by
  unfold kb
  refine congrArg x1 (funext fun a => Fin.ext ?_)
  show k0_off1 k a + 1 * (ix4 (0 : Fin 1) (0 : Fin 1) l d a).val = _
  rw [k0_off1_eq]
  fin_cases a <;> simp

theorem vb_apply (x2 : Vec Ideal S1x1x4096x128 .bf16) (k : Fin k0_t2_loop.trips) (l : Fin 256) (d : Fin 128)
    (h : 256 * k.val + l.val < 4096) :
    vb x2 k (ix4 0 0 l d) = x2 (ix4 0 0 ⟨256 * k.val + l.val, h⟩ d) := by
  unfold vb
  refine congrArg x2 (funext fun a => Fin.ext ?_)
  show k0_off4 k a + 1 * (ix4 (0 : Fin 1) (0 : Fin 1) l d a).val = _
  rw [k0_off4_eq]
  fin_cases a <;> simp

/-! ## The row's greatest score -/

variable (x0 : Vec Ideal S1x1x1024x256 .bf16) (x1 : Vec Ideal S1x1x4096x256 .bf16) (x2 : Vec Ideal S1x1x4096x128 .bf16)

/-- The score of query row `r` against key `j`. -/
def sc (r : Fin 1024) (j : Fin 4096) : EReal := ∑ d : Fin 256, x0 (ix4 0 0 r d) * x1 (ix4 0 0 j d)

theorem score_tile (k : Fin k0_t1_loop.trips) (r : Fin 1024) (l : Fin 256) (h : 256 * k.val + l.val < 4096) :
    k0_pay2 x0 (kb x1 k) (ix2 r l) = sc x0 x1 r ⟨256 * k.val + l.val, h⟩ := by
  rw [pay2_apply, sc]
  exact Finset.sum_congr rfl fun d _ => by rw [kb_apply x1 k l d h]

/-- Before trip `k`, lane `l` holds the maximum over the keys already seen that lie at that lane. -/
theorem mAt_le_iff (k : ℕ) (hk : k ≤ 16) (r : Fin 1024) (l : Fin 128) (b : EReal) :
    mAt x0 x1 k (ix2 r l) ≤ b ↔ ∀ j : Fin 4096, j.val < 256 * k → j.val % 128 = l.val → sc x0 x1 r j ≤ b := by
  induction k with
  | zero =>
    refine ⟨fun _ j hj => absurd hj (by omega), fun _ => ?_⟩
    show Ideal.ofBits FTy.f32 4286578688#32 ≤ b
    rw [neg_inf]; exact bot_le
  | succ k ih =>
    have hk' : k < k0_t1_loop.trips := by rw [trips1]; omega
    rw [mAt_succ x0 x1 ⟨k, hk'⟩, pay4_apply, max_le_iff, max_le_iff, ih (by omega),
      score_tile x0 x1 ⟨k, hk'⟩ r _ (by show 256 * k + l.val < 4096; omega),
      score_tile x0 x1 ⟨k, hk'⟩ r _ (by show 256 * k + (128 + l.val) < 4096; omega)]
    constructor
    · rintro ⟨⟨h0, h1⟩, h2⟩ j hj hl
      by_cases ha : j.val < 256 * k
      · exact h0 j ha hl
      by_cases hb : j.val < 256 * k + 128
      · rwa [show j = ⟨256 * k + l.val, by omega⟩ from Fin.ext (by show j.val = 256 * k + l.val; omega)]
      · rwa [show j = ⟨256 * k + (128 + l.val), by omega⟩ from Fin.ext (by show j.val = 256 * k + (128 + l.val); omega)]
    · intro h
      refine ⟨⟨fun j hj hl => h j (by omega) hl, h _ ?_ ?_⟩, h _ ?_ ?_⟩ <;> dsimp only <;> omega

/-- The greatest score of row `r`. -/
def top (r : Fin 1024) : EReal := Finset.univ.sup (sc x0 x1 r)

/-- The maximum over the lanes after the first loop is the row's greatest score. -/
theorem fold_mEnd (r : Fin 1024) :
    Finset.univ.fold max (Ideal.ofBits FTy.f32 4286578688#32) (fun l : Fin 128 => mEnd x0 x1 (ix2 r l)) = top x0 x1 r := by
  refine eq_of_forall_ge_iff fun b => ?_
  rw [neg_inf, Finset.fold_max_le, top, Finset.sup_le_iff]
  have hl : ∀ l : Fin 128, mEnd x0 x1 (ix2 r l) ≤ b ↔
      ∀ j : Fin 4096, j.val < 256 * 16 → j.val % 128 = l.val → sc x0 x1 r j ≤ b := fun l => by
    rw [mEnd, trips1]; exact mAt_le_iff x0 x1 16 le_rfl r l b
  constructor
  · rintro ⟨_, h⟩ j _
    exact (hl ⟨j.val % 128, Nat.mod_lt _ (by decide)⟩).mp (h _ (Finset.mem_univ _)) j (by omega) rfl
  · intro h
    exact ⟨bot_le, fun l _ => (hl l).mpr fun j _ _ => h j (Finset.mem_univ _)⟩

/-! ## The weighted sums -/

/-- The weight of key `j` in row `r`. -/
def wt (r : Fin 1024) (j : Fin 4096) : EReal := Ideal.exp2 (sc x0 x1 r j - top x0 x1 r)

/-- Column `c` of the values with the block of ones behind them. -/
def vv (j : Fin 4096) (c : Fin 256) : EReal := if h : c.val < 128 then x2 (ix4 0 0 j ⟨c.val, h⟩) else 1

theorem aAt_apply (k : ℕ) (hk : k ≤ 16) (r : Fin 1024) (c : Fin 256) :
    aAt x0 x1 x2 k (ix2 r c) = ∑ i : Fin k, ∑ l : Fin 256,
      wt x0 x1 r ⟨i.val * 256 + l.val, by omega⟩ * vv x2 ⟨i.val * 256 + l.val, by omega⟩ c := by
  induction k with
  | zero =>
    show Ideal.ofBits FTy.f32 0x00000000#32 = _
    simp [Ideal.ofBits, Ideal.ieee]
  | succ k ih =>
    have hk' : k < k0_t2_loop.trips := by rw [trips2]; omega
    have hk1 : k < k0_t1_loop.trips := by rw [trips1]; omega
    rw [aAt_succ x0 x1 x2 ⟨k, hk'⟩, pay6_apply, ih (by omega), Fin.sum_univ_castSucc (n := k)]
    refine congrArg₂ (fun (a b : EReal) => a + b) rfl ?_
    refine Finset.sum_congr rfl fun l _ => ?_
    have e : (⟨256 * k + l.val, by omega⟩ : Fin 4096) = ⟨k * 256 + l.val, by omega⟩ := Fin.ext (by show 256 * k + l.val = k * 256 + l.val; omega)
    rw [fold_mEnd, pay3_apply]
    refine congrArg₂ (· * ·) ?_ ?_
    · rw [score_tile x0 x1 ⟨k, hk1⟩ r l (by show 256 * k + l.val < 4096; omega), wt]
      exact congrArg (fun j => Ideal.exp2 (sc x0 x1 r j - top x0 x1 r)) e
    · rw [vv]
      by_cases h : c.val < 128
      · rw [dif_pos h, dif_pos h, vb_apply x2 ⟨k, hk'⟩ l _ (by show 256 * k + l.val < 4096; omega)]
        exact congrArg (fun j => x2 (ix4 0 0 j ⟨c.val, h⟩)) e
      · rw [dif_neg h, dif_neg h]

theorem aEnd_apply (r : Fin 1024) (c : Fin 256) :
    aAt x0 x1 x2 k0_t2_loop.trips (ix2 r c) = ∑ j : Fin 4096, wt x0 x1 r j * vv x2 j c := by
  rw [trips2, aAt_apply x0 x1 x2 16 le_rfl, Fin.sum_univ_tiles 16 256 rfl]

/-- The attention tile: the weighted sum of the values over the sum of the weights. -/
theorem out5_apply (r : Fin 1024) (c : Fin 128) : out5 x0 x1 x2 (ix3 0 r c)
    = Ideal.div (∑ j : Fin 4096, wt x0 x1 r j * x2 (ix4 0 0 j c)) (∑ j : Fin 4096, wt x0 x1 r j) := by
  rw [out5, pay7_apply, aEnd_apply, aEnd_apply]
  refine congrArg₂ Ideal.div (Finset.sum_congr rfl fun j _ => ?_) (Finset.sum_congr rfl fun j _ => ?_)
  · rw [vv, dif_pos c.isLt]
  · rw [vv, dif_neg (by show ¬ 128 + c.val < 128; omega), mul_one]

end Cert.Proof.Attn

end
-- ==== Proof.AttnRun.lean ====
/-
  The attention call run over its whole grid, for any float values: every result array after the run, block by block, is
  what the body leaves (`AttnBody.body`) of the blocks the pipeline brings it.
-/
module

public import proofs.«01_k».proof.Proof.AttnBody
public import proofs.«01_k».proof.Proof.Gen.Kernel2Ideal.Frame.Runs
public import Idealize.ShloMosaic.Lib.Pipeline.Value
public import Idealize.ShloMosaic.Lib.Claim

@[expose] public section

set_option maxRecDepth 16384

noncomputable section

namespace Cert.Proof.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the inputs' buffers keep their blocks, the results' hold the body's tiles. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t)
    | ⟨6, _⟩ => k0_pay8 (iblk m c 3 t)
    | ⟨7, _⟩ => k0_pay9 (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out5 (iblk m c 0 t) (iblk m c 1 t) (iblk m c 2 t) := by dsimp only [dats]
theorem after0_6 (c : Dev nD) (t : Fin cfg0.N) : (dats m 0 c).after 6 t = k0_pay8 (iblk m c 3 t) := by dsimp only [dats]
theorem after0_7 (c : Dev nD) (t : Fin cfg0.N) : (dats m 0 c).after 7 t = k0_pay9 (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

/-- The body at any point: `body` at the point's blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body c (grid0.coords t) _ _ _ _ _ _ _ _ _ _ _ _ _ _ _ _ _ _ (iblk m c 0 t) (iblk m c 1 t) (iblk m c 2 t) (iblk m c 3 t) (iblk m c 4 t) Set.univ rfl _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  iintro ⟨H0, H1, H2, H3, H4, H5, H6, H7, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the library's launch theorem is unified with this statement through plain definitions
set_option backward.isDefEq.respectTransparency.types false in
/-- The launch: every execution ends, with the arrays as the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

/-! ## The result arrays, block by block -/

/-- Distinct points write distinct blocks of the attention result, -/
theorem idx_inj5 : ∀ t t' : Fin cfg0.N, win0_5.index t = win0_5.index t' → t = t' :=
  (by decide +kernel : ∀ t t' : Fin grid0.N, win0_5.index t = win0_5.index t' → t = t')
/-- of the first table, -/
theorem idx_inj6 : ∀ t t' : Fin cfg0.N, win0_6.index t = win0_6.index t' → t = t' :=
  (by decide +kernel : ∀ t t' : Fin grid0.N, win0_6.index t = win0_6.index t' → t = t')
/-- and of the second. -/
theorem idx_inj7 : ∀ t t' : Fin cfg0.N, win0_7.index t = win0_7.index t' → t = t' :=
  (by decide +kernel : ∀ t t' : Fin grid0.N, win0_7.index t = win0_7.index t' → t = t')

/-- So block `t` of the attention result after the run is what point `t` left, -/
theorem blocks5 (c : Dev nD) (t : Fin cfg0.N) (hf : (cfg0.win 5).flush t = true) :
    ((cfg0.win 5).blk t).view.read (Elt F) ((dats m 0 c).arrAt 5 cfg0.N)
      = (cfg0.win 5).cut (grid0.coords t) (out5 (iblk m c 0 t) (iblk m c 1 t) (iblk m c 2 t)) := by
  rw [(dats m 0 c).read_blk_arrAt_eq_flushed 5
    (fun t t' _ _ hne => (cfg0.win 5).disjoint_blk fun h => hne (idx_inj5 t t' h)) cfg0.N t t.isLt hf]
  show (cfg0.win 5).cut (grid0.coords t) ((dats m 0 c).after 5 t) = _
  rw [after0_5]

/-- block `t` of the first table's the transpose of its block, -/
theorem blocks6 (c : Dev nD) (t : Fin cfg0.N) (hf : (cfg0.win 6).flush t = true) :
    ((cfg0.win 6).blk t).view.read (Elt F) ((dats m 0 c).arrAt 6 cfg0.N)
      = (cfg0.win 6).cut (grid0.coords t) (k0_pay8 (iblk m c 3 t)) := by
  rw [(dats m 0 c).read_blk_arrAt_eq_flushed 6
    (fun t t' _ _ hne => (cfg0.win 6).disjoint_blk fun h => hne (idx_inj6 t t' h)) cfg0.N t t.isLt hf]
  show (cfg0.win 6).cut (grid0.coords t) ((dats m 0 c).after 6 t) = _
  rw [after0_6]

/-- and block `t` of the second table's its block. -/
theorem blocks7 (c : Dev nD) (t : Fin cfg0.N) (hf : (cfg0.win 7).flush t = true) :
    ((cfg0.win 7).blk t).view.read (Elt F) ((dats m 0 c).arrAt 7 cfg0.N)
      = (cfg0.win 7).cut (grid0.coords t) (k0_pay9 (iblk m c 4 t)) := by
  rw [(dats m 0 c).read_blk_arrAt_eq_flushed 7
    (fun t t' _ _ hne => (cfg0.win 7).disjoint_blk fun h => hne (idx_inj7 t t' h)) cfg0.N t t.isLt hf]
  show (cfg0.win 7).cut (grid0.coords t) ((dats m 0 c).after 7 t) = _
  rw [after0_7]

/-- The run with its three result arrays named and the arguments unchanged. -/
theorem run_blocks : θ_run defs (onTc (τ := τ) (main (F := F))) ⟨m, fun _ => 0, ρ⟩ fun r => ∀ c : Dev nD,
      r.2.mem ((c : Thread nD τ).loc main_v14_0) = (dats m 0 c).arrAt 5 cfg0.N
      ∧ r.2.mem ((c : Thread nD τ).loc main_v14_1) = (dats m 0 c).arrAt 6 cfg0.N
      ∧ r.2.mem ((c : Thread nD τ).loc main_v14_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 5, (h c).1 6, (h c).1 7,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.Proof.Attn

end
-- ==== Proof.AttnHost.lean ====
/-
  What the host operations before the attention call leave in its operands, one element at a time: the queries scaled
  and head-major, the keys and values head-major, queries and keys padded by zeros from 192 to 256 columns.
-/
module

public import proofs.«01_k».proof.Proof.Gen.Kernel2Ideal.Frame.Runs
public import Idealize.ShloMosaic.Lib.Pointwise
public import Idealize.ShloMosaic.Lib.StableHlo.Run

@[expose] public section

set_option maxRecDepth 16384

noncomputable section

namespace Cert.Proof.Attn

open Cert.Kernel2Ideal Cert.Kernel2Ideal.Gen
open Idealize.ShloMosaic Idealize.ShloMosaic.TcCoe Idealize.SL.Sem

variable (m : (ℓ : Loc nD τ sig) → Buf (Elt Ideal) ℓ) (c : Dev nD)

/-- The queries, -/
abbrev qArr : FVec Ideal S4x4096x4x192 .f32 := m ((c : Thread nD τ).loc main_arg0)
/-- keys -/
abbrev kArr : FVec Ideal S4x4096x4x192 .f32 := m ((c : Thread nD τ).loc main_arg1)
/-- and values of a launch, -/
abbrev vArr : FVec Ideal S4x4096x4x128 .f32 := m ((c : Thread nD τ).loc main_arg2)
/-- and its two expert tables. -/
abbrev uTab : FVec Ideal S16384x1024 .f32 := m ((c : Thread nD τ).loc main_arg3)
/-- The second table. -/
abbrev wTab : FVec Ideal S16384x1024 .f32 := m ((c : Thread nD τ).loc main_arg4)

/-- The scale of the queries, as the host computes it. -/
def scale : FVec Ideal S_ .f32 := Host.divf (constant S_ .f32 0x3F800000#32)
  (mulf (Host.sqrt (constant S_ .f32 0x43400000#32)) (Host.log (constant S_ .f32 0x40000000#32)))

/-- Head-major, and zeros behind the 192 columns. -/
def padded (x : FVec Ideal S4x4096x4x192 .f32) : FVec Ideal S4x4x4096x256 .bf16 :=
  truncf .bf16 (pad S4x4x4096x256 ![0, 0, 0, 0] ![0, 0, 0, 64] ![0, 0, 0, 0]
    (transpose S4x4x4096x192 [0, 2, 1, 3] x transposes_S4x4096x4x192_S4x4x4096x192_0_2_1_3) (sitofp .f32 (constantI S_ 32 0#32))
    pads_S4x4x4096x192_S4x4x4096x256_000_000_000_0640 h_S_) bitsLt_bf16_f32

/-- Head-major. -/
def heads (x : FVec Ideal S4x4096x4x128 .f32) : FVec Ideal S4x4x4096x128 .bf16 :=
  truncf .bf16 (transpose S4x4x4096x128 [0, 2, 1, 3] x transposes_S4x4096x4x128_S4x4x4096x128_0_2_1_3) bitsLt_bf16_f32

theorem V_v8 : (V m c main_v8 : FVec Ideal S4x4x4096x256 .bf16)
    = padded (mulf (qArr m c) (broadcastInDim S4x4096x4x192 ![] bcast_S_S4x4096x4x192 scale)) := by
  unfold V
  after_results <;> rfl

theorem V_v11 : (V m c main_v11 : FVec Ideal S4x4x4096x256 .bf16) = padded (kArr m c) := by
  unfold V
  simp only [hostOps0, hostOps0_1, hostOps0_2, hostOps0_3, hostOps0_4, List.flatten_cons, List.flatten_nil, List.append_nil, List.cons_append,
      List.nil_append]
  after_results <;> rfl

theorem V_v13 : (V m c main_v13 : FVec Ideal S4x4x4096x128 .bf16) = heads (vArr m c) := by
  unfold V
  simp only [hostOps0, hostOps0_1, hostOps0_2, hostOps0_3, hostOps0_4, List.flatten_cons, List.flatten_nil, List.append_nil, List.cons_append,
      List.nil_append]
  after_results <;> rfl

theorem padded_apply (x : FVec Ideal S4x4096x4x192 .f32) (b h : Fin 4) (i : Fin 4096) (d : Fin 256) :
    padded x (ix4 b h i d) = if hd : d.val < 192 then x (ix4 b i h ⟨d.val, hd⟩) else 0 := by
  pointwise [padded]
  refine dite_congr rfl (fun _ => rfl) fun _ => ?_
  show (((0#32 : BitVec 32).toInt : ℝ) : EReal) = 0
  simp

theorem heads_apply (x : FVec Ideal S4x4096x4x128 .f32) (b h : Fin 4) (i : Fin 4096) (d : Fin 128) :
    heads x (ix4 b h i d) = x (ix4 b i h d) := by
  pointwise [heads]

theorem root : Ideal.sqrt (Ideal.ofBits FTy.f32 1128267776#32) = ((Real.sqrt 192 : ℝ) : EReal) := by
  have h : Ideal.ofBits FTy.f32 1128267776#32 = ((192 : ℝ) : EReal) := by
    simp [Ideal.ofBits, Ideal.ieee]; rw [← EReal.coe_mul]; norm_num
  rw [h, Ideal.sqrt_coe, if_neg (by norm_num)]

theorem log_two : Ideal.log (Ideal.ofBits FTy.f32 1073741824#32) = ((Real.log 2 : ℝ) : EReal) := by
  have h : Ideal.ofBits FTy.f32 1073741824#32 = ((2 : ℝ) : EReal) := by
    simp [Ideal.ofBits, Ideal.ieee]; rw [← EReal.coe_mul]; norm_num
  rw [h, Ideal.log_coe, if_neg (by norm_num)]

theorem scaled_apply (x : FVec Ideal S4x4096x4x192 .f32) (b h : Fin 4) (i : Fin 4096) (d : Fin 192) :
    mulf x (broadcastInDim S4x4096x4x192 ![] bcast_S_S4x4096x4x192 scale) (ix4 b i h d)
      = x (ix4 b i h d) * ((1 / (Real.sqrt 192 * Real.log 2) : ℝ) : EReal) := by
  pointwise [scale]
  rw [root, log_two, ← EReal.coe_mul, Ideal.div_coe (mul_pos (Real.sqrt_pos.mpr (by norm_num)) (Real.log_pos one_lt_two)).ne', one_mul]

end Cert.Proof.Attn

end
-- ==== Proof.AttnBlocks.lean ====
/-
  Where each grid point's blocks sit in the arrays: point `t` is batch `t / 16`, head `t / 4 % 4`, query tile `t % 4`.
-/
module

public import proofs.«01_k».proof.Proof.AttnRun
public import proofs.«01_k».proof.Proof.AttnHost

@[expose] public section

set_option maxRecDepth 16384

noncomputable section

namespace Cert.Proof.Attn

open Cert.Kernel2Ideal Cert.Kernel2Ideal.Gen
open Idealize.ShloMosaic Idealize.ShloMosaic.TcCoe Idealize.SL.Sem
open Idealize.ShloMosaic.Pipeline (Dat Window)

/-- The block indices of the eight windows. -/
theorem index0 : ∀ t : Fin cfg0.N, win0_0.index t = ![t.val / 16, t.val / 4 % 4, t.val % 4, 0] :=
  (by decide +kernel : ∀ t : Fin grid0.N, win0_0.index t = ![t.val / 16, t.val / 4 % 4, t.val % 4, 0])
theorem index1 : ∀ t : Fin cfg0.N, win0_1.index t = ![t.val / 16, t.val / 4 % 4, 0, 0] :=
  (by decide +kernel : ∀ t : Fin grid0.N, win0_1.index t = ![t.val / 16, t.val / 4 % 4, 0, 0])
theorem index2 : ∀ t : Fin cfg0.N, win0_2.index t = ![t.val / 16, t.val / 4 % 4, 0, 0] :=
  (by decide +kernel : ∀ t : Fin grid0.N, win0_2.index t = ![t.val / 16, t.val / 4 % 4, 0, 0])
theorem index3 : ∀ t : Fin cfg0.N, win0_3.index t = ![t.val, 0] :=
  (by decide +kernel : ∀ t : Fin grid0.N, win0_3.index t = ![t.val, 0])
theorem index4 : ∀ t : Fin cfg0.N, win0_4.index t = ![t.val, 0] :=
  (by decide +kernel : ∀ t : Fin grid0.N, win0_4.index t = ![t.val, 0])
theorem index5 : ∀ t : Fin cfg0.N, win0_5.index t = ![t.val / 16, t.val % 4, t.val / 4 % 4] :=
  (by decide +kernel : ∀ t : Fin grid0.N, win0_5.index t = ![t.val / 16, t.val % 4, t.val / 4 % 4])
theorem index6 : ∀ t : Fin cfg0.N, win0_6.index t = ![0, t.val] :=
  (by decide +kernel : ∀ t : Fin grid0.N, win0_6.index t = ![0, t.val])
theorem index7 : ∀ t : Fin cfg0.N, win0_7.index t = ![t.val, 0] :=
  (by decide +kernel : ∀ t : Fin grid0.N, win0_7.index t = ![t.val, 0])

theorem N_eq : cfg0.N = 64 := N_0

variable (m : (ℓ : Loc nD τ sig) → Buf (Elt Ideal) ℓ) (c : Dev nD) (t : Fin cfg0.N)

/-- The batch, -/
def bat : Fin 4 := ⟨t.val / 16, by have := t.isLt; have := N_eq; omega⟩
/-- the head -/
def hd : Fin 4 := ⟨t.val / 4 % 4, by omega⟩
/-- and the query a tile's row is of. -/
def qry (r : Fin 1024) : Fin 4096 := ⟨t.val % 4 * 1024 + r.val, by omega⟩

/-- A query tile's element, -/
theorem iblk0_apply (r : Fin 1024) (d : Fin 256) :
    (iblk m c 0 t : FVec Ideal S1x1x1024x256 .bf16) (ix4 0 0 r d) = (V m c main_v8 : FVec Ideal S4x4x4096x256 .bf16) (ix4 (bat t) (hd t) (qry t r) d) := by
  show V m c main_v8 ((win0_0.rect t).emb (ix4 0 0 r d)) = _
  refine congrArg (V m c main_v8) (funext fun a => Fin.ext ((win0_0.rect_emb_val t _ a).trans ?_))
  rw [index0]
  fin_cases a
  · show t.val / 16 * 1 + 0 = t.val / 16; omega
  · show t.val / 4 % 4 * 1 + 0 = t.val / 4 % 4; omega
  · rfl
  · show 0 * 256 + d.val = d.val; omega

/-- a key's, -/
theorem iblk1_apply (j : Fin 4096) (d : Fin 256) :
    (iblk m c 1 t : FVec Ideal S1x1x4096x256 .bf16) (ix4 0 0 j d) = (V m c main_v11 : FVec Ideal S4x4x4096x256 .bf16) (ix4 (bat t) (hd t) j d) := by
  show V m c main_v11 ((win0_1.rect t).emb (ix4 0 0 j d)) = _
  refine congrArg (V m c main_v11) (funext fun a => Fin.ext ((win0_1.rect_emb_val t _ a).trans ?_))
  rw [index1]
  fin_cases a
  · show t.val / 16 * 1 + 0 = t.val / 16; omega
  · show t.val / 4 % 4 * 1 + 0 = t.val / 4 % 4; omega
  · show 0 * 4096 + j.val = j.val; omega
  · show 0 * 256 + d.val = d.val; omega

/-- and a value's; -/
theorem iblk2_apply (j : Fin 4096) (x : Fin 128) :
    (iblk m c 2 t : FVec Ideal S1x1x4096x128 .bf16) (ix4 0 0 j x) = (V m c main_v13 : FVec Ideal S4x4x4096x128 .bf16) (ix4 (bat t) (hd t) j x) := by
  show V m c main_v13 ((win0_2.rect t).emb (ix4 0 0 j x)) = _
  refine congrArg (V m c main_v13) (funext fun a => Fin.ext ((win0_2.rect_emb_val t _ a).trans ?_))
  rw [index2]
  fin_cases a
  · show t.val / 16 * 1 + 0 = t.val / 16; omega
  · show t.val / 4 % 4 * 1 + 0 = t.val / 4 % 4; omega
  · show 0 * 4096 + j.val = j.val; omega
  · show 0 * 128 + x.val = x.val; omega

/-- the expert a table tile's row is of, -/
def row (r : Fin 256) : Fin 16384 := ⟨t.val * 256 + r.val, by have := t.isLt; have := N_eq; omega⟩

/-- and that row's element, in the first table -/
theorem iblk3_apply (r : Fin 256) (x : Fin 1024) :
    (iblk m c 3 t : FVec Ideal S256x1024 .f32) (ix2 r x) = uTab m c (ix2 (row t r) x) := by
  show V m c main_arg3 ((win0_3.rect t).emb (ix2 r x)) = _
  rw [V_main_arg3]
  refine congrArg (uTab m c) (funext fun a => Fin.ext ((win0_3.rect_emb_val t _ a).trans ?_))
  rw [index3]
  fin_cases a
  · rfl
  · show 0 * 1024 + x.val = x.val; omega

/-- and in the second. -/
theorem iblk4_apply (r : Fin 256) (x : Fin 1024) :
    (iblk m c 4 t : FVec Ideal S256x1024 .f32) (ix2 r x) = wTab m c (ix2 (row t r) x) := by
  show V m c main_arg4 ((win0_4.rect t).emb (ix2 r x)) = _
  rw [V_main_arg4]
  refine congrArg (wTab m c) (funext fun a => Fin.ext ((win0_4.rect_emb_val t _ a).trans ?_))
  rw [index4]
  fin_cases a
  · rfl
  · show 0 * 1024 + x.val = x.val; omega

/-- The head a column of the result is of, put back with the column inside the head. -/
def col (x : Fin 128) : Fin 512 := ⟨t.val / 4 % 4 * 128 + x.val, by omega⟩

/-- The element of the result a tile's element is. -/
theorem emb5 (r : Fin 1024) (x : Fin 128) : (win0_5.rect t).emb (ix3 0 r x) = (ix3 (bat t) (qry t r) (col t x) : S4x4096x512.Idx) := by
  refine funext fun a => Fin.ext ((win0_5.rect_emb_val t _ a).trans ?_)
  rw [index5]
  fin_cases a
  · show t.val / 16 * 1 + 0 = t.val / 16; omega
  · rfl
  · rfl

theorem emb6 (x : Fin 1024) (r : Fin 256) : (win0_6.rect t).emb (ix2 x r) = (ix2 x (row t r) : S1024x16384.Idx) := by
  refine funext fun a => Fin.ext ((win0_6.rect_emb_val t _ a).trans ?_)
  rw [index6]
  fin_cases a
  · show 0 * 1024 + x.val = x.val; omega
  · rfl

theorem emb7 (r : Fin 256) (x : Fin 1024) : (win0_7.rect t).emb (ix2 r x) = (ix2 (row t r) x : S16384x1024.Idx) := by
  refine funext fun a => Fin.ext ((win0_7.rect_emb_val t _ a).trans ?_)
  rw [index7]
  fin_cases a
  · rfl
  · show 0 * 1024 + x.val = x.val; omega

/-- Every element of the attention result is in the block of its batch, head and query tile, -/
theorem cover5 (i : S4x4096x512.Idx) : ∃ t : Fin cfg0.N, (cfg0.win 5).flush t = true ∧ i ∈ ((cfg0.win 5).blk t).view.set := by
  obtain ⟨b, q, x, rfl⟩ : ∃ (b : Fin 4) (q : Fin 4096) (x : Fin 512), i = ix3 b q x := ⟨i 0, i 1, i 2, eq_ix3 i⟩
  obtain ⟨t, ht⟩ : ∃ t : Fin cfg0.N, t.val = b.val * 16 + x.val / 128 * 4 + q.val / 1024 := ⟨⟨_, by rw [N_eq]; omega⟩, rfl⟩
  have e : (win0_5.rect t).emb (ix3 (0 : Fin 1) (⟨q.val % 1024, by omega⟩ : Fin 1024) (⟨x.val % 128, by omega⟩ : Fin 128))
      = (ix3 b q x : S4x4096x512.Idx) := by
    rw [emb5, show bat t = b from Fin.ext (by show t.val / 16 = _; omega),
      show qry t _ = q from Fin.ext (by show t.val % 4 * 1024 + q.val % 1024 = _; omega),
      show col t _ = x from Fin.ext (by show t.val / 4 % 4 * 128 + x.val % 128 = _; omega)]
  rw [← e]
  exact ⟨t, flush0_5 t, ((cfg0.win 5).blk t).view.emb_mem_set _⟩

/-- and every element of a table in its expert's. -/
theorem cover6 (i : S1024x16384.Idx) : ∃ t : Fin cfg0.N, (cfg0.win 6).flush t = true ∧ i ∈ ((cfg0.win 6).blk t).view.set := by
  obtain ⟨x, r, rfl⟩ : ∃ (x : Fin 1024) (r : Fin 16384), i = ix2 x r := ⟨i 0, i 1, eq_ix2 i⟩
  obtain ⟨t, ht⟩ : ∃ t : Fin cfg0.N, t.val = r.val / 256 := ⟨⟨_, by rw [N_eq]; omega⟩, rfl⟩
  have e : (win0_6.rect t).emb (ix2 x (⟨r.val % 256, by omega⟩ : Fin 256)) = (ix2 x r : S1024x16384.Idx) := by
    rw [emb6, show row t _ = r from Fin.ext (by show t.val * 256 + r.val % 256 = _; omega)]
  rw [← e]
  exact ⟨t, flush0_6 t, ((cfg0.win 6).blk t).view.emb_mem_set _⟩

theorem cover7 (i : S16384x1024.Idx) : ∃ t : Fin cfg0.N, (cfg0.win 7).flush t = true ∧ i ∈ ((cfg0.win 7).blk t).view.set := by
  obtain ⟨r, x, rfl⟩ : ∃ (r : Fin 16384) (x : Fin 1024), i = ix2 r x := ⟨i 0, i 1, eq_ix2 i⟩
  obtain ⟨t, ht⟩ : ∃ t : Fin cfg0.N, t.val = r.val / 256 := ⟨⟨_, by rw [N_eq]; omega⟩, rfl⟩
  have e : (win0_7.rect t).emb (ix2 (⟨r.val % 256, by omega⟩ : Fin 256) x) = (ix2 r x : S16384x1024.Idx) := by
    rw [emb7, show row t _ = r from Fin.ext (by show t.val * 256 + r.val % 256 = _; omega)]
  rw [← e]
  exact ⟨t, flush0_7 t, ((cfg0.win 7).blk t).view.emb_mem_set _⟩

end Cert.Proof.Attn

end
-- ==== Proof.AttnRef.lean ====
/-
  The reference's attention at one element: the average of the values weighted by the softmax of the scores.
-/
module

public import proofs.«01_k».proof.Proof.Gen.Reference2Ideal.Run
public import Idealize.ShloMosaic.Lib.Pointwise

@[expose] public section

set_option maxRecDepth 16384

noncomputable section

namespace Cert.Proof.AttnRef

open Cert.Reference2Ideal Cert.Reference2Ideal.Gen Facts
open Idealize.ShloMosaic

variable (q k : FVec Ideal S4x4096x4x192 .f32) (v : FVec Ideal S4x4096x4x128 .f32)

/-- The scores, divided by the root of the width. -/
def scores : FVec Ideal S4x4x4096x4096 .f32 :=
  Host.divf (Host.dotGeneral dot_S4x4096x4x192_S4x4096x4x192_S4x4x4096x4096_3_3_1_1_02_02 none q k)
    (broadcastInDim S4x4x4096x4096 ![] bcast_S_S4x4x4096x4096 (Host.sqrt (constant S_ .f32 0x43400000#32)))

/-- The rows' maxima. -/
def maxima (s : FVec Ideal S4x4x4096x4096 .f32) : FVec Ideal S4x4x4096 .f32 :=
  Host.reduce FloatOps.maximumf s (constant S_ .f32 0xFF800000#32) reducesTo_S4x4x4096x4096_S4x4x4096_d3 h_S_

/-- The exponentials of the scores less the row's maximum. -/
def weights (s : FVec Ideal S4x4x4096x4096 .f32) (t : FVec Ideal S4x4x4096 .f32) : FVec Ideal S4x4x4096x4096 .f32 :=
  Host.exp (subf s (broadcastInDim S4x4x4096x4096 ![0, 1, 2, 3] bcast_S4x4x4096x1_S4x4x4096x4096_0_1_2_3
    (broadcastInDim S4x4x4096x1 ![0, 1, 2] bcast_S4x4x4096_S4x4x4096x1_0_1_2
      (maximumf (broadcastInDim S4x4x4096 ![] bcast_S_S4x4x4096 (constant S_ .f32 0xFF800000#32)) t))))

/-- Each divided by its row's sum. -/
def probs (w : FVec Ideal S4x4x4096x4096 .f32) : FVec Ideal S4x4x4096x4096 .f32 :=
  Host.divf w (broadcastInDim S4x4x4096x4096 ![0, 1, 2, 3] bcast_S4x4x4096x1_S4x4x4096x4096_0_1_2_3
    (broadcastInDim S4x4x4096x1 ![0, 1, 2] bcast_S4x4x4096_S4x4x4096x1_0_1_2
      (Host.reduceAdd w (constant S_ .f32 0x00000000#32) reducesTo_S4x4x4096x4096_S4x4x4096_d3 h_S_)))

/-- The averages of the values, head by head, laid side by side. -/
def out (p : FVec Ideal S4x4x4096x4096 .f32) : FVec Ideal S4x4096x512 .bf16 :=
  truncf .bf16 (shapeCast S4x4096x512 (transpose S4x4096x4x128 [0, 3, 1, 2]
    (Host.dotGeneral dot_S4x4096x4x128_S4x4x4096x4096_S4x4x128x4096_1_3_3_2_02_01 none v p)
    transposes_S4x4x128x4096_S4x4096x4x128_0_3_1_2) shapeCasts_S4x4096x4x128_S4x4096x512) bitsLt_bf16_f32

theorem neg_inf : Ideal.ofBits FTy.f32 4286578688#32 = (⊥ : EReal) := by simp [Ideal.ofBits, Ideal.ieee]

theorem root : Ideal.sqrt (Ideal.ofBits FTy.f32 1128267776#32) = ((Real.sqrt 192 : ℝ) : EReal) := by
  have h : Ideal.ofBits FTy.f32 1128267776#32 = ((192 : ℝ) : EReal) := by
    simp [Ideal.ofBits, Ideal.ieee]; rw [← EReal.coe_mul]; norm_num
  rw [h, Ideal.sqrt_coe, if_neg (by norm_num)]

theorem scores_apply (b h : Fin 4) (i j : Fin 4096) : scores q k (ix4 b h i j)
    = Ideal.div (∑ d : Fin 192, q (ix4 b i h d) * k (ix4 b j h d)) ((Real.sqrt 192 : ℝ) : EReal) := by
  pointwise [scores]
  rw [root]

/-- The maximum over the last of four axes, whatever their lengths. -/
theorem reduce_max {n0 n1 n2 n3 : ℕ} (s : FVec Ideal ⟨4, ![n0, n1, n2, n3]⟩ .f32)
    (h : (⟨4, ![n0, n1, n2, n3]⟩ : Shape).ReducesTo [3] ⟨3, ![n0, n1, n2]⟩) (h0 : 0 < S_.numel)
    (a : Fin n0) (b : Fin n1) (i : Fin n2) :
    Host.reduce FloatOps.maximumf s (constant S_ .f32 0xFF800000#32) h h0 (ix3 a b i)
      = Finset.univ.sup fun j : Fin n3 => s (ix4 a b i j) := by
  pointwise []
  rw [neg_inf]
  rfl

theorem maxima_apply (s : FVec Ideal S4x4x4096x4096 .f32) (b h : Fin 4) (i : Fin 4096) :
    maxima s (ix3 b h i) = Finset.univ.sup fun j : Fin 4096 => s (ix4 b h i j) :=
  reduce_max s _ _ b h i

theorem weights_apply (s : FVec Ideal S4x4x4096x4096 .f32) (t : FVec Ideal S4x4x4096 .f32) (b h : Fin 4) (i j : Fin 4096) :
    weights s t (ix4 b h i j) = Ideal.exp (s (ix4 b h i j) - t (ix3 b h i)) := by
  pointwise [weights]
  rw [neg_inf, max_eq_right bot_le]

theorem probs_apply (s : FVec Ideal S4x4x4096x4096 .f32) (b h : Fin 4) (i j : Fin 4096) : probs s (ix4 b h i j)
    = Ideal.div (s (ix4 b h i j)) (∑ x : Fin 4096, s (ix4 b h i x)) := by
  pointwise [probs]

theorem out_apply (s : FVec Ideal S4x4x4096x4096 .f32) (b : Fin 4) (i : Fin 4096) (x : Fin 512) : out v s (ix3 b i x)
    = ∑ j : Fin 4096, s (ix4 b ⟨x.val / 128, by omega⟩ i j) * v (ix4 b j ⟨x.val / 128, by omega⟩ ⟨x.val % 128, by omega⟩) := by
  pointwise [out]
  exact Finset.sum_congr rfl fun j _ => mul_comm _ _

/-- The reference's attention. -/
def attn : FVec Ideal S4x4096x512 .bf16 := out v (probs (weights (scores q k) (maxima (scores q k))))

end Cert.Proof.AttnRef

end
-- ==== Proof.AttnValue.lean ====
/-
  The attention call's three result arrays over the extended reals, for finite queries and keys: the reference's
  attention, the first table transposed, the second table.
-/
module

public import proofs.«01_k».proof.Proof.AttnMath
public import proofs.«01_k».proof.Proof.AttnTile
public import proofs.«01_k».proof.Proof.AttnBlocks
public import proofs.«01_k».proof.Proof.AttnRef

@[expose] public section

set_option maxRecDepth 16384

noncomputable section

namespace Cert.Proof.Attn

open Cert.Kernel2Ideal Cert.Kernel2Ideal.Gen
open Idealize.ShloMosaic Idealize.ShloMosaic.TcCoe Idealize.SL.Sem
open Idealize.ShloMosaic.Pipeline (Dat Window)

variable (m : (ℓ : Loc nD τ sig) → Buf (Elt Ideal) ℓ) (c : Dev nD) (t : Fin cfg0.N)

/-- The factor of the queries is a positive real. -/
theorem factor_pos : 0 < 1 / (Real.sqrt 192 * Real.log 2) :=
  one_div_pos.mpr (mul_pos (Real.sqrt_pos.mpr (by norm_num)) (Real.log_pos one_lt_two))

/-- A padded score: the sum over the 192 columns, times the factor. -/
theorem sc_block (r : Fin 1024) (j : Fin 4096) : sc (iblk m c 0 t) (iblk m c 1 t) r j
    = (∑ d : Fin 192, qArr m c (ix4 (bat t) (qry t r) (hd t) d) * kArr m c (ix4 (bat t) j (hd t) d))
      * ((1 / (Real.sqrt 192 * Real.log 2) : ℝ) : EReal) := by
  rw [sc, Math.sum_mul_coe _ _ _ factor_pos, Fin.sum_univ_add (a := 192) (b := 64) (fun d : Fin 256 => _)]
  rw [Finset.sum_eq_zero (s := (Finset.univ : Finset (Fin 64))), add_zero]
  · refine Finset.sum_congr rfl fun d _ => ?_
    rw [iblk0_apply, iblk1_apply, V_v8, V_v11, padded_apply, padded_apply,
      dif_pos (show (Fin.castAdd 64 d).val < 192 from d.isLt), dif_pos (show (Fin.castAdd 64 d).val < 192 from d.isLt)]
    refine (congrArg (· * _) (scaled_apply (qArr m c) (bat t) (hd t) (qry t r) d)).trans ?_
    exact mul_right_comm _ _ _
  · intro d _
    rw [iblk1_apply, V_v11, padded_apply, dif_neg (show ¬ (Fin.natAdd 192 d).val < 192 by simp), mul_zero]

/-- With real scores, an element of a tile is the reference's. -/
theorem tile_eq (hq : ∀ i, ∃ a : ℝ, qArr m c i = (a : EReal)) (hk : ∀ i, ∃ a : ℝ, kArr m c i = (a : EReal))
    (r : Fin 1024) (x : Fin 128) : out5 (iblk m c 0 t) (iblk m c 1 t) (iblk m c 2 t) (ix3 0 r x)
      = AttnRef.attn (qArr m c) (kArr m c) (vArr m c) (ix3 (bat t) (qry t r) (col t x)) := by
  choose Q hQ using hq
  choose K hK using hk
  have hX : ∀ j : Fin 4096, (∑ d : Fin 192, qArr m c (ix4 (bat t) (qry t r) (hd t) d) * kArr m c (ix4 (bat t) j (hd t) d))
      = ((∑ d : Fin 192, Q (ix4 (bat t) (qry t r) (hd t) d) * K (ix4 (bat t) j (hd t) d) : ℝ) : EReal) := fun j => by
    rw [← Math.sum_coe]
    exact Finset.sum_congr rfl fun d _ => by rw [hQ, hK, EReal.coe_mul]
  have hh : (⟨(col t x).val / 128, by have := (col t x).isLt; omega⟩ : Fin 4) = hd t :=
    Fin.ext (by show (t.val / 4 % 4 * 128 + x.val) / 128 = t.val / 4 % 4; omega)
  have hx : (⟨(col t x).val % 128, by omega⟩ : Fin 128) = x :=
    Fin.ext (by show (t.val / 4 % 4 * 128 + x.val) % 128 = x.val; omega)
  rw [out5_apply]
  simp only [wt, top, funext (sc_block m c t r), sc_block, hX]
  refine (Math.attention_of_pos (n := 4096) (by norm_num) _ _ (Real.sqrt 192) (Real.sqrt_pos.mpr (by norm_num))).trans ?_
  rw [AttnRef.attn, AttnRef.out_apply, hh, hx]
  refine Finset.sum_congr rfl fun j _ => ?_
  rw [AttnRef.probs_apply, iblk2_apply, V_v13, heads_apply]
  simp only [AttnRef.weights_apply, AttnRef.maxima_apply, AttnRef.scores_apply, hX]

/-- The attention array after the run. -/
theorem final5 (hq : ∀ i, ∃ a : ℝ, qArr m c i = (a : EReal)) (hk : ∀ i, ∃ a : ℝ, kArr m c i = (a : EReal)) :
    (dats m 0 c).arrAt 5 cfg0.N = AttnRef.attn (qArr m c) (kArr m c) (vArr m c) :=
  (dats m 0 c).arrAt_eq_of_cover 5 _ (fun t hf => funext fun y => by
    show out5 (iblk m c 0 t) (iblk m c 1 t) (iblk m c 2 t) y = AttnRef.attn (qArr m c) (kArr m c) (vArr m c) ((win0_5.rect t).emb y)
    obtain ⟨z, r, x, rfl⟩ : ∃ (z : Fin 1) (r : Fin 1024) (x : Fin 128), y = ix3 z r x := ⟨y 0, y 1, y 2, eq_ix3 y⟩
    obtain rfl : z = 0 := Subsingleton.elim _ _
    rw [emb5]
    exact tile_eq m c t hq hk r x) cover5

/-- The first table's array after the run: the table transposed. -/
theorem final6 : (dats m 0 c).arrAt 6 cfg0.N
    = truncf .bf16 (transpose Cert.Reference2Ideal.S1024x16384 [1, 0] (uTab m c)
        Cert.Reference2Ideal.Gen.transposes_S16384x1024_S1024x16384_1_0) bitsLt_bf16_f32 :=
  (dats m 0 c).arrAt_eq_of_cover 6 _ (fun t hf => funext fun y => by
    show k0_pay8 (iblk m c 3 t) y = _
    obtain ⟨x, r, rfl⟩ : ∃ (x : Fin 1024) (r : Fin 256), y = ix2 x r := ⟨y 0, y 1, eq_ix2 y⟩
    show _ = truncf .bf16 (transpose Cert.Reference2Ideal.S1024x16384 [1, 0] (uTab m c)
        Cert.Reference2Ideal.Gen.transposes_S16384x1024_S1024x16384_1_0) bitsLt_bf16_f32 ((win0_6.rect t).emb (ix2 x r))
    rw [emb6]
    have h : k0_pay8 (iblk m c 3 t) (ix2 x r) = (iblk m c 3 t : FVec Ideal S256x1024 .f32) (ix2 r x) := by pointwise [k0_pay8]
    rw [h, iblk3_apply]
    pointwise []) cover6

/-- The second table's: the table. -/
theorem final7 : (dats m 0 c).arrAt 7 cfg0.N = truncf .bf16 (wTab m c) bitsLt_bf16_f32 :=
  (dats m 0 c).arrAt_eq_of_cover 7 _ (fun t hf => funext fun y => by
    obtain ⟨r, x, rfl⟩ : ∃ (r : Fin 256) (x : Fin 1024), y = ix2 r x := ⟨y 0, y 1, eq_ix2 y⟩
    show (iblk m c 4 t : FVec Ideal S256x1024 .f32) (ix2 r x) = wTab m c ((win0_7.rect t).emb (ix2 r x))
    rw [emb7, iblk4_apply]) cover7

end Cert.Proof.Attn

end
-- ==== Proof.AttnClaim.lean ====
/-
  The attention's claims: the frames of the kernel and of its idealization from one run, the reference's frame, and the
  equality of the two idealizations' results for finite queries and keys.
-/
module

public import proofs.«01_k».proof.Defs
public import proofs.«01_k».proof.Proof.Gen.Kernel2
public import proofs.«01_k».proof.Proof.AttnValue

@[expose] public section

set_option maxRecDepth 16384

noncomputable section

namespace Cert.Proof.Attn

open Idealize.ShloMosaic Idealize.ShloMosaic.TcCoe Idealize.SL.Sem

/-- The side condition of the precondition's one broadcast. -/
instance facts_finite : Cert.Pre_finite.Facts := ⟨by decide⟩

/-- The kernel and its idealization are one program, their bodies -/
theorem defs₀_eq : Cert.Kernel2.defs₀ (F := Bits) = Cert.Kernel2Ideal.defs₀ (F := Bits) := by
  funext k l a
  cases k with
  | tc =>
    obtain ⟨l, hl⟩ := l
    obtain rfl : l = 0 := by have : l < 1 := hl; omega
    obtain ⟨t, s⟩ := a
    rfl
  | _ => rfl

/-- and their pipelines. -/
theorem defs_eq : Cert.Kernel2.defs (F := Bits) = Cert.Kernel2Ideal.defs (F := Bits) :=
  congrArg (Pipeline.defs Cert.Kernel2Ideal.pcfgs) defs₀_eq

/-- The kernel ends with its arguments unchanged and its counters at zero, -/
theorem frame_kernel2 : Cert.quiescent_Kernel2 := fun m ρ _ => by
  rw [defs_eq]
  exact frame_run (F := Bits) m ρ

/-- so does its idealization, -/
theorem frame_kernel2Ideal : Cert.quiescent_Kernel2Ideal := fun m ρ _ => frame_run (F := Ideal) m ρ

/-- and so does the reference. -/
theorem frame_reference2Ideal : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

/-- A number whose absolute value is below infinity is a real. -/
theorem real_of_abs_lt (x : EReal) (h : Ideal.cmp .olt (max x (-x)) (Ideal.ofBits FTy.f32 0x7F800000#32) = 1#1) :
    ∃ a : ℝ, x = (a : EReal) := by
  have hi : Ideal.ofBits FTy.f32 0x7F800000#32 = (⊤ : EReal) := by simp [Ideal.ofBits, Ideal.ieee]
  rw [hi] at h
  induction x with
  | bot => simp [Ideal.cmp] at h
  | top => simp [Ideal.cmp] at h
  | coe a => exact ⟨a, rfl⟩

/-- Over the extended reals the kernel's results are the reference's, for finite queries and keys. -/
theorem algebraic : Cert.algebraic_Kernel2Ideal_Reference2Ideal_pre_finite := by
  intro m ρ m' ρ' hpre hargs
  refine ⟨fun c => (dats m 0 c).arrAt 5 Cert.Kernel2Ideal.cfg0.N, fun c => (dats m 0 c).arrAt 6 Cert.Kernel2Ideal.cfg0.N,
    fun c => (dats m 0 c).arrAt 7 Cert.Kernel2Ideal.cfg0.N, run_blocks (F := Ideal) m ρ, ?_⟩
  refine (θ_run Cert.Reference2Ideal.defs _ _).mono (fun _ h c => ?_) (Cert.Reference2Ideal.Value.run (F := Ideal) m' ρ')
  obtain ⟨a0, a1, a2, a3, a4⟩ := hargs c
  obtain ⟨h0, h1, h2, h⟩ := h c
  refine ⟨h0.trans ?_, h1.trans ?_, h2.trans ?_, h⟩
  · rw [a0, a1, a2]
    exact (final5 m c (fun i => real_of_abs_lt _ (congrFun (hpre c).1 i)) (fun i => real_of_abs_lt _ (congrFun (hpre c).2 i))).symm
  · rw [a3]; exact (final6 m c).symm
  · rw [a4]; exact (final7 m c).symm

end Cert.Proof.Attn

end
-- ==== Proof.PostMath.lean ====
/-
  The call between the mixers and the experts, one row at a time, over the extended reals: the normalised row, the
  projected row with its gate and residual, the second norm with its scale and shift, the queries and the scores. The
  kernel and the reference are both read as these functions.
-/
module

public import Idealize.ShloMosaic.Lib.Pointwise

@[expose] public section

noncomputable section

namespace Cert.Proof.Post

open Idealize.ShloMosaic

/-- The row `f` over its root mean square (`N` the count of its entries), times the gains `g`, at entry `i`. -/
def nrm {n : ℕ} (N : EReal) (f g : Fin n → EReal) (i : Fin n) : EReal :=
  f i * Ideal.rsqrt (Ideal.div (∑ x, f x * f x) N + Ideal.ofBits FTy.f32 897988541#32) * g i

/-- The residual row: `x` plus the gate times the output projection of the normalised attention row and the gate's row. -/
def rowX (o ga s : Fin 512 → EReal) (x gate : Fin 1024 → EReal) (w : Fin 1024 → Fin 1024 → EReal) (c : Fin 1024) : EReal :=
  x c + gate c * (∑ k : Fin 512, nrm (Ideal.ofBits FTy.f32 1140850688#32) o ga k * w ⟨k.val, by omega⟩ c
    + ∑ k : Fin 512, s k * w ⟨512 + k.val, by omega⟩ c)

/-- The second norm of a row, scaled and shifted. -/
def rowH (xr g scale shift : Fin 1024 → EReal) (c : Fin 1024) : EReal :=
  nrm (Ideal.ofBits FTy.f32 1149239296#32) xr g c * (1 + scale c) + shift c

/-- The row's queries. -/
def rowQ (h : Fin 1024 → EReal) (wq : Fin 1024 → Fin 2048 → EReal) (e : Fin 2048) : EReal := ∑ d : Fin 1024, h d * wq d e

/-- The score of a key against the query of half-head `p`. -/
def rowS (k : Fin 128 → EReal) (q : Fin 2048 → EReal) (p : Fin 16) : EReal :=
  ∑ d : Fin 128, k d * q ⟨p.val * 128 + d.val, by omega⟩

end Cert.Proof.Post
-- ==== Proof.PostOut.lean ====
/-
  The three outputs of the call at one grid point, read at an element: the residual rows, the rows after the second norm,
  and the tiles of scores with eight rows of zeros under each.
-/
module

public import proofs.«01_k».proof.Proof.Gen.Kernel3Ideal.Frame
public import proofs.«01_k».proof.Proof.PostMath
public import Idealize.ShloMosaic.Lib.Pointwise
public import Idealize.ShloMosaic.Lib.Pipeline.ValueKit

@[expose] public section

set_option maxRecDepth 16384

noncomputable section

namespace Cert.Proof.Post

open Cert.Kernel3Ideal Cert.Kernel3Ideal.Gen
open Idealize.ShloMosaic

/-! ## The body's values at an element -/

theorem pay5_apply (v6 : Vec Ideal S512x512 .bf16) (v9 : Vec Ideal S1x512 .f32) (v24 : Vec Ideal S512x1024 .bf16)
    (v27 : Vec Ideal S512x512 .bf16) (v29 : Vec Ideal S512x1024 .bf16) (r : Fin 512) (c : Fin 1024) :
    k0_pay5 v6 v9 v24 v27 v29 (ix2 r c)
      = ∑ k : Fin 512, nrm (Ideal.ofBits FTy.f32 1140850688#32) (fun k => v6 (ix2 r k)) (fun k => v9 (ix2 0 k)) k * v24 (ix2 k c)
        + ∑ k : Fin 512, v27 (ix2 r k) * v29 (ix2 k c) := by
  pointwise [k0_pay5]
  rfl

theorem pay6_apply (v1 : FVec Ideal S1x1024 .f32) (v32 : FVec Ideal S512x1024 .f32) (v33 : Vec Ideal S512x1024 .f32)
    (r : Fin 512) (c : Fin 1024) : k0_pay6 v1 v32 v33 (ix2 r c) = v33 (ix2 r c) + v1 (ix2 0 c) * v32 (ix2 r c) := by
  pointwise [k0_pay6]

variable (v1 v3 v5 : FVec Ideal S1x1024 .f32) (v32 : FVec Ideal S512x1024 .f32) (v33 : Vec Ideal S512x1024 .f32)
  (v39 : Vec Ideal S1x1024 .f32) (v61 : Vec Ideal S1024x2048 .bf16)

theorem pay7_apply (r : Fin 512) (c : Fin 1024) : k0_pay7 v1 v3 v5 v32 v33 v39 (ix2 r c)
    = rowH (fun c => k0_pay6 v1 v32 v33 (ix2 r c)) (fun c => v39 (ix2 0 c)) (fun c => v5 (ix2 0 c)) (fun c => v3 (ix2 0 c)) c := by
  unfold k0_pay7
  generalize k0_pay6 v1 v32 v33 = X
  pointwise
  rfl

theorem pay8_apply (r : Fin 512) (e : Fin 2048) : k0_pay8 v1 v3 v5 v32 v33 v39 v61 (ix2 r e)
    = rowQ (fun d => k0_pay7 v1 v3 v5 v32 v33 v39 (ix2 r d)) (fun d e => v61 (ix2 d e)) e := by
  unfold k0_pay8
  generalize k0_pay7 v1 v3 v5 v32 v33 v39 = X
  pointwise
  rfl

/-! ## The blocks' rows -/

section Rows

variable (x0 x1 : Vec Ideal S512x512 .bf16) (x2 : Vec Ideal S512x1024 .f32) (x3 : Vec Ideal S1x6x1024 .f32)
  (x4 : Vec Ideal S1x512 .f32) (x5 : Vec Ideal S1024x1024 .bf16) (x6 : Vec Ideal S1x1024 .f32) (x7 : Vec Ideal S1024x2048 .bf16)
  (x8 : Vec Ideal S16x128x128 .bf16)

/-- The residual row `r` of the blocks. -/
def bX (r : Fin 512) : Fin 1024 → EReal :=
  rowX (fun k => x0 (ix2 r k)) (fun k => x4 (ix2 0 k)) (fun k => x1 (ix2 r k)) (fun c => x2 (ix2 r c)) (fun c => x3 (ix3 0 2 c))
    (fun k c => x5 (ix2 k c))

/-- Row `r` of the blocks after the second norm. -/
def bH (r : Fin 512) : Fin 1024 → EReal :=
  rowH (bX x0 x1 x2 x3 x4 x5 r) (fun c => x6 (ix2 0 c)) (fun c => x3 (ix3 0 4 c)) (fun c => x3 (ix3 0 3 c))

/-- The queries of row `r` of the blocks. -/
def bQ (r : Fin 512) : Fin 2048 → EReal := rowQ (bH x0 x1 x2 x3 x4 x5 x6 r) (fun d e => x7 (ix2 d e))

/-- The block of scores, by head, row and lane: 136 rows for each half and 128 tokens, the last eight zero. -/
def bS (Q : Fin 512 → Fin 2048 → EReal) (h : Fin 8) (a : Fin 1088) (l : Fin 128) : EReal :=
  if hk : a.val % 136 < 128 then
    rowS (fun d => x8 (ix3 ⟨2 * h.val + a.val / 544, by omega⟩ ⟨a.val % 136, hk⟩ d)) (Q ⟨a.val / 136 % 4 * 128 + l.val, by omega⟩)
      ⟨2 * h.val + a.val / 544, by omega⟩
  else 0

/-- The gate's, shift's and scale's rows of the block of modulations, and the halves of the output projection. -/
theorem resid_apply (r : Fin 512) (e : Fin 1024) :
    k0_pay6 (k0_pay2 (View.ld x3 (Rect.unit ![0, 2, 0] ![1, 1, 1024] inb_S1x6x1024_S1x1x1024_0_2_0)))
      (k0_pay5 x0 x4 (View.ld x5 (Rect.unit ![0, 0] ![512, 1024] inb_S1024x1024_S512x1024_0_0)) x1
        (View.ld x5 (Rect.unit ![512, 0] ![512, 1024] inb_S1024x1024_S512x1024_512_0))) x2 (ix2 r e)
      = bX x0 x1 x2 x3 x4 x5 r e := by
  rw [pay6_apply, pay5_apply]
  pointwise [k0_pay2]
  rfl

theorem normed_apply (r : Fin 512) (e : Fin 1024) :
    k0_pay7 (k0_pay2 (View.ld x3 (Rect.unit ![0, 2, 0] ![1, 1, 1024] inb_S1x6x1024_S1x1x1024_0_2_0)))
      (k0_pay3 (View.ld x3 (Rect.unit ![0, 3, 0] ![1, 1, 1024] inb_S1x6x1024_S1x1x1024_0_3_0)))
      (k0_pay4 (View.ld x3 (Rect.unit ![0, 4, 0] ![1, 1, 1024] inb_S1x6x1024_S1x1x1024_0_4_0)))
      (k0_pay5 x0 x4 (View.ld x5 (Rect.unit ![0, 0] ![512, 1024] inb_S1024x1024_S512x1024_0_0)) x1
        (View.ld x5 (Rect.unit ![512, 0] ![512, 1024] inb_S1024x1024_S512x1024_512_0))) x2 x6 (ix2 r e)
      = bH x0 x1 x2 x3 x4 x5 x6 r e := by
  rw [pay7_apply, funext fun c => resid_apply x0 x1 x2 x3 x4 x5 r c]
  pointwise [k0_pay3, k0_pay4]
  rfl

theorem queries_apply (r : Fin 512) (e : Fin 2048) :
    k0_pay8 (k0_pay2 (View.ld x3 (Rect.unit ![0, 2, 0] ![1, 1, 1024] inb_S1x6x1024_S1x1x1024_0_2_0)))
      (k0_pay3 (View.ld x3 (Rect.unit ![0, 3, 0] ![1, 1, 1024] inb_S1x6x1024_S1x1x1024_0_3_0)))
      (k0_pay4 (View.ld x3 (Rect.unit ![0, 4, 0] ![1, 1, 1024] inb_S1x6x1024_S1x1x1024_0_4_0)))
      (k0_pay5 x0 x4 (View.ld x5 (Rect.unit ![0, 0] ![512, 1024] inb_S1024x1024_S512x1024_0_0)) x1
        (View.ld x5 (Rect.unit ![512, 0] ![512, 1024] inb_S1024x1024_S512x1024_512_0))) x2 x6 x7 (ix2 r e)
      = bQ x0 x1 x2 x3 x4 x5 x6 x7 r e := by
  rw [pay8_apply, funext fun d => normed_apply x0 x1 x2 x3 x4 x5 x6 r d]
  rfl

end Rows

/-- The first half-head's scores, from the queries. -/
def firstScores (Q : FVec Ideal S512x2048 .bf16) (K : Vec Ideal S1x128x128 .bf16) : FVec Ideal S128x512 .f32 :=
  matmul (F := Ideal) dot_S128x128_S512x128_S128x512_1_1_0_0_n_n none (shapeCast S128x128 K shapeCasts_S1x128x128_S128x128 : FVec Ideal S128x128 .bf16)
    (extractStridedSlice S512x128 ![0, 0] Q slices_S512x2048_o0_0_S512x128 : FVec Ideal S512x128 .bf16) (constant S128x512 .f32 0x00000000#32)

theorem pay10_eq (K : Vec Ideal S1x128x128 .bf16) :
    k0_pay10 v1 v3 v5 v32 v33 v39 v61 K = firstScores (k0_pay8 v1 v3 v5 v32 v33 v39 v61) K := rfl

theorem pay11_eq (K : Vec Ideal S1x128x128 .bf16) : k0_pay11 v1 v3 v5 v32 v33 v39 v61 K
    = extractStridedSlice S128x128 ![0, 0] (k0_pay10 v1 v3 v5 v32 v33 v39 v61 K) slices_S128x512_o0_0_S128x128 := rfl

theorem tile_apply (v : FVec Ideal S128x128 .f32) (a b : Fin 1) (k t : Fin 128) :
    shapeCast S1x1x128x128 v shapeCasts_S128x128_S1x1x128x128 (ix4 a b k t) = v (ix2 k t) := by
  pointwise

theorem keys_apply (v : Vec Ideal S1x128x128 .bf16) (k d : Fin 128) :
    (shapeCast S128x128 v shapeCasts_S1x128x128_S128x128 : FVec Ideal S128x128 .bf16) (ix2 k d) = v (ix3 0 k d) := by
  pointwise

theorem scores_apply (A : FVec Ideal S128x128 .bf16) (B : FVec Ideal S512x128 .bf16) (k : Fin 128) (t : Fin 512) :
    matmul (F := Ideal) dot_S128x128_S512x128_S128x512_1_1_0_0_n_n none A B (constant S128x512 FTy.f32 0#32) (ix2 k t)
      = ∑ d : Fin 128, A (ix2 k d) * B (ix2 t d) := by
  pointwise

/-- A tile of scores: the block of keys at half-head `p` against the queries' columns of that half-head, cut at token `o`. -/
theorem score_piece (Q : FVec Ideal S512x2048 .bf16) (q : Fin 512 → Fin 2048 → EReal) (hQ : ∀ r e, Q (ix2 r e) = q r e)
    (x8 : Vec Ideal S16x128x128 .bf16) (p co o : ℕ) (inb : ∀ a, ![p, 0, 0] a + ![1, 128, 128] a ≤ S16x128x128.size a)
    (s1 : S512x2048.Slices ![0, co] S512x128) (s2 : S128x512.Slices ![0, o] S128x128) (x : S1x1x128x128.Idx)
    (h : Fin 8) (a : Fin 1088) (l : Fin 128) (hco : co = p * 128) (hp : 2 * h.val + a.val / 544 = p)
    (hk : a.val % 136 = (x 2).val) (hl : a.val / 136 % 4 * 128 + l.val = o + (x 3).val) :
    shapeCast S1x1x128x128
      (extractStridedSlice S128x128 ![0, o]
        (matmul (F := Ideal) dot_S128x128_S512x128_S128x512_1_1_0_0_n_n none
          (shapeCast S128x128 (View.ld x8 (Rect.unit ![p, 0, 0] ![1, 128, 128] inb))
            shapeCasts_S1x128x128_S128x128 : FVec Ideal S128x128 .bf16)
          (extractStridedSlice S512x128 ![0, co] Q s1 : FVec Ideal S512x128 .bf16)
          (constant S128x512 FTy.f32 0#32)) s2)
      shapeCasts_S128x128_S1x1x128x128 x = bS x8 q h a l := by
  obtain ⟨u, v, k, t, rfl⟩ : ∃ u v k t, x = ix4 u v k t := ⟨x 0, x 1, x 2, x 3, by funext a; fin_cases a <;> rfl⟩
  change a.val % 136 = k.val at hk
  change a.val / 136 % 4 * 128 + l.val = o + t.val at hl
  rw [tile_apply, extractStridedSlice_apply _ _ s2 _ (ix2 k ⟨o + t.val, by omega⟩) (fun b => by fin_cases b <;> simp [ix2]),
    scores_apply, bS, dif_pos (by omega), rowS]
  refine Finset.sum_congr rfl fun d _ => ?_
  rw [keys_apply, View.ld_unit_apply_of x8 _ _ inb _ (ix3 ⟨p, by omega⟩ k d) (fun b => by fin_cases b <;> simp [ix3]),
    extractStridedSlice_apply _ _ s1 _ (ix2 ⟨o + t.val, by omega⟩ ⟨co + d.val, by omega⟩) (fun b => by fin_cases b <;> simp [ix2]), hQ]
  refine congrArg₂ (fun a b : EReal => a * b) (congrArg x8 (congrArg₂ (fun u v => ix3 u v d) (Fin.ext hp.symm) (Fin.ext hk.symm)))
    (congrArg₂ q (Fin.ext hl.symm) (Fin.ext ?_))
  show co + d.val = (2 * h.val + a.val / 544) * 128 + d.val
  omega

/-- The rows under a tile are zero. -/
theorem zero_piece (x8 : Vec Ideal S16x128x128 .bf16) (q : Fin 512 → Fin 2048 → EReal) (x : S1x1x8x128.Idx)
    (h : Fin 8) (a : Fin 1088) (l : Fin 128) (ha : 128 ≤ a.val % 136) :
    shapeCast S1x1x8x128 (broadcast S8x128 (Scalar.ofBits (F := Ideal) .f32 0x00000000#32)) shapeCasts_S8x128_S1x1x8x128 x
      = bS x8 q h a l := by
  obtain ⟨u, v, k, t, rfl⟩ : ∃ u v k t, x = ix4 u v k t := ⟨x 0, x 1, x 2, x 3, by funext a; fin_cases a <;> rfl⟩
  pointwise
  rw [bS, dif_neg (by omega)]

/-! ## The outputs -/

variable (c : Dev nD) (i : grid0.Coords)
  (arg1 : Memref sig .tc .vmem S512x512 .bf16) (harg1 : arg1.IsWhole)
  (arg2 : Memref sig .tc .vmem S512x512 .bf16) (harg2 : arg2.IsWhole)
  (arg3 : Memref sig .tc .vmem S512x1024 .f32) (harg3 : arg3.IsWhole)
  (arg4 : Memref sig .tc .vmem S1x6x1024 .f32) (harg4 : arg4.IsWhole)
  (arg5 : Memref sig .tc .vmem S1x512 .f32) (harg5 : arg5.IsWhole)
  (arg6 : Memref sig .tc .vmem S1024x1024 .bf16) (harg6 : arg6.IsWhole)
  (arg7 : Memref sig .tc .vmem S1x1024 .f32) (harg7 : arg7.IsWhole)
  (arg8 : Memref sig .tc .vmem S1024x2048 .bf16) (harg8 : arg8.IsWhole)
  (arg9 : Memref sig .tc .vmem S16x128x128 .bf16) (harg9 : arg9.IsWhole)
  (arg10 : Memref sig .tc .vmem S512x1024 .f32) (harg10 : arg10.IsWhole)
  (arg11 : Memref sig .tc .vmem S512x1024 .bf16) (harg11 : arg11.IsWhole)
  (arg12 : Memref sig .tc .vmem S1x8x1088x128 .f32) (harg12 : arg12.IsWhole)
  (x0 x1 : Vec Ideal S512x512 .bf16) (x2 : Vec Ideal S512x1024 .f32) (x3 : Vec Ideal S1x6x1024 .f32)
  (x4 : Vec Ideal S1x512 .f32) (x5 : Vec Ideal S1024x1024 .bf16) (x6 : Vec Ideal S1x1024 .f32) (x7 : Vec Ideal S1024x2048 .bf16)
  (x8 : Vec Ideal S16x128x128 .bf16)

theorem out9 (r : Fin 512) (e : Fin 1024) : out0_A_9 (F := Ideal) c i arg1 harg1 arg2 harg2 arg3 harg3 arg4 harg4 arg5 harg5 arg6 harg6 arg7 harg7 arg8 harg8 arg9 harg9 arg10 harg10 arg11 harg11 arg12 harg12
      x0 x1 x2 x3 x4 x5 x6 x7 x8 (ix2 r e)
    = bX x0 x1 x2 x3 x4 x5 r e := by
  frame_out
  exact resid_apply x0 x1 x2 x3 x4 x5 r e

theorem out10 (r : Fin 512) (e : Fin 1024) : out0_A_10 (F := Ideal) c i arg1 harg1 arg2 harg2 arg3 harg3 arg4 harg4 arg5 harg5 arg6 harg6 arg7 harg7 arg8 harg8 arg9 harg9 arg10 harg10 arg11 harg11 arg12 harg12
      x0 x1 x2 x3 x4 x5 x6 x7 x8 (ix2 r e)
    = bH x0 x1 x2 x3 x4 x5 x6 r e := by
  frame_out
  exact normed_apply x0 x1 x2 x3 x4 x5 x6 r e

theorem out11 (y : S1x8x1088x128.Idx) : out0_A_11 (F := Ideal) c i arg1 harg1 arg2 harg2 arg3 harg3 arg4 harg4 arg5 harg5 arg6 harg6 arg7 harg7 arg8 harg8 arg9 harg9 arg10 harg10 arg11 harg11 arg12 harg12
      x0 x1 x2 x3 x4 x5 x6 x7 x8 y
    = bS x8 (bQ x0 x1 x2 x3 x4 x5 x6 x7) (y 1) (y 2) (y 3) := by
  have hQ := queries_apply x0 x1 x2 x3 x4 x5 x6 x7
  have cov := cover0_A_11 (F := Ideal) c i arg1 harg1 arg2 harg2 arg3 harg3 arg4 harg4 arg5 harg5 arg6 harg6 arg7 harg7 arg8 harg8 arg9 harg9 arg10 harg10 arg11 harg11 arg12 harg12
      x0 x1 x2 x3 x4 x5 x6 x7 x8 y
  generalize bQ x0 x1 x2 x3 x4 x5 x6 x7 = q at hQ ⊢
  frame_out at cov ⊢
  simp only [pay11_eq, pay10_eq] at cov ⊢
  generalize k0_pay8 (F := Ideal) _ _ _ _ _ _ _ = Q at hQ cov ⊢
  canon_tiles x h using cov
  all_goals
    open_payloads
    first
    | exact zero_piece x8 q x (y 1) (y 2) (y 3) (by omega)
    | exact score_piece Q q hQ x8 _ _ _ _ _ _ x (y 1) (y 2) (y 3) rfl (by omega) (by omega) (by omega)

end Cert.Proof.Post
-- ==== Proof.PostHost.lean ====
/-
  What the host operations before the call leave in its operands, one element at a time: the arguments recast to bf16 and
  reshaped, tokens in a row, the modulation's six rows apart, the keys by half-head.
-/
module

public import proofs.«01_k».proof.Proof.Gen.Kernel3Ideal.Frame.Runs
public import Idealize.ShloMosaic.Lib.Pointwise
public import Idealize.ShloMosaic.Lib.StableHlo.Run

@[expose] public section

set_option maxRecDepth 16384

noncomputable section

namespace Cert.Proof.Post

open Cert.Kernel3Ideal Cert.Kernel3Ideal.Gen
open Idealize.ShloMosaic Idealize.ShloMosaic.TcCoe Idealize.SL.Sem

variable (m : (ℓ : Loc nD τ sig) → Buf (Elt Ideal) ℓ) (c : Dev nD)

/-- The launch's arguments: the attention's output, -/
abbrev oArr : FVec Ideal S4x4096x512 .f32 := m ((c : Thread nD τ).loc main_arg0)
/-- the gate's rows, -/
abbrev sArr : FVec Ideal S4x4096x512 .f32 := m ((c : Thread nD τ).loc main_arg1)
/-- the residual, -/
abbrev xArr : FVec Ideal S4x4096x1024 .f32 := m ((c : Thread nD τ).loc main_arg2)
/-- the modulation, -/
abbrev mdArr : FVec Ideal S4x6144 .f32 := m ((c : Thread nD τ).loc main_arg3)
/-- the gains of the attention's norm, -/
abbrev gaArr : FVec Ideal S512 .f32 := m ((c : Thread nD τ).loc main_arg4)
/-- the output projection, -/
abbrev woArr : FVec Ideal S1024x1024 .f32 := m ((c : Thread nD τ).loc main_arg5)
/-- the gains of the second norm, -/
abbrev g2Arr : FVec Ideal S1024 .f32 := m ((c : Thread nD τ).loc main_arg6)
/-- the query projection -/
abbrev wqArr : FVec Ideal S1024x2048 .f32 := m ((c : Thread nD τ).loc main_arg7)
/-- and the keys. -/
abbrev kyArr : FVec Ideal S8x2x128x128 .f32 := m ((c : Thread nD τ).loc main_arg8)

theorem V_v3 : (V m c main_v3 : FVec Ideal S16384x512 .bf16)
    = truncf .bf16 (shapeCast S16384x512 (oArr m c) shapeCasts_S4x4096x512_S16384x512) bitsLt_bf16_f32 := by
  unfold V; after_results <;> rfl
theorem V_v5 : (V m c main_v5 : FVec Ideal S16384x512 .bf16)
    = truncf .bf16 (shapeCast S16384x512 (sArr m c) shapeCasts_S4x4096x512_S16384x512) bitsLt_bf16_f32 := by
  unfold V; after_results <;> rfl
theorem V_v6 : (V m c main_v6 : FVec Ideal S16384x1024 .f32)
    = shapeCast S16384x1024 (xArr m c) shapeCasts_S4x4096x1024_S16384x1024 := by
  unfold V; after_results <;> rfl
theorem V_v7 : (V m c main_v7 : FVec Ideal S4x6x1024 .f32) = shapeCast S4x6x1024 (mdArr m c) shapeCasts_S4x6144_S4x6x1024 := by
  unfold V; after_results <;> rfl
theorem V_v8 : (V m c main_v8 : FVec Ideal S1x512 .f32) = broadcastInDim S1x512 ![1] bcast_S512_S1x512_1 (gaArr m c) := by
  unfold V; after_results <;> rfl
theorem V_v9 : (V m c main_v9 : FVec Ideal S1024x1024 .bf16) = truncf .bf16 (woArr m c) bitsLt_bf16_f32 := by
  unfold V; after_results <;> rfl
theorem V_v10 : (V m c main_v10 : FVec Ideal S1x1024 .f32) = broadcastInDim S1x1024 ![1] bcast_S1024_S1x1024_1 (g2Arr m c) := by
  unfold V; after_results <;> rfl
theorem V_v11 : (V m c main_v11 : FVec Ideal S1024x2048 .bf16) = truncf .bf16 (wqArr m c) bitsLt_bf16_f32 := by
  unfold V; after_results <;> rfl
theorem V_v1 : (V m c main_v1 : FVec Ideal S16x128x128 .bf16)
    = truncf .bf16 (shapeCast S16x128x128 (kyArr m c) shapeCasts_S8x2x128x128_S16x128x128) bitsLt_bf16_f32 := by
  unfold V; after_results <;> rfl

/-- Token `t` of the attention's output, -/
theorem v3_apply (t : Fin 16384) (k : Fin 512) : (V m c main_v3 : FVec Ideal S16384x512 .bf16) (ix2 t k)
    = oArr m c (ix3 ⟨t.val / 4096, by omega⟩ ⟨t.val % 4096, by omega⟩ k) := by
  rw [V_v3]; generalize oArr m c = a; pointwise []
/-- of the gate's rows -/
theorem v5_apply (t : Fin 16384) (k : Fin 512) : (V m c main_v5 : FVec Ideal S16384x512 .bf16) (ix2 t k)
    = sArr m c (ix3 ⟨t.val / 4096, by omega⟩ ⟨t.val % 4096, by omega⟩ k) := by
  rw [V_v5]; generalize sArr m c = a; pointwise []
/-- and of the residual; -/
theorem v6_apply (t : Fin 16384) (k : Fin 1024) : (V m c main_v6 : FVec Ideal S16384x1024 .f32) (ix2 t k)
    = xArr m c (ix3 ⟨t.val / 4096, by omega⟩ ⟨t.val % 4096, by omega⟩ k) := by
  rw [V_v6]; generalize xArr m c = a; pointwise []
/-- row `j` of a batch's modulation; -/
theorem v7_apply (b : Fin 4) (j : Fin 6) (k : Fin 1024) : (V m c main_v7 : FVec Ideal S4x6x1024 .f32) (ix3 b j k)
    = mdArr m c (ix2 b ⟨j.val * 1024 + k.val, by omega⟩) := by
  rw [V_v7]; generalize mdArr m c = a; pointwise []
theorem v8_apply (k : Fin 512) : (V m c main_v8 : FVec Ideal S1x512 .f32) (ix2 0 k) = gaArr m c (ix1 k) := by
  rw [V_v8]; generalize gaArr m c = a; pointwise []
theorem v9_apply (k e : Fin 1024) : (V m c main_v9 : FVec Ideal S1024x1024 .bf16) (ix2 k e) = woArr m c (ix2 k e) := by
  rw [V_v9]; rfl
theorem v10_apply (k : Fin 1024) : (V m c main_v10 : FVec Ideal S1x1024 .f32) (ix2 0 k) = g2Arr m c (ix1 k) := by
  rw [V_v10]; generalize g2Arr m c = a; pointwise []
theorem v11_apply (k : Fin 1024) (e : Fin 2048) : (V m c main_v11 : FVec Ideal S1024x2048 .bf16) (ix2 k e) = wqArr m c (ix2 k e) := by
  rw [V_v11]; rfl
/-- a key, by half-head. -/
theorem v1_apply (q : Fin 16) (k d : Fin 128) : (V m c main_v1 : FVec Ideal S16x128x128 .bf16) (ix3 q k d)
    = kyArr m c (ix4 ⟨q.val / 2, by omega⟩ ⟨q.val % 2, by omega⟩ k d) := by
  rw [V_v1]; generalize kyArr m c = a; pointwise []

end Cert.Proof.Post

end
-- ==== Proof.PostBlocks.lean ====
/-
  Where each grid point's blocks sit in the arrays: point `t` is the tile of tokens `512 t` to `512 t + 511`, of batch `t / 8`.
-/
module

public import proofs.«01_k».proof.Proof.Gen.Kernel3Ideal.Value
public import proofs.«01_k».proof.Proof.PostHost

@[expose] public section

set_option maxRecDepth 16384

noncomputable section

namespace Cert.Proof.Post

open Cert.Kernel3Ideal Cert.Kernel3Ideal.Gen
open Idealize.ShloMosaic Idealize.ShloMosaic.TcCoe Idealize.SL.Sem
open Idealize.ShloMosaic.Pipeline (Dat Window)

/-- The block indices of the twelve windows. -/
theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0] :=
  (by decide +kernel : ∀ t : Fin grid0.N, win0_1.index t = ![t.val, 0])
theorem index2 : ∀ t : Fin cfg0.N, win0_2.index t = ![t.val, 0] :=
  (by decide +kernel : ∀ t : Fin grid0.N, win0_2.index t = ![t.val, 0])
theorem index3 : ∀ t : Fin cfg0.N, win0_3.index t = ![t.val / 8, 0, 0] :=
  (by decide +kernel : ∀ t : Fin grid0.N, win0_3.index t = ![t.val / 8, 0, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])
theorem index6 : ∀ t : Fin cfg0.N, win0_6.index t = ![0, 0] :=
  (by decide +kernel : ∀ t : Fin grid0.N, win0_6.index t = ![0, 0])
theorem index7 : ∀ t : Fin cfg0.N, win0_7.index t = ![0, 0] :=
  (by decide +kernel : ∀ t : Fin grid0.N, win0_7.index t = ![0, 0])
theorem index8 : ∀ t : Fin cfg0.N, win0_8.index t = ![0, 0, 0] :=
  (by decide +kernel : ∀ t : Fin grid0.N, win0_8.index t = ![0, 0, 0])
theorem index9 : ∀ t : Fin cfg0.N, win0_9.index t = ![t.val, 0] :=
  (by decide +kernel : ∀ t : Fin grid0.N, win0_9.index t = ![t.val, 0])
theorem index10 : ∀ t : Fin cfg0.N, win0_10.index t = ![t.val, 0] :=
  (by decide +kernel : ∀ t : Fin grid0.N, win0_10.index t = ![t.val, 0])
theorem index11 : ∀ t : Fin cfg0.N, win0_11.index t = ![t.val, 0, 0, 0] :=
  (by decide +kernel : ∀ t : Fin grid0.N, win0_11.index t = ![t.val, 0, 0, 0])

theorem N_eq : cfg0.N = 32 := N_0

variable (m : (ℓ : Loc nD τ sig) → Buf (Elt Ideal) ℓ) (c : Dev nD) (t : Fin cfg0.N)

/-- The token a tile's row is of, -/
def tok (r : Fin 512) : Fin 16384 := ⟨t.val * 512 + r.val, by have := t.isLt; have := N_eq; omega⟩
/-- the tile's batch -/
def bat : Fin 4 := ⟨t.val / 8, by have := t.isLt; have := N_eq; omega⟩
/-- and the tile, by its number. -/
def til : Fin 32 := ⟨t.val, by have := t.isLt; have := N_eq; omega⟩

/-! ## The operands' blocks -/

theorem iblk0_apply (r k : Fin 512) :
    (iblk m c 0 t : FVec Ideal S512x512 .bf16) (ix2 r k) = (V m c main_v3 : FVec Ideal S16384x512 .bf16) (ix2 (tok t r) k) := by
  show V m c main_v3 ((win0_0.rect t).emb (ix2 r k)) = _
  refine congrArg (V m c main_v3) (funext fun a => Fin.ext ((win0_0.rect_emb_val t _ a).trans ?_))
  rw [index0]
  fin_cases a
  · rfl
  · show 0 * 512 + k.val = k.val; omega

theorem iblk1_apply (r k : Fin 512) :
    (iblk m c 1 t : FVec Ideal S512x512 .bf16) (ix2 r k) = (V m c main_v5 : FVec Ideal S16384x512 .bf16) (ix2 (tok t r) k) := by
  show V m c main_v5 ((win0_1.rect t).emb (ix2 r k)) = _
  refine congrArg (V m c main_v5) (funext fun a => Fin.ext ((win0_1.rect_emb_val t _ a).trans ?_))
  rw [index1]
  fin_cases a
  · rfl
  · show 0 * 512 + k.val = k.val; omega

theorem iblk2_apply (r : Fin 512) (k : Fin 1024) :
    (iblk m c 2 t : FVec Ideal S512x1024 .f32) (ix2 r k) = (V m c main_v6 : FVec Ideal S16384x1024 .f32) (ix2 (tok t r) k) := by
  show V m c main_v6 ((win0_2.rect t).emb (ix2 r k)) = _
  refine congrArg (V m c main_v6) (funext fun a => Fin.ext ((win0_2.rect_emb_val t _ a).trans ?_))
  rw [index2]
  fin_cases a
  · rfl
  · show 0 * 1024 + k.val = k.val; omega

theorem iblk3_apply (j : Fin 6) (k : Fin 1024) :
    (iblk m c 3 t : FVec Ideal S1x6x1024 .f32) (ix3 0 j k) = (V m c main_v7 : FVec Ideal S4x6x1024 .f32) (ix3 (bat t) j k) := by
  show V m c main_v7 ((win0_3.rect t).emb (ix3 0 j k)) = _
  refine congrArg (V m c main_v7) (funext fun a => Fin.ext ((win0_3.rect_emb_val t _ a).trans ?_))
  rw [index3]
  fin_cases a
  · show t.val / 8 * 1 + 0 = t.val / 8; omega
  · show 0 * 6 + j.val = j.val; omega
  · show 0 * 1024 + k.val = k.val; omega

theorem iblk4_apply (k : Fin 512) :
    (iblk m c 4 t : FVec Ideal S1x512 .f32) (ix2 0 k) = (V m c main_v8 : FVec Ideal S1x512 .f32) (ix2 0 k) := by
  show V m c main_v8 ((win0_4.rect t).emb (ix2 0 k)) = _
  refine congrArg (V m c main_v8) (funext fun a => Fin.ext ((win0_4.rect_emb_val t _ a).trans ?_))
  rw [index4]
  fin_cases a
  · rfl
  · show 0 * 512 + k.val = k.val; omega

theorem iblk5_apply (k e : Fin 1024) :
    (iblk m c 5 t : FVec Ideal S1024x1024 .bf16) (ix2 k e) = (V m c main_v9 : FVec Ideal S1024x1024 .bf16) (ix2 k e) := by
  show V m c main_v9 ((win0_5.rect t).emb (ix2 k e)) = _
  refine congrArg (V m c main_v9) (funext fun a => Fin.ext ((win0_5.rect_emb_val t _ a).trans ?_))
  rw [index5]
  fin_cases a
  · show 0 * 1024 + k.val = k.val; omega
  · show 0 * 1024 + e.val = e.val; omega

theorem iblk6_apply (k : Fin 1024) :
    (iblk m c 6 t : FVec Ideal S1x1024 .f32) (ix2 0 k) = (V m c main_v10 : FVec Ideal S1x1024 .f32) (ix2 0 k) := by
  show V m c main_v10 ((win0_6.rect t).emb (ix2 0 k)) = _
  refine congrArg (V m c main_v10) (funext fun a => Fin.ext ((win0_6.rect_emb_val t _ a).trans ?_))
  rw [index6]
  fin_cases a
  · rfl
  · show 0 * 1024 + k.val = k.val; omega

theorem iblk7_apply (k : Fin 1024) (e : Fin 2048) :
    (iblk m c 7 t : FVec Ideal S1024x2048 .bf16) (ix2 k e) = (V m c main_v11 : FVec Ideal S1024x2048 .bf16) (ix2 k e) := by
  show V m c main_v11 ((win0_7.rect t).emb (ix2 k e)) = _
  refine congrArg (V m c main_v11) (funext fun a => Fin.ext ((win0_7.rect_emb_val t _ a).trans ?_))
  rw [index7]
  fin_cases a
  · show 0 * 1024 + k.val = k.val; omega
  · show 0 * 2048 + e.val = e.val; omega

theorem iblk8_apply (q : Fin 16) (k d : Fin 128) :
    (iblk m c 8 t : FVec Ideal S16x128x128 .bf16) (ix3 q k d) = (V m c main_v1 : FVec Ideal S16x128x128 .bf16) (ix3 q k d) := by
  show V m c main_v1 ((win0_8.rect t).emb (ix3 q k d)) = _
  refine congrArg (V m c main_v1) (funext fun a => Fin.ext ((win0_8.rect_emb_val t _ a).trans ?_))
  rw [index8]
  fin_cases a
  · show 0 * 16 + q.val = q.val; omega
  · show 0 * 128 + k.val = k.val; omega
  · show 0 * 128 + d.val = d.val; omega

/-! ## The results' blocks -/

theorem emb9 (r : Fin 512) (e : Fin 1024) : (win0_9.rect t).emb (ix2 r e) = (ix2 (tok t r) e : S16384x1024.Idx) := by
  refine funext fun a => Fin.ext ((win0_9.rect_emb_val t _ a).trans ?_)
  rw [index9]
  fin_cases a
  · rfl
  · show 0 * 1024 + e.val = e.val; omega

theorem emb10 (r : Fin 512) (e : Fin 1024) : (win0_10.rect t).emb (ix2 r e) = (ix2 (tok t r) e : S16384x1024.Idx) := by
  refine funext fun a => Fin.ext ((win0_10.rect_emb_val t _ a).trans ?_)
  rw [index10]
  fin_cases a
  · rfl
  · show 0 * 1024 + e.val = e.val; omega

theorem emb11 (z : Fin 1) (h : Fin 8) (a : Fin 1088) (l : Fin 128) :
    (win0_11.rect t).emb (ix4 z h a l) = (ix4 (til t) h a l : S32x8x1088x128.Idx) := by
  refine funext fun b => Fin.ext ((win0_11.rect_emb_val t _ b).trans ?_)
  rw [index11]
  fin_cases b
  · show t.val * 1 + z.val = t.val; omega
  · show 0 * 8 + h.val = h.val; omega
  · show 0 * 1088 + a.val = a.val; omega
  · show 0 * 128 + l.val = l.val; omega

/-- Every element of a result is in the block of its tile. -/
theorem cover9 (i : S16384x1024.Idx) : ∃ t : Fin cfg0.N, (cfg0.win 9).flush t = true ∧ i ∈ ((cfg0.win 9).blk t).view.set := by
  obtain ⟨r, e, rfl⟩ : ∃ (r : Fin 16384) (e : Fin 1024), i = ix2 r e := ⟨i 0, i 1, eq_ix2 i⟩
  obtain ⟨t, ht⟩ : ∃ t : Fin cfg0.N, t.val = r.val / 512 := ⟨⟨_, by rw [N_eq]; omega⟩, rfl⟩
  have h : (win0_9.rect t).emb (ix2 (⟨r.val % 512, by omega⟩ : Fin 512) e) = (ix2 r e : S16384x1024.Idx) := by
    rw [emb9, show tok t _ = r from Fin.ext (by show t.val * 512 + r.val % 512 = _; omega)]
  rw [← h]
  exact ⟨t, flush0_9 t, ((cfg0.win 9).blk t).view.emb_mem_set _⟩

theorem cover10 (i : S16384x1024.Idx) : ∃ t : Fin cfg0.N, (cfg0.win 10).flush t = true ∧ i ∈ ((cfg0.win 10).blk t).view.set := by
  obtain ⟨r, e, rfl⟩ : ∃ (r : Fin 16384) (e : Fin 1024), i = ix2 r e := ⟨i 0, i 1, eq_ix2 i⟩
  obtain ⟨t, ht⟩ : ∃ t : Fin cfg0.N, t.val = r.val / 512 := ⟨⟨_, by rw [N_eq]; omega⟩, rfl⟩
  have h : (win0_10.rect t).emb (ix2 (⟨r.val % 512, by omega⟩ : Fin 512) e) = (ix2 r e : S16384x1024.Idx) := by
    rw [emb10, show tok t _ = r from Fin.ext (by show t.val * 512 + r.val % 512 = _; omega)]
  rw [← h]
  exact ⟨t, flush0_10 t, ((cfg0.win 10).blk t).view.emb_mem_set _⟩

theorem cover11 (i : S32x8x1088x128.Idx) : ∃ t : Fin cfg0.N, (cfg0.win 11).flush t = true ∧ i ∈ ((cfg0.win 11).blk t).view.set := by
  obtain ⟨n, h, a, l, rfl⟩ : ∃ (n : Fin 32) (h : Fin 8) (a : Fin 1088) (l : Fin 128), i = ix4 n h a l := ⟨i 0, i 1, i 2, i 3, eq_ix4 i⟩
  obtain ⟨t, ht⟩ : ∃ t : Fin cfg0.N, t.val = n.val := ⟨⟨n.val, n.isLt.trans_eq N_eq.symm⟩, rfl⟩
  have e : (win0_11.rect t).emb (ix4 (0 : Fin 1) h a l) = (ix4 n h a l : S32x8x1088x128.Idx) := by
    rw [emb11, show til t = n from Fin.ext ht]
  rw [← e]
  exact ⟨t, flush0_11 t, ((cfg0.win 11).blk t).view.emb_mem_set _⟩

end Cert.Proof.Post

end
-- ==== Proof.PostRef.lean ====
/-
  The reference of the call between the mixers and the experts, one element at a time: its residual rows, its second
  norm, its queries and its scores are the row functions.
-/
module

public import proofs.«01_k».proof.Proof.Gen.Reference3Ideal.Run
public import proofs.«01_k».proof.Proof.PostMath

@[expose] public section

set_option maxRecDepth 16384

noncomputable section

namespace Cert.Proof.PostRef

open Cert.Reference3Ideal Cert.Reference3Ideal.Gen Facts
open Idealize.ShloMosaic Cert.Proof.Post

variable (o s : FVec Ideal S4x4096x512 .f32) (x : FVec Ideal S4x4096x1024 .f32) (md : FVec Ideal S4x6144 .f32)
  (ga : FVec Ideal S512 .f32) (wo : FVec Ideal S1024x1024 .f32) (g2 : FVec Ideal S1024 .f32) (wq : FVec Ideal S1024x2048 .f32)
  (keys : FVec Ideal S8x2x128x128 .f32)

/-- The attention's output over its root mean square, times the gains. -/
def normed : FVec Ideal S4x4096x512 .f32 :=
  mulf (mulf o (broadcastInDim S4x4096x512 ![0, 1, 2] bcast_S4x4096x1_S4x4096x512_0_1_2 (Host.rsqrt (addf (Host.divf
    (broadcastInDim S4x4096x1 ![0, 1] bcast_S4x4096_S4x4096x1_0_1
      (Host.reduceAdd (mulf o o) (constant S_ .f32 0x00000000#32) reducesTo_S4x4096x512_S4x4096_d2 h_S_))
    (broadcastInDim S4x4096x1 ![] bcast_S_S4x4096x1 (constant S_ .f32 0x44000000#32)))
    (broadcastInDim S4x4096x1 ![] bcast_S_S4x4096x1 (constant S_ .f32 0x358637BD#32))))))
    (broadcastInDim S4x4096x512 ![0, 1, 2] bcast_S1x1x512_S4x4096x512_0_1_2 (broadcastInDim S1x1x512 ![2] bcast_S512_S1x1x512_2 ga))

/-- The residual, from the normalised attention `y`. -/
def resid (y : FVec Ideal S4x4096x512 .f32) : FVec Ideal S4x4096x1024 .f32 :=
  addf x (mulf (broadcastInDim S4x4096x1024 ![0, 1, 2] bcast_S4x1x1024_S4x4096x1024_0_1_2
      (broadcastInDim S4x1x1024 ![0, 2] bcast_S4x1024_S4x1x1024_0_2
        (extractStridedSlice S4x1024 ![0, 2048] md slices_S4x6144_S4x1024_0_2048)))
    (Host.dotGeneral dot_S4x4096x1024_S1024x1024_S4x4096x1024_2_0_01_1_n_n none
      (concatenate S4x4096x1024 2 [⟨S4x4096x512, y⟩, ⟨S4x4096x512, s⟩] concatenates_S4x4096x512_S4x4096x512_S4x4096x1024_d2) wo))

/-- The second norm, scaled and shifted, of the residual `X`. -/
def second (X : FVec Ideal S4x4096x1024 .f32) : FVec Ideal S4x4096x1024 .f32 :=
  addf (mulf (mulf (mulf X (broadcastInDim S4x4096x1024 ![0, 1, 2] bcast_S4x4096x1_S4x4096x1024_0_1_2 (Host.rsqrt (addf (Host.divf
    (broadcastInDim S4x4096x1 ![0, 1] bcast_S4x4096_S4x4096x1_0_1
      (Host.reduceAdd (mulf X X) (constant S_ .f32 0x00000000#32) reducesTo_S4x4096x1024_S4x4096_d2 h_S_))
    (broadcastInDim S4x4096x1 ![] bcast_S_S4x4096x1 (constant S_ .f32 0x44800000#32)))
    (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 g2)))
    (broadcastInDim S4x4096x1024 ![0, 1, 2] bcast_S4x1x1024_S4x4096x1024_0_1_2
      (addf (broadcastInDim S4x1x1024 ![] bcast_S_S4x1x1024 (constant S_ .f32 0x3F800000#32))
        (broadcastInDim S4x1x1024 ![0, 2] bcast_S4x1024_S4x1x1024_0_2
          (extractStridedSlice S4x1024 ![0, 4096] md slices_S4x6144_S4x1024_0_4096)))))
    (broadcastInDim S4x4096x1024 ![0, 1, 2] bcast_S4x1x1024_S4x4096x1024_0_1_2
      (broadcastInDim S4x1x1024 ![0, 2] bcast_S4x1024_S4x1x1024_0_2
        (extractStridedSlice S4x1024 ![0, 3072] md slices_S4x6144_S4x1024_0_3072)))

/-- The tokens in a row. -/
def flat (X : FVec Ideal S4x4096x1024 .f32) : FVec Ideal S16384x1024 .f32 := shapeCast _ X shapeCasts_S4x4096x1024_S16384x1024

/-- The queries by token, head, half and entry. -/
def queries (h : FVec Ideal S16384x1024 .f32) : FVec Ideal S16384x8x2x128 .f32 :=
  shapeCast _ (Host.dotGeneral dot_S16384x1024_S1024x2048_S16384x2048_1_0_0_1_n_n none h wq) shapeCasts_S16384x2048_S16384x8x2x128

/-- The scores of the first half, -/
def scores0 (q : FVec Ideal S16384x8x2x128 .f32) : FVec Ideal S16384x8x128 .f32 :=
  transpose S16384x8x128 [2, 0, 1] (Host.dotGeneral dot_S8x128x128_S16384x8x128_S8x128x16384_2_2_1_0_0_1 none
    (shapeCast _ (extractStridedSlice S8x1x128x128 ![0, 0, 0, 0] keys slices_S8x2x128x128_S8x1x128x128_0_0_0_0) shapeCasts_S8x1x128x128_S8x128x128 : FVec Ideal S8x128x128 .f32)
    (shapeCast _ (extractStridedSlice S16384x8x1x128 ![0, 0, 0, 0] q slices_S16384x8x2x128_S16384x8x1x128_0_0_0_0) shapeCasts_S16384x8x1x128_S16384x8x128 : FVec Ideal S16384x8x128 .f32))
    transposes_S8x128x16384_S16384x8x128_2_0_1

/-- and of the second. -/
def scores1 (q : FVec Ideal S16384x8x2x128 .f32) : FVec Ideal S16384x8x128 .f32 :=
  transpose S16384x8x128 [2, 0, 1] (Host.dotGeneral dot_S8x128x128_S16384x8x128_S8x128x16384_2_2_1_0_0_1 none
    (shapeCast _ (extractStridedSlice S8x1x128x128 ![0, 1, 0, 0] keys slices_S8x2x128x128_S8x1x128x128_0_1_0_0) shapeCasts_S8x1x128x128_S8x128x128 : FVec Ideal S8x128x128 .f32)
    (shapeCast _ (extractStridedSlice S16384x8x1x128 ![0, 0, 1, 0] q slices_S16384x8x2x128_S16384x8x1x128_0_0_1_0) shapeCasts_S16384x8x1x128_S16384x8x128 : FVec Ideal S16384x8x128 .f32))
    transposes_S8x128x16384_S16384x8x128_2_0_1

/-- Both, side by side. -/
def both (s0 s1 : FVec Ideal S16384x8x128 .f32) : FVec Ideal S16384x8x2x128 .f32 :=
  concatenate S16384x8x2x128 2 [⟨S16384x8x1x128, broadcastInDim S16384x8x1x128 ![0, 1, 3] bcast_S16384x8x128_S16384x8x1x128_0_1_3 s0⟩,
    ⟨S16384x8x1x128, broadcastInDim S16384x8x1x128 ![0, 1, 3] bcast_S16384x8x128_S16384x8x1x128_0_1_3 s1⟩]
    concatenates_S16384x8x1x128_S16384x8x1x128_S16384x8x2x128_d2

/-- By tile of 512 tokens, head, half, run of 128 tokens, key and token. -/
def turned (b : FVec Ideal S16384x8x2x128 .f32) : FVec Ideal S32x8x2x4x128x128 .f32 :=
  transpose S32x8x2x4x128x128 [0, 3, 4, 1, 5, 2] (shapeCast S32x4x128x8x2x128 b shapeCasts_S16384x8x2x128_S32x4x128x8x2x128)
    transposes_S32x4x128x8x2x128_S32x8x2x4x128x128_0_3_4_1_5_2

/-- Eight rows of zeros under the keys, and the rows of a head one below the other. -/
def laid (b : FVec Ideal S32x8x2x4x128x128 .f32) : FVec Ideal S32x8x1088x128 .f32 :=
  shapeCast _ (pad S32x8x2x4x136x128 ![0, 0, 0, 0, 0, 0] ![0, 0, 0, 0, 8, 0] ![0, 0, 0, 0, 0, 0] b (sitofp .f32 (constantI S_ 32 0#32))
    pads_S32x8x2x4x128x128_S32x8x2x4x136x128_000_000_000_000_080_000 h_S_) shapeCasts_S32x8x2x4x136x128_S32x8x1088x128

theorem normed_apply (b : Fin 4) (i : Fin 4096) (k : Fin 512) : normed o ga (ix3 b i k)
    = nrm (Ideal.ofBits FTy.f32 1140850688#32) (fun k => o (ix3 b i k)) (fun k => ga (ix1 k)) k := by
  pointwise [normed]
  rfl

theorem resid_apply (y : FVec Ideal S4x4096x512 .f32) (b : Fin 4) (i : Fin 4096) (c : Fin 1024) : resid s x md wo y (ix3 b i c)
    = x (ix3 b i c) + md (ix2 b ⟨2048 + c.val, by omega⟩) * (∑ k : Fin 512, y (ix3 b i k) * wo (ix2 ⟨k.val, by omega⟩ c)
      + ∑ k : Fin 512, s (ix3 b i k) * wo (ix2 ⟨512 + k.val, by omega⟩ c)) := by
  pointwise [resid]

theorem second_apply (X : FVec Ideal S4x4096x1024 .f32) (b : Fin 4) (i : Fin 4096) (c : Fin 1024) : second md g2 X (ix3 b i c)
    = rowH (fun c => X (ix3 b i c)) (fun c => g2 (ix1 c)) (fun c => md (ix2 b ⟨4096 + c.val, by omega⟩))
      (fun c => md (ix2 b ⟨3072 + c.val, by omega⟩)) c := by
  pointwise [second]
  rfl

theorem flat_apply (X : FVec Ideal S4x4096x1024 .f32) (t : Fin 16384) (c : Fin 1024) :
    flat X (ix2 t c) = X (ix3 ⟨t.val / 4096, by omega⟩ ⟨t.val % 4096, by omega⟩ c) := by
  pointwise [flat]

theorem queries_apply (h : FVec Ideal S16384x1024 .f32) (t : Fin 16384) (p : Fin 8) (u : Fin 2) (d : Fin 128) :
    queries wq h (ix4 t p u d) = rowQ (fun d => h (ix2 t d)) (fun d e => wq (ix2 d e)) ⟨(2 * p.val + u.val) * 128 + d.val, by omega⟩ := by
  pointwise [queries]
  exact Finset.sum_congr rfl fun x _ => congrArg (fun e => h (ix2 t x) * wq (ix2 x e)) (Fin.ext (by dsimp only; omega))

theorem scores0_apply (q : FVec Ideal S16384x8x2x128 .f32) (t : Fin 16384) (p : Fin 8) (k : Fin 128) :
    scores0 keys q (ix3 t p k) = ∑ d : Fin 128, keys (ix4 p 0 k d) * q (ix4 t p 0 d) := by
  pointwise [scores0]

theorem scores1_apply (q : FVec Ideal S16384x8x2x128 .f32) (t : Fin 16384) (p : Fin 8) (k : Fin 128) :
    scores1 keys q (ix3 t p k) = ∑ d : Fin 128, keys (ix4 p 1 k d) * q (ix4 t p 1 d) := by
  pointwise [scores1]

theorem both_apply (s0 s1 : FVec Ideal S16384x8x128 .f32) (t : Fin 16384) (p : Fin 8) (u : Fin 2) (k : Fin 128) :
    both s0 s1 (ix4 t p u k) = if u.val = 0 then s0 (ix3 t p k) else s1 (ix3 t p k) := by
  pointwise [both]
  by_cases h : u.val = 0
  · rw [dif_pos (by omega), if_pos h]
  · rw [dif_neg (by omega), if_neg h]

theorem turned_apply (b : FVec Ideal S16384x8x2x128 .f32) (n : Fin 32) (p : Fin 8) (u : Fin 2) (r : Fin 4) (k l : Fin 128) :
    turned b (ix6 n p u r k l) = b (ix4 ⟨n.val * 512 + r.val * 128 + l.val, by omega⟩ p u k) := by
  pointwise [turned]

theorem laid_apply (b : FVec Ideal S32x8x2x4x128x128 .f32) (n : Fin 32) (p : Fin 8) (a : Fin 1088) (l : Fin 128) :
    laid b (ix4 n p a l) = if hk : a.val % 136 < 128 then
      b (ix6 n p ⟨a.val / 544, by omega⟩ ⟨a.val / 136 % 4, by omega⟩ ⟨a.val % 136, hk⟩ l) else 0 := by
  pointwise [laid]
  by_cases h : a.val % 136 < 128
  · rw [dif_pos ⟨by omega, by omega, h⟩, dif_pos h]
  · rw [dif_neg fun e => h e.2.2, dif_neg h]
    show (((0#32 : BitVec 32).toInt : ℝ) : EReal) = 0
    simp

/-! ## The results, by token -/

/-- The residual row of token `t`. -/
def tX (t : Fin 16384) : Fin 1024 → EReal :=
  rowX (fun k => o (ix3 ⟨t.val / 4096, by omega⟩ ⟨t.val % 4096, by omega⟩ k)) (fun k => ga (ix1 k))
    (fun k => s (ix3 ⟨t.val / 4096, by omega⟩ ⟨t.val % 4096, by omega⟩ k))
    (fun c => x (ix3 ⟨t.val / 4096, by omega⟩ ⟨t.val % 4096, by omega⟩ c))
    (fun c => md (ix2 ⟨t.val / 4096, by omega⟩ ⟨2048 + c.val, by omega⟩)) (fun k c => wo (ix2 k c))

/-- Its row after the second norm. -/
def tH (t : Fin 16384) : Fin 1024 → EReal :=
  rowH (tX o s x md ga wo t) (fun c => g2 (ix1 c)) (fun c => md (ix2 ⟨t.val / 4096, by omega⟩ ⟨4096 + c.val, by omega⟩))
    (fun c => md (ix2 ⟨t.val / 4096, by omega⟩ ⟨3072 + c.val, by omega⟩))

/-- Its queries. -/
def tQ (t : Fin 16384) : Fin 2048 → EReal := rowQ (tH o s x md ga wo g2 t) (fun d e => wq (ix2 d e))

/-- The reference's residual, -/
def out0 : FVec Ideal S16384x1024 .f32 := flat (resid s x md wo (normed o ga))
/-- its tokens after the second norm, before the cast -/
def out1 : FVec Ideal S16384x1024 .f32 := flat (second md g2 (resid s x md wo (normed o ga)))
/-- and its scores. -/
def out2 : FVec Ideal S32x8x1088x128 .f32 :=
  laid (turned (both (scores0 keys (queries wq (out1 o s x md ga wo g2))) (scores1 keys (queries wq (out1 o s x md ga wo g2)))))

theorem out0_apply (t : Fin 16384) (c : Fin 1024) : out0 o s x md ga wo (ix2 t c) = tX o s x md ga wo t c := by
  rw [out0, flat_apply, resid_apply]
  simp only [normed_apply]
  rfl

theorem out1_apply (t : Fin 16384) (c : Fin 1024) : out1 o s x md ga wo g2 (ix2 t c) = tH o s x md ga wo g2 t c := by
  rw [out1, flat_apply, second_apply]
  simp only [resid_apply, normed_apply]
  rfl

theorem out2_apply (n : Fin 32) (p : Fin 8) (a : Fin 1088) (l : Fin 128) : out2 o s x md ga wo g2 wq keys (ix4 n p a l)
    = if hk : a.val % 136 < 128 then
        rowS (fun d => keys (ix4 p ⟨a.val / 544, by omega⟩ ⟨a.val % 136, hk⟩ d))
          (tQ o s x md ga wo g2 wq ⟨n.val * 512 + (a.val / 136 % 4 * 128 + l.val), by omega⟩) ⟨2 * p.val + a.val / 544, by omega⟩
      else 0 := by
  rw [out2, laid_apply]
  refine dite_congr rfl (fun hk => ?_) fun _ => rfl
  have ht : (⟨n.val * 512 + a.val / 136 % 4 * 128 + l.val, by omega⟩ : Fin 16384)
      = ⟨n.val * 512 + (a.val / 136 % 4 * 128 + l.val), by omega⟩ := Fin.ext (Nat.add_assoc ..)
  rw [turned_apply, both_apply, ht]
  by_cases h : a.val / 544 = 0
  · rw [if_pos h, scores0_apply, rowS]
    refine Finset.sum_congr rfl fun d _ => ?_
    rw [PostRef.queries_apply, funext fun d => out1_apply o s x md ga wo g2 _ d]
    refine congrArg₂ (fun a b : EReal => a * b) (congrArg (fun u => keys (ix4 p u _ d)) (Fin.ext h.symm))
      (congrArg (tQ o s x md ga wo g2 wq _) (Fin.ext ?_))
    show (2 * p.val + 0) * 128 + d.val = (2 * p.val + a.val / 544) * 128 + d.val
    omega
  · have h1 : a.val / 544 = 1 := by omega
    rw [if_neg h, scores1_apply, rowS]
    refine Finset.sum_congr rfl fun d _ => ?_
    rw [PostRef.queries_apply, funext fun d => out1_apply o s x md ga wo g2 _ d]
    refine congrArg₂ (fun a b : EReal => a * b) (congrArg (fun u => keys (ix4 p u _ d)) (Fin.ext h1.symm))
      (congrArg (tQ o s x md ga wo g2 wq _) (Fin.ext ?_))
    show (2 * p.val + 1) * 128 + d.val = (2 * p.val + a.val / 544) * 128 + d.val
    omega

end Cert.Proof.PostRef
-- ==== Proof.PostValue.lean ====
/-
  The call's three result arrays over the extended reals are the reference's: a tile's rows are its tokens' rows.
-/
module

public import proofs.«01_k».proof.Proof.PostOut
public import proofs.«01_k».proof.Proof.PostBlocks
public import proofs.«01_k».proof.Proof.PostRef

@[expose] public section

set_option maxRecDepth 16384

noncomputable section

namespace Cert.Proof.Post

open Cert.Kernel3Ideal Cert.Kernel3Ideal.Gen Cert.Kernel3Ideal.Value
open Idealize.ShloMosaic Idealize.ShloMosaic.TcCoe Idealize.SL.Sem
open Idealize.ShloMosaic.Pipeline (Dat Window)

variable (m : (ℓ : Loc nD τ sig) → Buf (Elt Ideal) ℓ) (c : Dev nD) (t : Fin cfg0.N)

/-- A tile's token is of the tile's batch. -/
theorem tok_div (r : Fin 512) : (⟨(tok t r).val / 4096, by have := (tok t r).isLt; omega⟩ : Fin 4) = bat t :=
  Fin.ext (by show (t.val * 512 + r.val) / 4096 = t.val / 8; omega)

/-! ## The blocks' elements, in the arguments -/

theorem b0 (r k : Fin 512) : (iblk m c 0 t : FVec Ideal S512x512 .bf16) (ix2 r k)
    = oArr m c (ix3 (bat t) ⟨(tok t r).val % 4096, by omega⟩ k) :=
  ((iblk0_apply m c t r k).trans (v3_apply m c _ k)).trans (congrArg (fun b => oArr m c (ix3 b _ k)) (tok_div t r))
theorem b1 (r k : Fin 512) : (iblk m c 1 t : FVec Ideal S512x512 .bf16) (ix2 r k)
    = sArr m c (ix3 (bat t) ⟨(tok t r).val % 4096, by omega⟩ k) :=
  ((iblk1_apply m c t r k).trans (v5_apply m c _ k)).trans (congrArg (fun b => sArr m c (ix3 b _ k)) (tok_div t r))
theorem b2 (r : Fin 512) (k : Fin 1024) : (iblk m c 2 t : FVec Ideal S512x1024 .f32) (ix2 r k)
    = xArr m c (ix3 (bat t) ⟨(tok t r).val % 4096, by omega⟩ k) :=
  ((iblk2_apply m c t r k).trans (v6_apply m c _ k)).trans (congrArg (fun b => xArr m c (ix3 b _ k)) (tok_div t r))
theorem b3 (j : Fin 6) (k : Fin 1024) : (iblk m c 3 t : FVec Ideal S1x6x1024 .f32) (ix3 0 j k)
    = mdArr m c (ix2 (bat t) ⟨j.val * 1024 + k.val, by omega⟩) := (iblk3_apply m c t j k).trans (v7_apply m c _ j k)
theorem b4 (k : Fin 512) : (iblk m c 4 t : FVec Ideal S1x512 .f32) (ix2 0 k) = gaArr m c (ix1 k) :=
  (iblk4_apply m c t k).trans (v8_apply m c k)
theorem b5 (k e : Fin 1024) : (iblk m c 5 t : FVec Ideal S1024x1024 .bf16) (ix2 k e) = woArr m c (ix2 k e) :=
  (iblk5_apply m c t k e).trans (v9_apply m c k e)
theorem b6 (k : Fin 1024) : (iblk m c 6 t : FVec Ideal S1x1024 .f32) (ix2 0 k) = g2Arr m c (ix1 k) :=
  (iblk6_apply m c t k).trans (v10_apply m c k)
theorem b7 (k : Fin 1024) (e : Fin 2048) : (iblk m c 7 t : FVec Ideal S1024x2048 .bf16) (ix2 k e) = wqArr m c (ix2 k e) :=
  (iblk7_apply m c t k e).trans (v11_apply m c k e)
theorem b8 (q : Fin 16) (k d : Fin 128) : (iblk m c 8 t : FVec Ideal S16x128x128 .bf16) (ix3 q k d)
    = kyArr m c (ix4 ⟨q.val / 2, by omega⟩ ⟨q.val % 2, by omega⟩ k d) := (iblk8_apply m c t q k d).trans (v1_apply m c q k d)

/-! ## The rows -/

/-- The rows of a tile of residuals are its tokens', -/
theorem bX_eq (r : Fin 512) : bX (iblk m c 0 t) (iblk m c 1 t) (iblk m c 2 t) (iblk m c 3 t) (iblk m c 4 t) (iblk m c 5 t) r
    = PostRef.tX (oArr m c) (sArr m c) (xArr m c) (mdArr m c) (gaArr m c) (woArr m c) (tok t r) := by
  unfold bX PostRef.tX
  simp only [b0, b1, b2, b3, b4, b5, tok_div]
  rfl

/-- so are those after the second norm -/
theorem bH_eq (r : Fin 512) : bH (iblk m c 0 t) (iblk m c 1 t) (iblk m c 2 t) (iblk m c 3 t) (iblk m c 4 t) (iblk m c 5 t)
      (iblk m c 6 t) r
    = PostRef.tH (oArr m c) (sArr m c) (xArr m c) (mdArr m c) (gaArr m c) (woArr m c) (g2Arr m c) (tok t r) := by
  unfold bH PostRef.tH
  simp only [bX_eq, b3, b6, tok_div]
  rfl

/-- and the queries. -/
theorem bQ_eq (r : Fin 512) : bQ (iblk m c 0 t) (iblk m c 1 t) (iblk m c 2 t) (iblk m c 3 t) (iblk m c 4 t) (iblk m c 5 t)
      (iblk m c 6 t) (iblk m c 7 t) r
    = PostRef.tQ (oArr m c) (sArr m c) (xArr m c) (mdArr m c) (gaArr m c) (woArr m c) (g2Arr m c) (wqArr m c) (tok t r) := by
  unfold bQ PostRef.tQ
  simp only [bH_eq, b7]

/-- A tile's scores are the reference's. -/
theorem bS_eq (h : Fin 8) (a : Fin 1088) (l : Fin 128) :
    bS (iblk m c 8 t) (bQ (iblk m c 0 t) (iblk m c 1 t) (iblk m c 2 t) (iblk m c 3 t) (iblk m c 4 t) (iblk m c 5 t)
      (iblk m c 6 t) (iblk m c 7 t)) h a l
    = PostRef.out2 (oArr m c) (sArr m c) (xArr m c) (mdArr m c) (gaArr m c) (woArr m c) (g2Arr m c) (wqArr m c) (kyArr m c)
        (ix4 (til t) h a l) := by
  have h0 : (⟨(2 * h.val + a.val / 544) / 2, by omega⟩ : Fin 8) = h := Fin.ext (by dsimp only; omega)
  have h1 : (⟨(2 * h.val + a.val / 544) % 2, by omega⟩ : Fin 2) = ⟨a.val / 544, by omega⟩ := Fin.ext (by dsimp only; omega)
  rw [PostRef.out2_apply, bS]
  refine dite_congr rfl (fun hk => ?_) fun _ => rfl
  rw [bQ_eq]
  simp only [b8, h0, h1]
  rfl

/-- The residual's array after the run, -/
theorem final9 : (dats m 0 c).arrAt 9 cfg0.N
    = PostRef.out0 (oArr m c) (sArr m c) (xArr m c) (mdArr m c) (gaArr m c) (woArr m c) :=
  (dats m 0 c).arrAt_eq_of_cover 9 _ (fun t hf => funext fun y => by
    obtain ⟨r, e, rfl⟩ : ∃ (r : Fin 512) (e : Fin 1024), y = ix2 r e := ⟨y 0, y 1, eq_ix2 y⟩
    refine (congrFun (flushed9_A m c t) (ix2 r e)).trans ?_
    refine (out9 _ _ _ _ _ _ _ _ _ _ _ _ _ _ _ _ _ _ _ _ _ _ _ _ _ _ _ _ _ _ _ _ _ _ _ r e).trans ?_
    show _ = PostRef.out0 (oArr m c) (sArr m c) (xArr m c) (mdArr m c) (gaArr m c) (woArr m c) ((win0_9.rect t).emb (ix2 r e))
    rw [emb9, PostRef.out0_apply, bX_eq]) cover9

/-- the array of the rows after the second norm -/
theorem final10 : (dats m 0 c).arrAt 10 cfg0.N
    = truncf .bf16 (PostRef.out1 (oArr m c) (sArr m c) (xArr m c) (mdArr m c) (gaArr m c) (woArr m c) (g2Arr m c)) bitsLt_bf16_f32 :=
  (dats m 0 c).arrAt_eq_of_cover 10 _ (fun t hf => funext fun y => by
    obtain ⟨r, e, rfl⟩ : ∃ (r : Fin 512) (e : Fin 1024), y = ix2 r e := ⟨y 0, y 1, eq_ix2 y⟩
    refine (congrFun (flushed10_A m c t) (ix2 r e)).trans ?_
    refine (out10 _ _ _ _ _ _ _ _ _ _ _ _ _ _ _ _ _ _ _ _ _ _ _ _ _ _ _ _ _ _ _ _ _ _ _ r e).trans ?_
    show _ = PostRef.out1 (oArr m c) (sArr m c) (xArr m c) (mdArr m c) (gaArr m c) (woArr m c) (g2Arr m c)
      ((win0_10.rect t).emb (ix2 r e))
    rw [emb10, PostRef.out1_apply, bH_eq]) cover10

/-- and the scores'. -/
theorem final11 : (dats m 0 c).arrAt 11 cfg0.N
    = PostRef.out2 (oArr m c) (sArr m c) (xArr m c) (mdArr m c) (gaArr m c) (woArr m c) (g2Arr m c) (wqArr m c) (kyArr m c) :=
  (dats m 0 c).arrAt_eq_of_cover 11 _ (fun t hf => funext fun y => by
    obtain ⟨z, h, a, l, rfl⟩ : ∃ (z : Fin 1) (h : Fin 8) (a : Fin 1088) (l : Fin 128), y = ix4 z h a l := ⟨y 0, y 1, y 2, y 3, eq_ix4 y⟩
    refine (congrFun (flushed11_A m c t) (ix4 z h a l)).trans ?_
    refine (out11 _ _ _ _ _ _ _ _ _ _ _ _ _ _ _ _ _ _ _ _ _ _ _ _ _ _ _ _ _ _ _ _ _ _ _ (ix4 z h a l)).trans ?_
    show _ = PostRef.out2 (oArr m c) (sArr m c) (xArr m c) (mdArr m c) (gaArr m c) (woArr m c) (g2Arr m c) (wqArr m c) (kyArr m c)
      ((win0_11.rect t).emb (ix4 z h a l))
    rw [emb11]
    exact bS_eq m c t h a l) cover11

end Cert.Proof.Post

end
-- ==== Proof.PostClaim.lean ====
/-
  The claims of the call between the mixers and the experts: the frames of the kernel, of its idealization and of the
  reference, and the equality of the two idealizations' results for every argument.
-/
module

public import proofs.«01_k».proof.Defs
public import proofs.«01_k».proof.Proof.Gen.Kernel3.Frame
public import proofs.«01_k».proof.Proof.PostValue

@[expose] public section

set_option maxRecDepth 16384

noncomputable section

namespace Cert.Proof.Post

open Idealize.ShloMosaic Idealize.ShloMosaic.TcCoe Idealize.SL.Sem

/-- The kernel ends with its arguments unchanged and its counters at zero, -/
theorem frame_kernel3 : Cert.quiescent_Kernel3 := fun m ρ _ => Cert.Kernel3.Gen.frame (F := Bits) m ρ

/-- so does its idealization, -/
theorem frame_kernel3Ideal : Cert.quiescent_Kernel3Ideal := fun m ρ _ => Cert.Kernel3Ideal.Gen.frame (F := Ideal) m ρ

/-- and so does the reference. -/
theorem frame_reference3Ideal : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

/-- Over the extended reals the kernel's results are the reference's. -/
theorem algebraic : Cert.algebraic_Kernel3Ideal_Reference3Ideal := by
  intro m ρ m' ρ' _ hargs
  refine ⟨fun c => (Cert.Kernel3Ideal.Gen.dats m 0 c).arrAt 9 Cert.Kernel3Ideal.cfg0.N,
    fun c => (Cert.Kernel3Ideal.Gen.dats m 0 c).arrAt 10 Cert.Kernel3Ideal.cfg0.N,
    fun c => (Cert.Kernel3Ideal.Gen.dats m 0 c).arrAt 11 Cert.Kernel3Ideal.cfg0.N, Cert.Kernel3Ideal.Value.run_blocks (F := Ideal) m ρ, ?_⟩
  refine (θ_run Cert.Reference3Ideal.defs _ _).mono (fun _ h c => ?_) (Cert.Reference3Ideal.Value.run (F := Ideal) m' ρ')
  obtain ⟨a0, a1, a2, a3, a4, a5, a6, a7, a8⟩ := hargs c
  obtain ⟨h0, h1, h2, h⟩ := h c
  refine ⟨h0.trans ?_, h1.trans ?_, h2.trans ?_, h⟩
  · rw [a0, a1, a2, a3, a4, a5]
    exact (final9 m c).symm
  · refine Eq.trans ?_ (final10 m c).symm
    unfold Cert.Reference3Ideal.Value.res_main_v69
    rw [a0, a1, a2, a3, a4, a5, a6]
    rfl
  · refine Eq.trans ?_ (final11 m c).symm
    unfold Cert.Reference3Ideal.Value.res_main_v67
    rw [a0, a1, a2, a3, a4, a5, a6, a7, a8]
    rfl

end Cert.Proof.Post

end
-- ==== Proof.ProjMath.lean ====
/-
  The call that projects the tokens, one row at a time, over the extended reals: a row against a matrix, the gate's
  activation, the rotation of a head's last 64 entries by the token's position, a head's query and key as laid out over 256
  lanes, and the gate's mix over a run of 128 tokens. The kernel and the reference are both read as these functions.
-/
module

public import proofs.«01_k».proof.Proof.PostMath

@[expose] public section

noncomputable section

namespace Cert.Proof.Proj

open Idealize.ShloMosaic Cert.Proof.Post

/-- The row `h` against the columns of `w`. -/
def proj {n k : ℕ} (h : Fin n → EReal) (w : Fin n → Fin k → EReal) (e : Fin k) : EReal := ∑ d : Fin n, h d * w d e

/-- The activation, by the error function. -/
def gel (t : EReal) : EReal :=
  Ideal.ofBits FTy.f32 1056964608#32 * t * (1 + Ideal.erf (t * Ideal.ofBits FTy.f32 1060439283#32))

/-- The rotation's angle per position, by pair of entries. -/
def frq (j : Fin 32) : EReal :=
  Ideal.div 1 (Ideal.pow (Ideal.ofBits FTy.f32 1176256512#32) (Ideal.div (Ideal.ofBits FTy.f32 1073741824#32 *
    FloatOps.sitofp (F := Ideal) FTy.f32 (BitVec.ofNat 32 j.val)) (Ideal.ofBits FTy.f32 1115684864#32)))

/-- 64 entries filled with zeros to 128, -/
def padded (x : Fin 64 → EReal) (l : Fin 128) : EReal := if h : l.val < 64 then x ⟨l.val, h⟩ else 0

/-- and the same, its halves exchanged, the first negated. -/
def turned (x : Fin 64 → EReal) (l : Fin 128) : EReal :=
  if h : l.val < 64 then
    if h' : l.val < 32 then -x ⟨32 + l.val, by omega⟩ else x ⟨l.val - 32, by omega⟩
  else 0

/-- The rotated entries. -/
def rope (x : Fin 64 → EReal) (cs sn : Fin 32 → EReal) (l : Fin 64) : EReal :=
  if h : l.val < 32 then x ⟨l.val, by omega⟩ * cs ⟨l.val, h⟩ - x ⟨32 + l.val, by omega⟩ * sn ⟨l.val, h⟩
  else x ⟨32 + (l.val - 32), by omega⟩ * cs ⟨l.val - 32, by omega⟩ + x ⟨l.val - 32, by omega⟩ * sn ⟨l.val - 32, by omega⟩

/-- A head's query over 256 lanes, times the scale `s`, and zeros after the 192nd. -/
def qAt (q : Fin 192 → EReal) (cs sn : Fin 32 → EReal) (s : EReal) (l : Fin 256) : EReal :=
  if h : l.val < 192 then
    (if h' : l.val < 128 then q ⟨l.val, by omega⟩ else rope (fun j => q ⟨128 + j.val, by omega⟩) cs sn ⟨l.val - 128, by omega⟩) * s
  else 0

/-- A head's key over 256 lanes. -/
def kAt (k : Fin 128 → EReal) (kr : Fin 64 → EReal) (cs sn : Fin 32 → EReal) (l : Fin 256) : EReal :=
  if h : l.val < 192 then
    if h' : l.val < 128 then k ⟨l.val, h'⟩ else rope kr cs sn ⟨l.val - 128, by omega⟩
  else 0

/-- The widened query projection's row: 512 plain entries, four heads' filled entries, four heads' rotated ones. -/
def wide (A : Fin 512 → EReal) (P T : Fin 4 → Fin 128 → EReal) (e : Fin 1536) : EReal :=
  if h : e.val < 512 then A ⟨e.val, h⟩
  else if h : e.val - 512 < 128 then P 0 ⟨e.val - 512, h⟩
  else if h : e.val - 512 - 128 < 128 then P 1 ⟨e.val - 512 - 128, h⟩
  else if h : e.val - 512 - 128 - 128 < 128 then P 2 ⟨e.val - 512 - 128 - 128, h⟩
  else if h : e.val - 512 - 128 - 128 - 128 < 128 then P 3 ⟨e.val - 512 - 128 - 128 - 128, h⟩
  else if h : e.val - 512 - 128 - 128 - 128 - 128 < 128 then T 0 ⟨e.val - 512 - 128 - 128 - 128 - 128, h⟩
  else if h : e.val - 512 - 128 - 128 - 128 - 128 - 128 < 128 then T 1 ⟨e.val - 512 - 128 - 128 - 128 - 128 - 128, h⟩
  else if h : e.val - 512 - 128 - 128 - 128 - 128 - 128 - 128 < 128 then T 2 ⟨e.val - 512 - 128 - 128 - 128 - 128 - 128 - 128, h⟩
  else T 3 ⟨e.val - 512 - 128 - 128 - 128 - 128 - 128 - 128 - 128, by omega⟩

theorem wide_eq (A : Fin 512 → EReal) (P T : Fin 4 → Fin 128 → EReal) (e : Fin 1536) : wide A P T e
    = if h : e.val < 512 then A ⟨e.val, h⟩
      else if h : e.val < 1024 then P ⟨(e.val - 512) / 128, by omega⟩ ⟨e.val % 128, by omega⟩
      else T ⟨(e.val - 1024) / 128, by omega⟩ ⟨e.val % 128, by omega⟩ := by
  unfold wide
  split_ifs <;> first
    | rfl
    | (exfalso; omega)
    | (refine congrArg₂ P (Fin.ext ?_) (Fin.ext ?_) <;> simp <;> omega)
    | (refine congrArg₂ T (Fin.ext ?_) (Fin.ext ?_) <;> simp <;> omega)

/-- The widened input projection's row: 384 plain entries, 64 filled, the same 64 rotated and filled, and the last 1024. -/
def wideIn (w : Fin 1472 → EReal) (e : Fin 1664) : EReal :=
  if h : e.val < 384 then w ⟨e.val, by omega⟩
  else if h : e.val - 384 < 128 then padded (fun j => w ⟨384 + j.val, by omega⟩) ⟨e.val - 384, h⟩
  else if h : e.val - 384 - 128 < 128 then turned (fun j => w ⟨384 + j.val, by omega⟩) ⟨e.val - 384 - 128, h⟩
  else w ⟨448 + (e.val - 384 - 128 - 128), by omega⟩

/-- Four runs of 128 entries side by side. -/
def four (f : Fin 4 → Fin 128 → EReal) (c : Fin 512) : EReal :=
  if h : c.val < 128 then f 0 ⟨c.val, h⟩
  else if h : c.val - 128 < 128 then f 1 ⟨c.val - 128, h⟩
  else if h : c.val - 128 - 128 < 128 then f 2 ⟨c.val - 128 - 128, h⟩
  else f 3 ⟨c.val - 128 - 128 - 128, by omega⟩

theorem four_eq (f : Fin 4 → Fin 128 → EReal) (c : Fin 512) :
    four f c = f ⟨c.val / 128, by omega⟩ ⟨c.val % 128, by omega⟩ := by
  unfold four
  split_ifs <;> (refine congrArg₂ f (Fin.ext ?_) (Fin.ext ?_) <;> simp <;> omega)

/-- The gate's mix at one entry: `u` times the weighted sum of a run's entries plus the bias. -/
def mix (u : EReal) (w v : Fin 128 → EReal) (b : EReal) : EReal := u * (∑ j : Fin 128, w j * v j + b)

end Cert.Proof.Proj

end
-- ==== Proof.ProjOut.lean ====
/-
  The four outputs of the call at one grid point, read at an element: the queries, keys and values by head, and the gated
  rows, in 128-token runs.
-/
module

public import proofs.«01_k».proof.Proof.Gen.Kernel4Ideal.Frame
public import proofs.«01_k».proof.Proof.ProjMath
public import Idealize.ShloMosaic.Lib.Pointwise
public import Idealize.ShloMosaic.Lib.Pipeline.ValueKit

@[expose] public section

set_option maxRecDepth 16384

noncomputable section

namespace Cert.Proof.Proj

open Cert.Kernel4Ideal Cert.Kernel4Ideal.Gen
open Idealize.ShloMosaic Cert.Proof.Post

/-! ## The blocks' rows -/

section Rows

variable (x0 : Vec Ideal S1x512x1024 .f32) (x1 : Vec Ideal S1x512x1 .i32) (x2 : Vec Ideal S1x6x1024 .f32) (x3 : Vec Ideal S1x1024 .f32)
  (x4 : Vec Ideal S1024x1664 .bf16) (x5 : Vec Ideal S1x256 .f32) (x6 : Vec Ideal S256x1536 .bf16) (x7 : Vec Ideal S1x128 .f32)
  (x8 : Vec Ideal S128x1024 .bf16) (x9 : Vec Ideal S1x128 .f32) (x10 : Vec Ideal S1x512 .f32) (x11 : Vec Ideal S4x128x128 .bf16)
  (x12 : Vec Ideal S4x128x1 .f32) (x13 : Vec Ideal S1x512 .f32)

/-- Row `r` of the block after the first norm, scaled and shifted; -/
def bH (r : Fin 512) : Fin 1024 → EReal :=
  rowH (fun c => x0 (ix3 0 r c)) (fun c => x3 (ix2 0 c)) (fun c => x2 (ix3 0 1 c)) (fun c => x2 (ix3 0 0 c))

/-- its projection, -/
def bZ (r : Fin 512) : Fin 1664 → EReal := proj (bH x0 x2 x3 r) (fun d e => x4 (ix2 d e))

/-- queries, -/
def bQ (r : Fin 512) : Fin 1536 → EReal :=
  proj (nrm (Ideal.ofBits FTy.f32 1132462080#32) (fun k : Fin 256 => bZ x0 x2 x3 x4 r ⟨k.val, by omega⟩) (fun k => x5 (ix2 0 k)))
    (fun d e => x6 (ix2 d e))

/-- keys and values, -/
def bKV (r : Fin 512) : Fin 1024 → EReal :=
  proj (nrm (Ideal.ofBits FTy.f32 1124073472#32) (fun k : Fin 128 => bZ x0 x2 x3 x4 r ⟨256 + k.val, by omega⟩) (fun k => x7 (ix2 0 k)))
    (fun d e => x8 (ix2 d e))

/-- angles, -/
def bA (r : Fin 512) (l : Fin 128) : EReal := FloatOps.sitofp (F := Ideal) FTy.f32 (x1 (ix3 0 r 0)) * x9 (ix2 0 l)

/-- and the gate's two halves. -/
def bU (r : Fin 512) (c : Fin 512) : EReal := gel (bZ x0 x2 x3 x4 r ⟨640 + c.val, by omega⟩)
def bV (r : Fin 512) : Fin 512 → EReal :=
  nrm (Ideal.ofBits FTy.f32 1140850688#32) (fun c => gel (bZ x0 x2 x3 x4 r ⟨1152 + c.val, by omega⟩)) (fun c => x10 (ix2 0 c))

/-- The queries of the block by head, -/
def b14 (hd : Fin 4) (r : Fin 512) (l : Fin 256) : EReal :=
  if h : l.val < 128 then bQ x0 x2 x3 x4 x5 x6 r ⟨hd.val * 128 + l.val, by omega⟩ * (((Real.sqrt 192 * Real.log 2)⁻¹ : ℝ) : EReal)
  else (bQ x0 x2 x3 x4 x5 x6 r ⟨512 + hd.val * 128 + (l.val - 128), by omega⟩ * Ideal.cos (bA x1 x9 r ⟨l.val - 128, by omega⟩)
      + bQ x0 x2 x3 x4 x5 x6 r ⟨1024 + hd.val * 128 + (l.val - 128), by omega⟩ * Ideal.sin (bA x1 x9 r ⟨l.val - 128, by omega⟩))
    * (((Real.sqrt 192 * Real.log 2)⁻¹ : ℝ) : EReal)

/-- the turned key the heads share, -/
def bR (r : Fin 512) (l : Fin 128) : EReal := bZ x0 x2 x3 x4 r ⟨384 + l.val, by omega⟩ * Ideal.cos (bA x1 x9 r l)
  + bZ x0 x2 x3 x4 r ⟨512 + l.val, by omega⟩ * Ideal.sin (bA x1 x9 r l)

/-- the keys by head, -/
def b15 (hd : Fin 4) (r : Fin 512) (l : Fin 256) : EReal :=
  if h : l.val < 128 then bKV x0 x2 x3 x4 x7 x8 r ⟨hd.val * 256 + l.val, by omega⟩ else bR x0 x1 x2 x3 x4 x9 r ⟨l.val - 128, by omega⟩

/-- and the gated rows before their norm. -/
def bY (r : Fin 512) (c : Fin 512) : EReal :=
  mix (bU x0 x2 x3 x4 r c) (fun j => x11 (ix3 ⟨c.val / 128, by omega⟩ ⟨r.val % 128, by omega⟩ j))
    (fun j : Fin 128 => bV x0 x2 x3 x4 x10 ⟨r.val / 128 * 128 + j.val, by omega⟩ c)
    (x12 (ix3 ⟨c.val / 128, by omega⟩ ⟨r.val % 128, by omega⟩ 0))

theorem Z_apply (r : Fin 512) (e : Fin 1664) : k0_pay60 (F := Ideal) x0 x1 x2 x3 x4 x5 x6 x7 x8 x9 x10 x11 x12 x13 (ix2 r e) = bZ x0 x2 x3 x4 r e := by
  pointwise [k0_pay60, k0_pay2]
  rfl

theorem C_apply (r : Fin 512) (l : Fin 128) : k0_pay63 (F := Ideal) x0 x1 x2 x3 x4 x5 x6 x7 x8 x9 x10 x11 x12 x13 (ix2 r l) = Ideal.cos (bA x1 x9 r l) := by
  pointwise [k0_pay63, k0_pay6, k0_pay5, k0_pay61, k0_pay62, k0_pay3, k0_pay4]
  rfl

theorem S_apply (r : Fin 512) (l : Fin 128) : k0_pay64 (F := Ideal) x0 x1 x2 x3 x4 x5 x6 x7 x8 x9 x10 x11 x12 x13 (ix2 r l) = Ideal.sin (bA x1 x9 r l) := by
  pointwise [k0_pay64, k0_pay7, k0_pay5, k0_pay61, k0_pay62, k0_pay3, k0_pay4]
  rfl

theorem Q_apply (r : Fin 512) (e : Fin 1536) : k0_pay65 (F := Ideal) x0 x1 x2 x3 x4 x5 x6 x7 x8 x9 x10 x11 x12 x13 (ix2 r e) = bQ x0 x2 x3 x4 x5 x6 r e := by
  have hZ := Z_apply x0 x1 x2 x3 x4 x5 x6 x7 x8 x9 x10 x11 x12 x13
  unfold k0_pay65 bQ
  generalize k0_pay60 (F := Ideal) x0 x1 x2 x3 x4 x5 x6 x7 x8 x9 x10 x11 x12 x13 = Z at hZ ⊢
  pointwise [k0_pay8]
  simp only [hZ]
  rfl

theorem KV_apply (r : Fin 512) (e : Fin 1024) : k0_pay66 (F := Ideal) x0 x1 x2 x3 x4 x5 x6 x7 x8 x9 x10 x11 x12 x13 (ix2 r e) = bKV x0 x2 x3 x4 x7 x8 r e := by
  have hZ := Z_apply x0 x1 x2 x3 x4 x5 x6 x7 x8 x9 x10 x11 x12 x13
  unfold k0_pay66 bKV
  generalize k0_pay60 (F := Ideal) x0 x1 x2 x3 x4 x5 x6 x7 x8 x9 x10 x11 x12 x13 = Z at hZ ⊢
  pointwise [k0_pay19]
  simp only [hZ]
  rfl

theorem R_apply (r : Fin 512) (l : Fin 128) : k0_pay68 (F := Ideal) x0 x1 x2 x3 x4 x5 x6 x7 x8 x9 x10 x11 x12 x13 (ix2 r l) = bR x0 x1 x2 x3 x4 x9 r l := by
  have hZ := Z_apply x0 x1 x2 x3 x4 x5 x6 x7 x8 x9 x10 x11 x12 x13
  have hC := C_apply x0 x1 x2 x3 x4 x5 x6 x7 x8 x9 x10 x11 x12 x13
  have hS := S_apply x0 x1 x2 x3 x4 x5 x6 x7 x8 x9 x10 x11 x12 x13
  unfold k0_pay68 k0_pay67
  generalize k0_pay60 (F := Ideal) x0 x1 x2 x3 x4 x5 x6 x7 x8 x9 x10 x11 x12 x13 = Z at hZ ⊢
  generalize k0_pay63 (F := Ideal) x0 x1 x2 x3 x4 x5 x6 x7 x8 x9 x10 x11 x12 x13 = C at hC ⊢
  generalize k0_pay64 (F := Ideal) x0 x1 x2 x3 x4 x5 x6 x7 x8 x9 x10 x11 x12 x13 = S at hS ⊢
  pointwise [k0_pay21, k0_pay20]
  simp only [hZ, hC, hS]
  rfl

theorem U_apply (r c : Fin 512) : k0_pay71 (F := Ideal) x0 x1 x2 x3 x4 x5 x6 x7 x8 x9 x10 x11 x12 x13 (ix2 r c) = bU x0 x2 x3 x4 r c := by
  have hZ := Z_apply x0 x1 x2 x3 x4 x5 x6 x7 x8 x9 x10 x11 x12 x13
  unfold k0_pay71 k0_pay69 k0_pay70
  generalize k0_pay60 (F := Ideal) x0 x1 x2 x3 x4 x5 x6 x7 x8 x9 x10 x11 x12 x13 = Z at hZ ⊢
  pointwise [k0_pay36, k0_pay34, k0_pay35]
  simp only [hZ]
  rfl

theorem V_apply (r c : Fin 512) : k0_pay72 (F := Ideal) x0 x1 x2 x3 x4 x5 x6 x7 x8 x9 x10 x11 x12 x13 (ix2 r c) = bV x0 x2 x3 x4 x10 r c := by
  have hZ := Z_apply x0 x1 x2 x3 x4 x5 x6 x7 x8 x9 x10 x11 x12 x13
  unfold k0_pay72
  generalize k0_pay60 (F := Ideal) x0 x1 x2 x3 x4 x5 x6 x7 x8 x9 x10 x11 x12 x13 = Z at hZ ⊢
  pointwise [k0_pay37]
  simp only [hZ]
  rfl

end Rows

/-! ## The stored tiles -/

/-- The scale is one over the root of 192 times the logarithm of 2. -/
theorem named_scale : Named.named (F := Ideal) Cert.Kernel4Ideal.κ "scale" (φ := .f32) 0x3DD53B95#32
    = (((Real.sqrt 192 * Real.log 2)⁻¹ : ℝ) : EReal) :=
  IdealRules.named_const.ideal_named_scalar _ _ _ _ rfl

/-- A head's plain queries, from column `o`. -/
def nopeP (Q : FVec Ideal S512x1536 .f32) (o : ℕ) (h : S512x1536.Slices ![0, o] S512x128) : FVec Ideal S1x1x512x128 .bf16 :=
  shapeCast S1x1x512x128 (truncf .bf16 (mulf (extractStridedSlice S512x128 ![0, o] Q h)
    (broadcast S512x128 (Named.named κ "scale" 0x3DD53B95#32))) bitsLt_bf16_f32) shapeCasts_S512x128_S1x1x512x128

/-- A head's turned queries, from columns `o` and `p`. -/
def ropeP (C S : FVec Ideal S512x128 .f32) (Q : FVec Ideal S512x1536 .f32) (o p : ℕ) (h : S512x1536.Slices ![0, o] S512x128)
    (h' : S512x1536.Slices ![0, p] S512x128) : FVec Ideal S1x1x512x128 .bf16 :=
  shapeCast S1x1x512x128 (truncf .bf16 (mulf (addf (mulf (extractStridedSlice S512x128 ![0, o] Q h) C)
    (mulf (extractStridedSlice S512x128 ![0, p] Q h') S)) (broadcast S512x128 (Named.named κ "scale" 0x3DD53B95#32))) bitsLt_bf16_f32)
    shapeCasts_S512x128_S1x1x512x128

/-- A head's plain keys, or its values, from column `o`. -/
def keyP (K : FVec Ideal S512x1024 .f32) (o : ℕ) (h : S512x1024.Slices ![0, o] S512x128) : FVec Ideal S1x1x512x128 .bf16 :=
  shapeCast S1x1x512x128 (truncf .bf16 (extractStridedSlice S512x128 ![0, o] K h) bitsLt_bf16_f32) shapeCasts_S512x128_S1x1x512x128

/-- Its turned keys. -/
def keyRopeP (R : FVec Ideal S512x128 .bf16) : FVec Ideal S1x1x512x128 .bf16 :=
  shapeCast S1x1x512x128 R shapeCasts_S512x128_S1x1x512x128

/-- One head's mix over the run of tokens from row `o`, its columns from `c`. -/
def mixHead (u : FVec Ideal S512x512 .f32) (v : FVec Ideal S512x512 .bf16) (w : Vec Ideal S1x128x128 .bf16) (b : Vec Ideal S1x128x1 .f32)
    (o c : ℕ) (h : S512x512.Slices ![o, c] S128x128) : FVec Ideal S128x128 .f32 :=
  mulf (extractStridedSlice S128x128 ![o, c] u h)
    (addf (matmul (F := Ideal) dot_S128x128_S128x128_S128x128_1_0_0_1_n_n none
        (shapeCast S128x128 w shapeCasts_S1x128x128_S128x128 : FVec Ideal S128x128 .bf16)
        (extractStridedSlice S128x128 ![o, c] v h : FVec Ideal S128x128 .bf16) (constant S128x128 .f32 0x00000000#32))
      (broadcastTo S128x128 (shapeCast S128x1 b shapeCasts_S1x128x1_S128x1 : FVec Ideal S128x1 .f32) broadcasts_S128x1_S128x128))

/-- The four heads' mixes side by side, -/
def gateRows (u : FVec Ideal S512x512 .f32) (v : FVec Ideal S512x512 .bf16) (x11 : Vec Ideal S4x128x128 .bf16) (x12 : Vec Ideal S4x128x1 .f32)
    (o : ℕ) (h0 : S512x512.Slices ![o, 0] S128x128) (h1 : S512x512.Slices ![o, 128] S128x128) (h2 : S512x512.Slices ![o, 256] S128x128)
    (h3 : S512x512.Slices ![o, 384] S128x128) : FVec Ideal S128x512 .f32 :=
  concatenate S128x512 1 [⟨S128x128, mixHead u v (View.ld x11 r0_23) (View.ld x12 r0_24) o 0 h0⟩,
    ⟨S128x128, mixHead u v (View.ld x11 r0_25) (View.ld x12 r0_26) o 128 h1⟩,
    ⟨S128x128, mixHead u v (View.ld x11 r0_27) (View.ld x12 r0_28) o 256 h2⟩,
    ⟨S128x128, mixHead u v (View.ld x11 r0_29) (View.ld x12 r0_30) o 384 h3⟩] concatenates_S128x128_S128x128_S128x128_S128x128_S128x512_d1

/-- and their rows over their root mean square, times the gains. -/
def gateP (X : FVec Ideal S128x512 .f32) (g : Vec Ideal S1x512 .f32) : FVec Ideal S1x128x512 .bf16 :=
  shapeCast S1x128x512 (truncf .bf16 (mulf (mulf X (broadcastTo S128x512 (rsqrt (addf
    (divf (shapeCast S128x1 (multiReduction .add [1] S128 (mulf X X) 0x00000000#32 reduces_S128x512_S128 (.inl rfl) rfl : FVec Ideal S128 .f32) shapeCasts_S128_S128x1 : FVec Ideal S128x1 .f32)
      (broadcast S128x1 (Scalar.ofBits .f32 0x44000000#32))) (broadcast S128x1 (Scalar.ofBits .f32 0x358637BD#32)))) broadcasts_S128x1_S128x512))
    (broadcastTo S128x512 (shapeCast S1x512 g shapeCasts_S1x512_S1x512 : FVec Ideal S1x512 .f32) broadcasts_S1x512_S128x512)) bitsLt_bf16_f32)
    shapeCasts_S128x512_S1x128x512

theorem tile_apply (v : FVec Ideal S512x128 .bf16) (a b : Fin 1) (k : Fin 512) (t : Fin 128) :
    shapeCast S1x1x512x128 v shapeCasts_S512x128_S1x1x512x128 (ix4 a b k t) = v (ix2 k t) := by
  pointwise

theorem nopeP_apply (Q : FVec Ideal S512x1536 .f32) (o : ℕ) (h : S512x1536.Slices ![0, o] S512x128) (ho : o + 128 ≤ 1536)
    (a b : Fin 1) (k : Fin 512) (t : Fin 128) :
    nopeP Q o h (ix4 a b k t) = Q (ix2 k ⟨o + t.val, by omega⟩) * (((Real.sqrt 192 * Real.log 2)⁻¹ : ℝ) : EReal) := by
  rw [nopeP, tile_apply, ← named_scale]
  exact congrArg (fun v : EReal => v * _)
    (extractStridedSlice_apply _ _ h _ (ix2 k ⟨o + t.val, by omega⟩) (fun b => by fin_cases b <;> simp [ix2]))

theorem ropeP_apply (C S : FVec Ideal S512x128 .f32) (Q : FVec Ideal S512x1536 .f32) (o p : ℕ) (h : S512x1536.Slices ![0, o] S512x128)
    (h' : S512x1536.Slices ![0, p] S512x128) (ho : o + 128 ≤ 1536) (hp : p + 128 ≤ 1536) (a b : Fin 1) (k : Fin 512) (t : Fin 128) :
    ropeP C S Q o p h h' (ix4 a b k t)
      = (Q (ix2 k ⟨o + t.val, by omega⟩) * C (ix2 k t) + Q (ix2 k ⟨p + t.val, by omega⟩) * S (ix2 k t))
        * (((Real.sqrt 192 * Real.log 2)⁻¹ : ℝ) : EReal) := by
  rw [ropeP, tile_apply, ← named_scale]
  exact congrArg (fun v : EReal => v * _) (congrArg₂ (fun u v : EReal => u * C (ix2 k t) + v * S (ix2 k t))
    (extractStridedSlice_apply _ _ h _ (ix2 k ⟨o + t.val, by omega⟩) (fun b => by fin_cases b <;> simp [ix2]))
    (extractStridedSlice_apply _ _ h' _ (ix2 k ⟨p + t.val, by omega⟩) (fun b => by fin_cases b <;> simp [ix2])))

theorem keyP_apply (K : FVec Ideal S512x1024 .f32) (o : ℕ) (h : S512x1024.Slices ![0, o] S512x128) (ho : o + 128 ≤ 1024)
    (a b : Fin 1) (k : Fin 512) (t : Fin 128) : keyP K o h (ix4 a b k t) = K (ix2 k ⟨o + t.val, by omega⟩) := by
  rw [keyP, tile_apply]
  exact extractStridedSlice_apply _ _ h _ (ix2 k ⟨o + t.val, by omega⟩) (fun b => by fin_cases b <;> simp [ix2])

theorem mixHead_apply (u : FVec Ideal S512x512 .f32) (v : FVec Ideal S512x512 .bf16) (x11 : Vec Ideal S4x128x128 .bf16)
    (x12 : Vec Ideal S4x128x1 .f32) (p o c : ℕ) (inb : ∀ a, ![p, 0, 0] a + ![1, 128, 128] a ≤ S4x128x128.size a)
    (inb' : ∀ a, ![p, 0, 0] a + ![1, 128, 1] a ≤ S4x128x1.size a) (h : S512x512.Slices ![o, c] S128x128) (hp : p < 4)
    (ho : o + 128 ≤ 512) (hc : c + 128 ≤ 512) (r e : Fin 128) :
    mixHead u v (View.ld x11 (Rect.unit ![p, 0, 0] ![1, 128, 128] inb)) (View.ld x12 (Rect.unit ![p, 0, 0] ![1, 128, 1] inb')) o c h (ix2 r e)
      = mix (u (ix2 ⟨o + r.val, by omega⟩ ⟨c + e.val, by omega⟩)) (fun j => x11 (ix3 ⟨p, hp⟩ r j))
          (fun j => v (ix2 ⟨o + j.val, by omega⟩ ⟨c + e.val, by omega⟩)) (x12 (ix3 ⟨p, hp⟩ r 0)) := by
  have hu : (extractStridedSlice S128x128 ![o, c] u h : FVec Ideal S128x128 .f32) (ix2 r e) = u (ix2 ⟨o + r.val, by omega⟩ ⟨c + e.val, by omega⟩) :=
    extractStridedSlice_apply _ _ h _ _ (fun b => by fin_cases b <;> simp [ix2])
  have hv (j : Fin 128) : (extractStridedSlice S128x128 ![o, c] v h : FVec Ideal S128x128 .bf16) (ix2 j e)
      = v (ix2 ⟨o + j.val, by omega⟩ ⟨c + e.val, by omega⟩) :=
    extractStridedSlice_apply _ _ h _ _ (fun b => by fin_cases b <;> simp [ix2])
  have hw (j : Fin 128) : (View.ld x11 (Rect.unit ![p, 0, 0] ![1, 128, 128] inb) : Vec Ideal S1x128x128 .bf16) (ix3 0 r j) = x11 (ix3 ⟨p, hp⟩ r j) :=
    View.ld_unit_apply_of x11 _ _ inb _ _ (fun b => by fin_cases b <;> simp [ix3])
  have hb : (View.ld x12 (Rect.unit ![p, 0, 0] ![1, 128, 1] inb') : Vec Ideal S1x128x1 .f32) (ix3 0 r 0) = x12 (ix3 ⟨p, hp⟩ r 0) :=
    View.ld_unit_apply_of x12 _ _ inb' _ _ (fun b => by fin_cases b <;> simp [ix3])
  unfold mixHead
  generalize (extractStridedSlice S128x128 ![o, c] u h : FVec Ideal S128x128 .f32) = A at hu ⊢
  generalize (extractStridedSlice S128x128 ![o, c] v h : FVec Ideal S128x128 .bf16) = B at hv ⊢
  generalize (View.ld x11 (Rect.unit ![p, 0, 0] ![1, 128, 128] inb) : Vec Ideal S1x128x128 .bf16) = W at hw ⊢
  generalize (View.ld x12 (Rect.unit ![p, 0, 0] ![1, 128, 1] inb') : Vec Ideal S1x128x1 .f32) = β at hb ⊢
  pointwise
  simp only [hu, hv, hw, hb]
  rfl

theorem gateRows_apply (u : FVec Ideal S512x512 .f32) (v : FVec Ideal S512x512 .bf16) (x11 : Vec Ideal S4x128x128 .bf16)
    (x12 : Vec Ideal S4x128x1 .f32) (o : ℕ) (h0 : S512x512.Slices ![o, 0] S128x128) (h1 : S512x512.Slices ![o, 128] S128x128)
    (h2 : S512x512.Slices ![o, 256] S128x128) (h3 : S512x512.Slices ![o, 384] S128x128) (ho : o + 128 ≤ 512) (r : Fin 128) (c : Fin 512) :
    gateRows u v x11 x12 o h0 h1 h2 h3 (ix2 r c)
      = mix (u (ix2 ⟨o + r.val, by omega⟩ c)) (fun j => x11 (ix3 ⟨c.val / 128, by omega⟩ r j))
          (fun j => v (ix2 ⟨o + j.val, by omega⟩ c)) (x12 (ix3 ⟨c.val / 128, by omega⟩ r 0)) := by
  have e : gateRows u v x11 x12 o h0 h1 h2 h3 (ix2 r c)
      = four (fun p e => mix (u (ix2 ⟨o + r.val, by omega⟩ ⟨p.val * 128 + e.val, by omega⟩)) (fun j => x11 (ix3 p r j))
          (fun j => v (ix2 ⟨o + j.val, by omega⟩ ⟨p.val * 128 + e.val, by omega⟩)) (x12 (ix3 p r 0))) c := by
    have m0 := mixHead_apply u v x11 x12 0 o 0 inb_S4x128x128_S1x128x128_0_0_0 inb_S4x128x1_S1x128x1_0_0_0 h0 (by omega) ho (by omega) r
    have m1 := mixHead_apply u v x11 x12 1 o 128 inb_S4x128x128_S1x128x128_1_0_0 inb_S4x128x1_S1x128x1_1_0_0 h1 (by omega) ho (by omega) r
    have m2 := mixHead_apply u v x11 x12 2 o 256 inb_S4x128x128_S1x128x128_2_0_0 inb_S4x128x1_S1x128x1_2_0_0 h2 (by omega) ho (by omega) r
    have m3 := mixHead_apply u v x11 x12 3 o 384 inb_S4x128x128_S1x128x128_3_0_0 inb_S4x128x1_S1x128x1_3_0_0 h3 (by omega) ho (by omega) r
    unfold gateRows
    generalize mixHead u v _ _ o 0 h0 = M0 at m0 ⊢
    generalize mixHead u v _ _ o 128 h1 = M1 at m1 ⊢
    generalize mixHead u v _ _ o 256 h2 = M2 at m2 ⊢
    generalize mixHead u v _ _ o 384 h3 = M3 at m3 ⊢
    pointwise
    simp only [m0, m1, m2, m3]
    rfl
  rw [e, four_eq]
  simp only [Nat.div_add_mod']

theorem gateP_apply (X : FVec Ideal S128x512 .f32) (g : Vec Ideal S1x512 .f32) (a : Fin 1) (r : Fin 128) (c : Fin 512) :
    gateP X g (ix3 a r c) = nrm (Ideal.ofBits FTy.f32 1140850688#32) (fun c => X (ix2 r c)) (fun c => g (ix2 0 c)) c := by
  pointwise [gateP]
  rfl

/-! ## The outputs -/

section Outs

variable (x0 : Vec Ideal S1x512x1024 .f32) (x1 : Vec Ideal S1x512x1 .i32) (x2 : Vec Ideal S1x6x1024 .f32) (x3 : Vec Ideal S1x1024 .f32)
  (x4 : Vec Ideal S1024x1664 .bf16) (x5 : Vec Ideal S1x256 .f32) (x6 : Vec Ideal S256x1536 .bf16) (x7 : Vec Ideal S1x128 .f32)
  (x8 : Vec Ideal S128x1024 .bf16) (x9 : Vec Ideal S1x128 .f32) (x10 : Vec Ideal S1x512 .f32) (x11 : Vec Ideal S4x128x128 .bf16)
  (x12 : Vec Ideal S4x128x1 .f32) (x13 : Vec Ideal S1x512 .f32)

theorem out14_eq : out0_14 (F := Ideal) x0 x1 x2 x3 x4 x5 x6 x7 x8 x9 x10 x11 x12 x13
    = View.canon [⟨r0_16, ropeP (k0_pay63 x0 x1 x2 x3 x4 x5 x6 x7 x8 x9 x10 x11 x12 x13) (k0_pay64 x0 x1 x2 x3 x4 x5 x6 x7 x8 x9 x10 x11 x12 x13) (k0_pay65 x0 x1 x2 x3 x4 x5 x6 x7 x8 x9 x10 x11 x12 x13) 896 1408 slices_S512x1536_o0_896_S512x128 slices_S512x1536_o0_1408_S512x128⟩,
      ⟨r0_15, nopeP (k0_pay65 x0 x1 x2 x3 x4 x5 x6 x7 x8 x9 x10 x11 x12 x13) 384 slices_S512x1536_o0_384_S512x128⟩,
      ⟨r0_14, ropeP (k0_pay63 x0 x1 x2 x3 x4 x5 x6 x7 x8 x9 x10 x11 x12 x13) (k0_pay64 x0 x1 x2 x3 x4 x5 x6 x7 x8 x9 x10 x11 x12 x13) (k0_pay65 x0 x1 x2 x3 x4 x5 x6 x7 x8 x9 x10 x11 x12 x13) 768 1280 slices_S512x1536_o0_768_S512x128 slices_S512x1536_o0_1280_S512x128⟩,
      ⟨r0_13, nopeP (k0_pay65 x0 x1 x2 x3 x4 x5 x6 x7 x8 x9 x10 x11 x12 x13) 256 slices_S512x1536_o0_256_S512x128⟩,
      ⟨r0_12, ropeP (k0_pay63 x0 x1 x2 x3 x4 x5 x6 x7 x8 x9 x10 x11 x12 x13) (k0_pay64 x0 x1 x2 x3 x4 x5 x6 x7 x8 x9 x10 x11 x12 x13) (k0_pay65 x0 x1 x2 x3 x4 x5 x6 x7 x8 x9 x10 x11 x12 x13) 640 1152 slices_S512x1536_o0_640_S512x128 slices_S512x1536_o0_1152_S512x128⟩,
      ⟨r0_11, nopeP (k0_pay65 x0 x1 x2 x3 x4 x5 x6 x7 x8 x9 x10 x11 x12 x13) 128 slices_S512x1536_o0_128_S512x128⟩,
      ⟨r0_10, ropeP (k0_pay63 x0 x1 x2 x3 x4 x5 x6 x7 x8 x9 x10 x11 x12 x13) (k0_pay64 x0 x1 x2 x3 x4 x5 x6 x7 x8 x9 x10 x11 x12 x13) (k0_pay65 x0 x1 x2 x3 x4 x5 x6 x7 x8 x9 x10 x11 x12 x13) 512 1024 slices_S512x1536_o0_512_S512x128 slices_S512x1536_o0_1024_S512x128⟩,
      ⟨r0_9, nopeP (k0_pay65 x0 x1 x2 x3 x4 x5 x6 x7 x8 x9 x10 x11 x12 x13) 0 slices_S512x1536_o0_0_S512x128⟩] := rfl

theorem out15_eq : out0_15 (F := Ideal) x0 x1 x2 x3 x4 x5 x6 x7 x8 x9 x10 x11 x12 x13
    = View.canon [⟨r0_16, keyRopeP (k0_pay68 x0 x1 x2 x3 x4 x5 x6 x7 x8 x9 x10 x11 x12 x13)⟩,
      ⟨r0_15, keyP (k0_pay66 x0 x1 x2 x3 x4 x5 x6 x7 x8 x9 x10 x11 x12 x13) 768 slices_S512x1024_o0_768_S512x128⟩,
      ⟨r0_14, keyRopeP (k0_pay68 x0 x1 x2 x3 x4 x5 x6 x7 x8 x9 x10 x11 x12 x13)⟩,
      ⟨r0_13, keyP (k0_pay66 x0 x1 x2 x3 x4 x5 x6 x7 x8 x9 x10 x11 x12 x13) 512 slices_S512x1024_o0_512_S512x128⟩,
      ⟨r0_12, keyRopeP (k0_pay68 x0 x1 x2 x3 x4 x5 x6 x7 x8 x9 x10 x11 x12 x13)⟩,
      ⟨r0_11, keyP (k0_pay66 x0 x1 x2 x3 x4 x5 x6 x7 x8 x9 x10 x11 x12 x13) 256 slices_S512x1024_o0_256_S512x128⟩,
      ⟨r0_10, keyRopeP (k0_pay68 x0 x1 x2 x3 x4 x5 x6 x7 x8 x9 x10 x11 x12 x13)⟩,
      ⟨r0_9, keyP (k0_pay66 x0 x1 x2 x3 x4 x5 x6 x7 x8 x9 x10 x11 x12 x13) 0 slices_S512x1024_o0_0_S512x128⟩] := rfl

theorem out16_eq : out0_16 (F := Ideal) x0 x1 x2 x3 x4 x5 x6 x7 x8 x9 x10 x11 x12 x13
    = View.canon [⟨r0_21, keyP (k0_pay66 x0 x1 x2 x3 x4 x5 x6 x7 x8 x9 x10 x11 x12 x13) 896 slices_S512x1024_o0_896_S512x128⟩,
      ⟨r0_20, keyP (k0_pay66 x0 x1 x2 x3 x4 x5 x6 x7 x8 x9 x10 x11 x12 x13) 640 slices_S512x1024_o0_640_S512x128⟩,
      ⟨r0_19, keyP (k0_pay66 x0 x1 x2 x3 x4 x5 x6 x7 x8 x9 x10 x11 x12 x13) 384 slices_S512x1024_o0_384_S512x128⟩,
      ⟨r0_18, keyP (k0_pay66 x0 x1 x2 x3 x4 x5 x6 x7 x8 x9 x10 x11 x12 x13) 128 slices_S512x1024_o0_128_S512x128⟩] := rfl

theorem out17_eq : out0_17 (F := Ideal) x0 x1 x2 x3 x4 x5 x6 x7 x8 x9 x10 x11 x12 x13
    = View.canon [⟨r0_34, gateP (gateRows (k0_pay71 x0 x1 x2 x3 x4 x5 x6 x7 x8 x9 x10 x11 x12 x13) (k0_pay72 x0 x1 x2 x3 x4 x5 x6 x7 x8 x9 x10 x11 x12 x13) x11 x12 384 slices_S512x512_o384_0_S128x128 slices_S512x512_o384_128_S128x128 slices_S512x512_o384_256_S128x128 slices_S512x512_o384_384_S128x128) (View.ld x13 r0_22)⟩,
      ⟨r0_33, gateP (gateRows (k0_pay71 x0 x1 x2 x3 x4 x5 x6 x7 x8 x9 x10 x11 x12 x13) (k0_pay72 x0 x1 x2 x3 x4 x5 x6 x7 x8 x9 x10 x11 x12 x13) x11 x12 256 slices_S512x512_o256_0_S128x128 slices_S512x512_o256_128_S128x128 slices_S512x512_o256_256_S128x128 slices_S512x512_o256_384_S128x128) (View.ld x13 r0_22)⟩,
      ⟨r0_32, gateP (gateRows (k0_pay71 x0 x1 x2 x3 x4 x5 x6 x7 x8 x9 x10 x11 x12 x13) (k0_pay72 x0 x1 x2 x3 x4 x5 x6 x7 x8 x9 x10 x11 x12 x13) x11 x12 128 slices_S512x512_o128_0_S128x128 slices_S512x512_o128_128_S128x128 slices_S512x512_o128_256_S128x128 slices_S512x512_o128_384_S128x128) (View.ld x13 r0_22)⟩,
      ⟨r0_31, gateP (gateRows (k0_pay71 x0 x1 x2 x3 x4 x5 x6 x7 x8 x9 x10 x11 x12 x13) (k0_pay72 x0 x1 x2 x3 x4 x5 x6 x7 x8 x9 x10 x11 x12 x13) x11 x12 0 slices_S512x512_o0_0_S128x128 slices_S512x512_o0_128_S128x128 slices_S512x512_o0_256_S128x128 slices_S512x512_o0_384_S128x128) (View.ld x13 r0_22)⟩] := rfl

theorem piece14_nope (Q : FVec Ideal S512x1536 .f32) (hQ : ∀ r e, Q (ix2 r e) = bQ x0 x2 x3 x4 x5 x6 r e) (o : ℕ)
    (s : S512x1536.Slices ![0, o] S512x128) (x : S1x1x512x128.Idx) (hd : Fin 4) (r : Fin 512) (l : Fin 256)
    (ho : o = hd.val * 128) (hr : r.val = (x 2).val) (hl : l.val = (x 3).val) :
    nopeP Q o s x = b14 x0 x1 x2 x3 x4 x5 x6 x9 hd r l := by
  obtain ⟨u, v, k, t, rfl⟩ : ∃ u v k t, x = ix4 u v k t := ⟨x 0, x 1, x 2, x 3, by funext a; fin_cases a <;> rfl⟩
  obtain rfl : r = k := Fin.ext hr
  change l.val = t.val at hl
  subst ho
  rw [nopeP_apply _ _ _ (by omega), hQ, b14, dif_pos (by omega)]
  simp only [hl]

theorem piece14_rope (C S : FVec Ideal S512x128 .f32) (Q : FVec Ideal S512x1536 .f32)
    (hC : ∀ r l, C (ix2 r l) = Ideal.cos (bA x1 x9 r l)) (hS : ∀ r l, S (ix2 r l) = Ideal.sin (bA x1 x9 r l))
    (hQ : ∀ r e, Q (ix2 r e) = bQ x0 x2 x3 x4 x5 x6 r e) (o p : ℕ)
    (s : S512x1536.Slices ![0, o] S512x128) (s' : S512x1536.Slices ![0, p] S512x128) (x : S1x1x512x128.Idx) (hd : Fin 4) (r : Fin 512)
    (l : Fin 256) (ho : o = 512 + hd.val * 128) (hp : p = 1024 + hd.val * 128) (hr : r.val = (x 2).val) (hl : l.val = 128 + (x 3).val) :
    ropeP C S Q o p s s' x = b14 x0 x1 x2 x3 x4 x5 x6 x9 hd r l := by
  obtain ⟨u, v, k, t, rfl⟩ : ∃ u v k t, x = ix4 u v k t := ⟨x 0, x 1, x 2, x 3, by funext a; fin_cases a <;> rfl⟩
  obtain rfl : r = k := Fin.ext hr
  change l.val = 128 + t.val at hl
  subst ho hp
  rw [ropeP_apply _ _ _ _ _ _ _ (by omega) (by omega), hQ, hQ, hC, hS, b14, dif_neg (by omega)]
  simp only [hl, Nat.add_sub_cancel_left]

/-- The block of queries, read at an element. -/
theorem out14 (y : S1x4x512x256.Idx) : out0_14 (F := Ideal) x0 x1 x2 x3 x4 x5 x6 x7 x8 x9 x10 x11 x12 x13 y = b14 x0 x1 x2 x3 x4 x5 x6 x9 (y 1) (y 2) (y 3) := by
  have hQ := Q_apply x0 x1 x2 x3 x4 x5 x6 x7 x8 x9 x10 x11 x12 x13
  have hC := C_apply x0 x1 x2 x3 x4 x5 x6 x7 x8 x9 x10 x11 x12 x13
  have hS := S_apply x0 x1 x2 x3 x4 x5 x6 x7 x8 x9 x10 x11 x12 x13
  rw [out14_eq]
  generalize k0_pay65 (F := Ideal) x0 x1 x2 x3 x4 x5 x6 x7 x8 x9 x10 x11 x12 x13 = Q at hQ ⊢
  generalize k0_pay63 (F := Ideal) x0 x1 x2 x3 x4 x5 x6 x7 x8 x9 x10 x11 x12 x13 = C at hC ⊢
  generalize k0_pay64 (F := Ideal) x0 x1 x2 x3 x4 x5 x6 x7 x8 x9 x10 x11 x12 x13 = S at hS ⊢
  have cov := cover0_14 (F := Ideal)
    (ropeP C S Q 896 1408 slices_S512x1536_o0_896_S512x128 slices_S512x1536_o0_1408_S512x128)
    (nopeP Q 384 slices_S512x1536_o0_384_S512x128)
    (ropeP C S Q 768 1280 slices_S512x1536_o0_768_S512x128 slices_S512x1536_o0_1280_S512x128)
    (nopeP Q 256 slices_S512x1536_o0_256_S512x128)
    (ropeP C S Q 640 1152 slices_S512x1536_o0_640_S512x128 slices_S512x1536_o0_1152_S512x128)
    (nopeP Q 128 slices_S512x1536_o0_128_S512x128)
    (ropeP C S Q 512 1024 slices_S512x1536_o0_512_S512x128 slices_S512x1536_o0_1024_S512x128)
    (nopeP Q 0 slices_S512x1536_o0_0_S512x128) y
  canon_tiles x h using cov
  all_goals first
    | exact piece14_nope x0 x1 x2 x3 x4 x5 x6 x9 Q hQ _ _ x (y 1) (y 2) (y 3) (by omega) (by omega) (by omega)
    | exact piece14_rope x0 x1 x2 x3 x4 x5 x6 x9 C S Q hC hS hQ _ _ _ _ x (y 1) (y 2) (y 3) (by omega) (by omega) (by omega) (by omega)

theorem piece15_key (K : FVec Ideal S512x1024 .f32) (hK : ∀ r e, K (ix2 r e) = bKV x0 x2 x3 x4 x7 x8 r e) (o : ℕ)
    (s : S512x1024.Slices ![0, o] S512x128) (x : S1x1x512x128.Idx) (hd : Fin 4) (r : Fin 512) (l : Fin 256)
    (ho : o = hd.val * 256) (hr : r.val = (x 2).val) (hl : l.val = (x 3).val) :
    keyP K o s x = b15 x0 x1 x2 x3 x4 x7 x8 x9 hd r l := by
  obtain ⟨u, v, k, t, rfl⟩ : ∃ u v k t, x = ix4 u v k t := ⟨x 0, x 1, x 2, x 3, by funext a; fin_cases a <;> rfl⟩
  obtain rfl : r = k := Fin.ext hr
  change l.val = t.val at hl
  subst ho
  rw [keyP_apply _ _ _ (by omega), hK, b15, dif_pos (by omega)]
  simp only [hl]

theorem piece15_rope (R : FVec Ideal S512x128 .bf16) (hR : ∀ r l, R (ix2 r l) = bR x0 x1 x2 x3 x4 x9 r l) (x : S1x1x512x128.Idx)
    (hd : Fin 4) (r : Fin 512) (l : Fin 256) (hr : r.val = (x 2).val) (hl : l.val = 128 + (x 3).val) :
    keyRopeP R x = b15 x0 x1 x2 x3 x4 x7 x8 x9 hd r l := by
  obtain ⟨u, v, k, t, rfl⟩ : ∃ u v k t, x = ix4 u v k t := ⟨x 0, x 1, x 2, x 3, by funext a; fin_cases a <;> rfl⟩
  obtain rfl : r = k := Fin.ext hr
  change l.val = 128 + t.val at hl
  rw [keyRopeP, tile_apply, hR, b15, dif_neg (by omega)]
  simp only [hl, Nat.add_sub_cancel_left]

/-- The block of keys. -/
theorem out15 (y : S1x4x512x256.Idx) : out0_15 (F := Ideal) x0 x1 x2 x3 x4 x5 x6 x7 x8 x9 x10 x11 x12 x13 y = b15 x0 x1 x2 x3 x4 x7 x8 x9 (y 1) (y 2) (y 3) := by
  have hK := KV_apply x0 x1 x2 x3 x4 x5 x6 x7 x8 x9 x10 x11 x12 x13
  have hR := R_apply x0 x1 x2 x3 x4 x5 x6 x7 x8 x9 x10 x11 x12 x13
  rw [out15_eq]
  generalize k0_pay66 (F := Ideal) x0 x1 x2 x3 x4 x5 x6 x7 x8 x9 x10 x11 x12 x13 = K at hK ⊢
  generalize k0_pay68 (F := Ideal) x0 x1 x2 x3 x4 x5 x6 x7 x8 x9 x10 x11 x12 x13 = R at hR ⊢
  have cov := cover0_14 (F := Ideal) (keyRopeP R) (keyP K 768 slices_S512x1024_o0_768_S512x128)
    (keyRopeP R) (keyP K 512 slices_S512x1024_o0_512_S512x128)
    (keyRopeP R) (keyP K 256 slices_S512x1024_o0_256_S512x128)
    (keyRopeP R) (keyP K 0 slices_S512x1024_o0_0_S512x128) y
  canon_tiles x h using cov
  all_goals first
    | exact piece15_key x0 x1 x2 x3 x4 x7 x8 x9 K hK _ _ x (y 1) (y 2) (y 3) (by omega) (by omega) (by omega)
    | exact piece15_rope x0 x1 x2 x3 x4 x7 x8 x9 R hR x (y 1) (y 2) (y 3) (by omega) (by omega)

theorem piece16 (K : FVec Ideal S512x1024 .f32) (hK : ∀ r e, K (ix2 r e) = bKV x0 x2 x3 x4 x7 x8 r e) (o : ℕ)
    (s : S512x1024.Slices ![0, o] S512x128) (x : S1x1x512x128.Idx) (hd : Fin 4) (r : Fin 512) (l : Fin 128)
    (ho : o = hd.val * 256 + 128) (hr : r.val = (x 2).val) (hl : l.val = (x 3).val) :
    keyP K o s x = bKV x0 x2 x3 x4 x7 x8 r ⟨hd.val * 256 + 128 + l.val, by omega⟩ := by
  obtain ⟨u, v, k, t, rfl⟩ : ∃ u v k t, x = ix4 u v k t := ⟨x 0, x 1, x 2, x 3, by funext a; fin_cases a <;> rfl⟩
  obtain rfl : r = k := Fin.ext hr
  change l.val = t.val at hl
  subst ho
  rw [keyP_apply _ _ _ (by omega), hK]
  simp only [hl]

/-- The block of values. -/
theorem out16 (y : S1x4x512x128.Idx) : out0_16 (F := Ideal) x0 x1 x2 x3 x4 x5 x6 x7 x8 x9 x10 x11 x12 x13 y
    = bKV x0 x2 x3 x4 x7 x8 (y 2) ⟨(y 1).val * 256 + 128 + (y 3).val, by have : (y 1).val < 4 := (y 1).isLt; have : (y 3).val < 128 := (y 3).isLt; omega⟩ := by
  have hK := KV_apply x0 x1 x2 x3 x4 x5 x6 x7 x8 x9 x10 x11 x12 x13
  rw [out16_eq]
  generalize k0_pay66 (F := Ideal) x0 x1 x2 x3 x4 x5 x6 x7 x8 x9 x10 x11 x12 x13 = K at hK ⊢
  have cov := cover0_16 (F := Ideal) (keyP K 896 slices_S512x1024_o0_896_S512x128) (keyP K 640 slices_S512x1024_o0_640_S512x128)
    (keyP K 384 slices_S512x1024_o0_384_S512x128) (keyP K 128 slices_S512x1024_o0_128_S512x128) y
  canon_tiles x h using cov
  all_goals exact piece16 x0 x2 x3 x4 x7 x8 K hK _ _ x (y 1) (y 2) (y 3) (by omega) (by omega) (by omega)

theorem piece17 (u : FVec Ideal S512x512 .f32) (v : FVec Ideal S512x512 .bf16) (hu : ∀ r c, u (ix2 r c) = bU x0 x2 x3 x4 r c)
    (hv : ∀ r c, v (ix2 r c) = bV x0 x2 x3 x4 x10 r c) (o : ℕ) (h0 : S512x512.Slices ![o, 0] S128x128)
    (h1 : S512x512.Slices ![o, 128] S128x128) (h2 : S512x512.Slices ![o, 256] S128x128) (h3 : S512x512.Slices ![o, 384] S128x128)
    (x : S1x128x512.Idx) (r c : Fin 512) (q : ℕ) (ho : o = q * 128) (hq : q < 4) (hr : r.val = o + (x 1).val) (hc : c.val = (x 2).val) :
    gateP (gateRows u v x11 x12 o h0 h1 h2 h3) (View.ld x13 r0_22) x
      = nrm (Ideal.ofBits FTy.f32 1140850688#32) (bY x0 x2 x3 x4 x10 x11 x12 r) (fun c => x13 (ix2 0 c)) c := by
  obtain ⟨a, k, t, rfl⟩ : ∃ a k t, x = ix3 a k t := ⟨x 0, x 1, x 2, by funext a; fin_cases a <;> rfl⟩
  obtain rfl : c = t := Fin.ext hc
  change r.val = o + k.val at hr
  subst ho
  have e1 : r.val / 128 = q := by omega
  have e2 : r.val % 128 = k.val := by omega
  have hg : (fun c => (View.ld x13 r0_22 : Vec Ideal S1x512 .f32) (ix2 0 c)) = fun c => x13 (ix2 0 c) :=
    funext fun c => View.ld_unit_apply_of x13 _ _ inb_S1x512_S1x512_0_0 _ _ (fun b => by fin_cases b <;> simp [ix2])
  have hy : (fun c => gateRows u v x11 x12 (q * 128) h0 h1 h2 h3 (ix2 k c)) = bY x0 x2 x3 x4 x10 x11 x12 r := funext fun c => by
    rw [gateRows_apply _ _ _ _ _ _ _ _ _ (by omega), hu, bY]
    simp only [hv, e1, e2]
    rw [show (⟨q * 128 + k.val, by omega⟩ : Fin 512) = r from Fin.ext hr.symm]
  rw [gateP_apply, hg, hy]

/-- The block of gated rows. -/
theorem out17 (y : S1x512x512.Idx) : out0_17 (F := Ideal) x0 x1 x2 x3 x4 x5 x6 x7 x8 x9 x10 x11 x12 x13 y
    = nrm (Ideal.ofBits FTy.f32 1140850688#32) (bY x0 x2 x3 x4 x10 x11 x12 (y 1)) (fun c => x13 (ix2 0 c)) (y 2) := by
  have hu := U_apply x0 x1 x2 x3 x4 x5 x6 x7 x8 x9 x10 x11 x12 x13
  have hv := V_apply x0 x1 x2 x3 x4 x5 x6 x7 x8 x9 x10 x11 x12 x13
  rw [out17_eq]
  generalize k0_pay71 (F := Ideal) x0 x1 x2 x3 x4 x5 x6 x7 x8 x9 x10 x11 x12 x13 = u at hu ⊢
  generalize k0_pay72 (F := Ideal) x0 x1 x2 x3 x4 x5 x6 x7 x8 x9 x10 x11 x12 x13 = v at hv ⊢
  have cov := cover0_17 (F := Ideal)
    (gateP (gateRows u v x11 x12 384 slices_S512x512_o384_0_S128x128 slices_S512x512_o384_128_S128x128 slices_S512x512_o384_256_S128x128 slices_S512x512_o384_384_S128x128) (View.ld x13 r0_22))
    (gateP (gateRows u v x11 x12 256 slices_S512x512_o256_0_S128x128 slices_S512x512_o256_128_S128x128 slices_S512x512_o256_256_S128x128 slices_S512x512_o256_384_S128x128) (View.ld x13 r0_22))
    (gateP (gateRows u v x11 x12 128 slices_S512x512_o128_0_S128x128 slices_S512x512_o128_128_S128x128 slices_S512x512_o128_256_S128x128 slices_S512x512_o128_384_S128x128) (View.ld x13 r0_22))
    (gateP (gateRows u v x11 x12 0 slices_S512x512_o0_0_S128x128 slices_S512x512_o0_128_S128x128 slices_S512x512_o0_256_S128x128 slices_S512x512_o0_384_S128x128) (View.ld x13 r0_22)) y
  canon_tiles x h using cov
  · exact piece17 x0 x2 x3 x4 x10 x11 x12 x13 u v hu hv _ _ _ _ _ x (y 1) (y 2) 3 rfl (by omega) (by omega) (by omega)
  · exact piece17 x0 x2 x3 x4 x10 x11 x12 x13 u v hu hv _ _ _ _ _ x (y 1) (y 2) 2 rfl (by omega) (by omega) (by omega)
  · exact piece17 x0 x2 x3 x4 x10 x11 x12 x13 u v hu hv _ _ _ _ _ x (y 1) (y 2) 1 rfl (by omega) (by omega) (by omega)
  · exact piece17 x0 x2 x3 x4 x10 x11 x12 x13 u v hu hv _ _ _ _ _ x (y 1) (y 2) 0 rfl (by omega) (by omega) (by omega)

end Outs

end Cert.Proof.Proj

end
-- ==== Proof.ProjHost.lean ====
/-
  What the host operations before the call leave in its operands, one element at a time: the widened input and query
  projections, with the rotated columns beside the plain ones and zeros to fill each run of 128, the rotation's angles per
  position, and the other arguments recast and reshaped.
-/
module

public import proofs.«01_k».proof.Proof.Gen.Kernel4Ideal.Frame
public import proofs.«01_k».proof.Proof.ProjMath
public import Idealize.ShloMosaic.Lib.Pointwise
public import Idealize.ShloMosaic.Lib.StableHlo.Run

@[expose] public section

set_option maxRecDepth 16384

noncomputable section

namespace Cert.Proof.Proj

open Cert.Kernel4Ideal Cert.Kernel4Ideal.Gen
open Idealize.ShloMosaic Idealize.ShloMosaic.TcCoe Idealize.SL.Sem

/-! ## The widened matrices -/

/-- The fill value. -/
abbrev fill : FVec Ideal S_ .f32 := sitofp .f32 (constantI S_ 32 0#32)

/-- The rotation's angle per position over 128 lanes. -/
def frqArr : FVec Ideal S1x128 .f32 :=
  let f : FVec Ideal S32 .f32 := Host.divf (broadcastInDim S32 ![] bcast_S_S32 (constant S_ .f32 0x3F800000#32))
    (Host.powf (broadcastInDim S32 ![] bcast_S_S32 (constant S_ .f32 0x461C4000#32))
      (Host.divf (addf (broadcastInDim S32 ![] bcast_S_S32 (constant S_ .f32 0x00000000#32))
        (mulf (broadcastInDim S32 ![] bcast_S_S32 (constant S_ .f32 0x40000000#32)) (sitofp .f32 (iotaInDim S32 32 0))))
        (broadcastInDim S32 ![] bcast_S_S32 (constant S_ .f32 0x42800000#32))))
  pad S1x128 ![0, 0] ![0, 64] ![0, 0] (broadcastInDim S1x64 ![1] bcast_S64_S1x64_1
    (concatenate S64 0 [⟨S32, f⟩, ⟨S32, f⟩] concatenates_S32_S32_S64_d0)) fill pads_S1x64_S1x128_000_0640 h_S_

/-- The input projection's 64 columns that turn, -/
def turnIn (w : FVec Ideal S1024x1472 .f32) : FVec Ideal S1024x64 .f32 :=
  extractStridedSlice S1024x64 ![0, 384] w slices_S1024x1472_S1024x64_0_384

/-- and all its columns, widened. -/
def winExt (w : FVec Ideal S1024x1472 .f32) : FVec Ideal S1024x1664 .f32 :=
  concatenate S1024x1664 1 [⟨S1024x384, extractStridedSlice S1024x384 ![0, 0] w slices_S1024x1472_S1024x384_0_0⟩,
    ⟨S1024x128, pad S1024x128 ![0, 0] ![0, 64] ![0, 0] (turnIn w) fill pads_S1024x64_S1024x128_000_0640 h_S_⟩,
    ⟨S1024x128, pad S1024x128 ![0, 0] ![0, 64] ![0, 0] (concatenate S1024x64 1
      [⟨S1024x32, Host.negf (extractStridedSlice S1024x32 ![0, 32] (turnIn w) slices_S1024x64_S1024x32_0_32)⟩,
       ⟨S1024x32, extractStridedSlice S1024x32 ![0, 0] (turnIn w) slices_S1024x64_S1024x32_0_0⟩]
      concatenates_S1024x32_S1024x32_S1024x64_d1) fill pads_S1024x64_S1024x128_000_0640 h_S_⟩,
    ⟨S1024x1024, extractStridedSlice S1024x1024 ![0, 448] w slices_S1024x1472_S1024x1024_0_448⟩]
    concatenates_S1024x384_S1024x128_S1024x128_S1024x1024_S1024x1664_d1

/-- A head's 64 columns of the query projection that turn, filled to 128, -/
def plainQ (a : FVec Ideal S256x64 .f32) : FVec Ideal S256x128 .f32 :=
  pad S256x128 ![0, 0] ![0, 64] ![0, 0] a fill pads_S256x64_S256x128_000_0640 h_S_

/-- the same columns rotated and filled, -/
def turnQ (a : FVec Ideal S256x64 .f32) : FVec Ideal S256x128 .f32 :=
  pad S256x128 ![0, 0] ![0, 64] ![0, 0] (concatenate S256x64 1
    [⟨S256x32, Host.negf (extractStridedSlice S256x32 ![0, 32] a slices_S256x64_S256x32_0_32)⟩,
     ⟨S256x32, extractStridedSlice S256x32 ![0, 0] a slices_S256x64_S256x32_0_0⟩]
    concatenates_S256x32_S256x32_S256x64_d1) fill pads_S256x64_S256x128_000_0640 h_S_

/-- the columns themselves, -/
def headQ (w : FVec Ideal S256x4x192 .f32) (p : ℕ) (h : S256x4x192.Slices ![0, p, 128] S256x1x64) : FVec Ideal S256x64 .f32 :=
  shapeCast S256x64 (extractStridedSlice S256x1x64 ![0, p, 128] w h) shapeCasts_S256x1x64_S256x64

/-- and all its columns, widened. -/
def wuqExt (w : FVec Ideal S256x768 .f32) : FVec Ideal S256x1536 .f32 :=
  let w' : FVec Ideal S256x4x192 .f32 := shapeCast S256x4x192 w shapeCasts_S256x768_S256x4x192
  concatenate S256x1536 1 [⟨S256x512, shapeCast S256x512 (extractStridedSlice S256x4x128 ![0, 0, 0] w' slices_S256x4x192_S256x4x128_0_0_0) shapeCasts_S256x4x128_S256x512⟩,
    ⟨S256x128, plainQ (headQ w' 0 slices_S256x4x192_S256x1x64_0_0_128)⟩, ⟨S256x128, plainQ (headQ w' 1 slices_S256x4x192_S256x1x64_0_1_128)⟩,
    ⟨S256x128, plainQ (headQ w' 2 slices_S256x4x192_S256x1x64_0_2_128)⟩, ⟨S256x128, plainQ (headQ w' 3 slices_S256x4x192_S256x1x64_0_3_128)⟩,
    ⟨S256x128, turnQ (headQ w' 0 slices_S256x4x192_S256x1x64_0_0_128)⟩, ⟨S256x128, turnQ (headQ w' 1 slices_S256x4x192_S256x1x64_0_1_128)⟩,
    ⟨S256x128, turnQ (headQ w' 2 slices_S256x4x192_S256x1x64_0_2_128)⟩, ⟨S256x128, turnQ (headQ w' 3 slices_S256x4x192_S256x1x64_0_3_128)⟩]
    concatenates_S256x512_S256x128_S256x128_S256x128_S256x128_S256x128_S256x128_S256x128_S256x128_S256x1536_d1

theorem fill_eq : FloatOps.sitofp (F := Ideal) FTy.f32 (0#32) = (0 : EReal) := by
  show (((0#32).toInt : ℝ) : EReal) = 0
  simp

theorem frqArr_apply (l : Fin 128) (h : l.val < 64) : frqArr (ix2 0 l) = frq ⟨l.val % 32, by omega⟩ := by
  pointwise [frqArr]
  rw [dif_pos h]
  split_ifs with h'
  · rw [frq]; simp only [Nat.mod_eq_of_lt h']
  · rw [frq]; simp only [show l.val - 32 = l.val % 32 by omega]

theorem turnIn_apply (w : FVec Ideal S1024x1472 .f32) (d : Fin 1024) (l : Fin 64) :
    turnIn w (ix2 d l) = w (ix2 d ⟨384 + l.val, by omega⟩) := by
  pointwise [turnIn]

/-- The two fillings of 64 columns of the input projection -/
theorem fillIn_apply (a : FVec Ideal S1024x64 .f32) (d : Fin 1024) (l : Fin 128) :
    (pad S1024x128 ![0, 0] ![0, 64] ![0, 0] a fill pads_S1024x64_S1024x128_000_0640 h_S_ : FVec Ideal S1024x128 .f32) (ix2 d l)
      = padded (fun j => a (ix2 d j)) l := by
  pointwise
  simp only [fill_eq]
  rfl

theorem rotIn_apply (a : FVec Ideal S1024x64 .f32) (d : Fin 1024) (l : Fin 128) :
    (pad S1024x128 ![0, 0] ![0, 64] ![0, 0] (concatenate S1024x64 1
      [⟨S1024x32, Host.negf (extractStridedSlice S1024x32 ![0, 32] a slices_S1024x64_S1024x32_0_32)⟩,
       ⟨S1024x32, extractStridedSlice S1024x32 ![0, 0] a slices_S1024x64_S1024x32_0_0⟩]
      concatenates_S1024x32_S1024x32_S1024x64_d1) fill pads_S1024x64_S1024x128_000_0640 h_S_ : FVec Ideal S1024x128 .f32) (ix2 d l)
      = turned (fun j => a (ix2 d j)) l := by
  pointwise
  simp only [fill_eq]
  rfl

/-- and of the query projection. -/
theorem plainQ_apply (a : FVec Ideal S256x64 .f32) (d : Fin 256) (l : Fin 128) : plainQ a (ix2 d l) = padded (fun j => a (ix2 d j)) l := by
  pointwise [plainQ]
  simp only [fill_eq]
  rfl

theorem turnQ_apply (a : FVec Ideal S256x64 .f32) (d : Fin 256) (l : Fin 128) : turnQ a (ix2 d l) = turned (fun j => a (ix2 d j)) l := by
  pointwise [turnQ]
  simp only [fill_eq]
  rfl

theorem headQ_apply (w : FVec Ideal S256x768 .f32) (p : ℕ) (hp : p < 4) (h : S256x4x192.Slices ![0, p, 128] S256x1x64) (d : Fin 256) (l : Fin 64) :
    headQ (shapeCast S256x4x192 w shapeCasts_S256x768_S256x4x192) p h (ix2 d l) = w (ix2 d ⟨p * 192 + (128 + l.val), by omega⟩) := by
  have e (x : FVec Ideal S256x1x64 .f32) : (shapeCast S256x64 x shapeCasts_S256x1x64_S256x64 : FVec Ideal S256x64 .f32) (ix2 d l) = x (ix3 d 0 l) := by
    pointwise
  have e' (q : Fin 4) (k : Fin 192) : (shapeCast S256x4x192 w shapeCasts_S256x768_S256x4x192 : FVec Ideal S256x4x192 .f32) (ix3 d q k)
      = w (ix2 d ⟨q.val * 192 + k.val, by omega⟩) := by
    pointwise
  rw [headQ, e, extractStridedSlice_apply _ _ h _ (ix3 d ⟨p, hp⟩ ⟨128 + l.val, by omega⟩) (fun b => by fin_cases b <;> simp [ix3]), e']

theorem winExt_apply (w : FVec Ideal S1024x1472 .f32) (d : Fin 1024) (e : Fin 1664) : winExt w (ix2 d e)
    = wideIn (fun e => w (ix2 d e)) e := by
  unfold winExt
  have f := fillIn_apply (turnIn w) d
  have g := rotIn_apply (turnIn w) d
  generalize (pad S1024x128 ![0, 0] ![0, 64] ![0, 0] (turnIn w) fill pads_S1024x64_S1024x128_000_0640 h_S_ : FVec Ideal S1024x128 .f32) = A at f ⊢
  generalize (pad S1024x128 ![0, 0] ![0, 64] ![0, 0] (concatenate S1024x64 1 _ _) fill pads_S1024x64_S1024x128_000_0640 h_S_ : FVec Ideal S1024x128 .f32) = B at g ⊢
  simp only [turnIn_apply] at f g
  pointwise
  simp only [f, g]
  rfl

theorem wuqExt_apply (w : FVec Ideal S256x768 .f32) (d : Fin 256) (e : Fin 1536) : wuqExt w (ix2 d e)
    = wide (fun k => w (ix2 d ⟨k.val / 128 * 192 + k.val % 128, by omega⟩))
        (fun p => padded fun j => w (ix2 d ⟨p.val * 192 + (128 + j.val), by omega⟩))
        (fun p => turned fun j => w (ix2 d ⟨p.val * 192 + (128 + j.val), by omega⟩)) e := by
  pointwise [wuqExt]
  simp only [plainQ_apply, turnQ_apply, headQ_apply, Nat.reduceLT]
  rfl

/-! ## The operands -/

variable (m : (ℓ : Loc nD τ sig) → Buf (Elt Ideal) ℓ) (c : Dev nD)

/-- The launch's arguments: the tokens, -/
abbrev xArr : FVec Ideal S4x4096x1024 .f32 := m ((c : Thread nD τ).loc main_arg0)
/-- their positions, -/
abbrev posArr : IVec S4x4096 32 := m ((c : Thread nD τ).loc main_arg1)
/-- the modulation, -/
abbrev mdArr : FVec Ideal S4x6144 .f32 := m ((c : Thread nD τ).loc main_arg2)
/-- the gains of the first norm, -/
abbrev g1Arr : FVec Ideal S1024 .f32 := m ((c : Thread nD τ).loc main_arg3)
/-- the input projection, -/
abbrev winArr : FVec Ideal S1024x1472 .f32 := m ((c : Thread nD τ).loc main_arg4)
/-- the gains of the queries' norm, -/
abbrev gqArr : FVec Ideal S256 .f32 := m ((c : Thread nD τ).loc main_arg5)
/-- the query projection, -/
abbrev wuqArr : FVec Ideal S256x768 .f32 := m ((c : Thread nD τ).loc main_arg6)
/-- the gains of the keys' norm, -/
abbrev gkvArr : FVec Ideal S128 .f32 := m ((c : Thread nD τ).loc main_arg7)
/-- the projection to keys and values, -/
abbrev wukvArr : FVec Ideal S128x1024 .f32 := m ((c : Thread nD τ).loc main_arg8)
/-- the gains of the gate's norm, -/
abbrev gsArr : FVec Ideal S512 .f32 := m ((c : Thread nD τ).loc main_arg9)
/-- the gate's matrices -/
abbrev wsArr : FVec Ideal S4x128x128 .f32 := m ((c : Thread nD τ).loc main_arg10)
/-- and biases, -/
abbrev bsArr : FVec Ideal S4x128 .f32 := m ((c : Thread nD τ).loc main_arg11)
/-- and the gains of the gate's last norm. -/
abbrev goArr : FVec Ideal S512 .f32 := m ((c : Thread nD τ).loc main_arg12)

set_option maxHeartbeats 2000000 in
/-- Each operand of the call, from the arguments. -/
theorem operands :
    ((V m c main_v62 : IVec S4x4096x1 32) = broadcastInDim S4x4096x1 ![0, 1] bcast_S4x4096_S4x4096x1_0_1 (posArr m c))
    ∧ ((V m c main_v63 : FVec Ideal S4x6x1024 .f32) = shapeCast S4x6x1024 (mdArr m c) shapeCasts_S4x6144_S4x6x1024)
    ∧ ((V m c main_v64 : FVec Ideal S1x1024 .f32) = broadcastInDim S1x1024 ![1] bcast_S1024_S1x1024_1 (g1Arr m c))
    ∧ ((V m c main_v24 : FVec Ideal S1024x1664 .bf16) = truncf .bf16 (winExt (winArr m c)) bitsLt_bf16_f32)
    ∧ ((V m c main_v65 : FVec Ideal S1x256 .f32) = broadcastInDim S1x256 ![1] bcast_S256_S1x256_1 (gqArr m c))
    ∧ ((V m c main_v61 : FVec Ideal S256x1536 .bf16) = truncf .bf16 (wuqExt (wuqArr m c)) bitsLt_bf16_f32)
    ∧ ((V m c main_v66 : FVec Ideal S1x128 .f32) = broadcastInDim S1x128 ![1] bcast_S128_S1x128_1 (gkvArr m c))
    ∧ ((V m c main_v67 : FVec Ideal S128x1024 .bf16) = truncf .bf16 (wukvArr m c) bitsLt_bf16_f32)
    ∧ ((V m c main_v13 : FVec Ideal S1x128 .f32) = frqArr)
    ∧ ((V m c main_v68 : FVec Ideal S1x512 .f32) = broadcastInDim S1x512 ![1] bcast_S512_S1x512_1 (gsArr m c))
    ∧ ((V m c main_v69 : FVec Ideal S4x128x128 .bf16) = truncf .bf16 (wsArr m c) bitsLt_bf16_f32)
    ∧ ((V m c main_v70 : FVec Ideal S4x128x1 .f32) = broadcastInDim S4x128x1 ![0, 1] bcast_S4x128_S4x128x1_0_1 (bsArr m c))
    ∧ ((V m c main_v71 : FVec Ideal S1x512 .f32) = broadcastInDim S1x512 ![1] bcast_S512_S1x512_1 (goArr m c))
    ∧ ((V m c main_arg0 : FVec Ideal S4x4096x1024 .f32) = xArr m c) := by
  refine ⟨?_, ?_, ?_, ?_, ?_, ?_, ?_, ?_, ?_, ?_, ?_, ?_, ?_, ?_⟩
  all_goals
    simp only [V, hostOps0, hostOps0_1, hostOps0_2, hostOps0_3, hostOps0_4, hostOps0_5, hostOps0_6, hostOps0_7, hostOps0_8, hostOps0_9,
      hostOps0_10, hostOps0_11, hostOps0_12, hostOps0_13, hostOps0_14, hostOps0_15, hostOps0_16, hostOps0_17, hostOps0_18, hostOps0_19,
      hostOps0_20, hostOps0_21, hostOps0_22, List.flatten_cons, List.flatten_nil, List.append_nil, List.cons_append, List.nil_append]
    after_results <;> rfl

theorem v62_apply (b : Fin 4) (i : Fin 4096) : (V m c main_v62 : IVec S4x4096x1 32) (ix3 b i 0) = posArr m c (ix2 b i) := by
  rw [(operands m c).1]; generalize posArr m c = a; pointwise []
theorem v63_apply (b : Fin 4) (j : Fin 6) (k : Fin 1024) : (V m c main_v63 : FVec Ideal S4x6x1024 .f32) (ix3 b j k)
    = mdArr m c (ix2 b ⟨j.val * 1024 + k.val, by omega⟩) := by
  rw [(operands m c).2.1]; generalize mdArr m c = a; pointwise []
theorem v64_apply (k : Fin 1024) : (V m c main_v64 : FVec Ideal S1x1024 .f32) (ix2 0 k) = g1Arr m c (ix1 k) := by
  rw [(operands m c).2.2.1]; generalize g1Arr m c = a; pointwise []
theorem v24_apply (d : Fin 1024) (e : Fin 1664) : (V m c main_v24 : FVec Ideal S1024x1664 .bf16) (ix2 d e) = winExt (winArr m c) (ix2 d e) := by
  rw [(operands m c).2.2.2.1]; rfl
theorem v65_apply (k : Fin 256) : (V m c main_v65 : FVec Ideal S1x256 .f32) (ix2 0 k) = gqArr m c (ix1 k) := by
  rw [(operands m c).2.2.2.2.1]; generalize gqArr m c = a; pointwise []
theorem v61_apply (d : Fin 256) (e : Fin 1536) : (V m c main_v61 : FVec Ideal S256x1536 .bf16) (ix2 d e) = wuqExt (wuqArr m c) (ix2 d e) := by
  rw [(operands m c).2.2.2.2.2.1]; rfl
theorem v66_apply (k : Fin 128) : (V m c main_v66 : FVec Ideal S1x128 .f32) (ix2 0 k) = gkvArr m c (ix1 k) := by
  rw [(operands m c).2.2.2.2.2.2.1]; generalize gkvArr m c = a; pointwise []
theorem v67_apply (d : Fin 128) (e : Fin 1024) : (V m c main_v67 : FVec Ideal S128x1024 .bf16) (ix2 d e) = wukvArr m c (ix2 d e) := by
  rw [(operands m c).2.2.2.2.2.2.2.1]; rfl
theorem v13_apply (l : Fin 128) : (V m c main_v13 : FVec Ideal S1x128 .f32) (ix2 0 l) = frqArr (ix2 0 l) := by
  rw [(operands m c).2.2.2.2.2.2.2.2.1]
theorem v68_apply (k : Fin 512) : (V m c main_v68 : FVec Ideal S1x512 .f32) (ix2 0 k) = gsArr m c (ix1 k) := by
  rw [(operands m c).2.2.2.2.2.2.2.2.2.1]; generalize gsArr m c = a; pointwise []
theorem v69_apply (p : Fin 4) (r s : Fin 128) : (V m c main_v69 : FVec Ideal S4x128x128 .bf16) (ix3 p r s) = wsArr m c (ix3 p r s) := by
  rw [(operands m c).2.2.2.2.2.2.2.2.2.2.1]; rfl
theorem v70_apply (p : Fin 4) (r : Fin 128) : (V m c main_v70 : FVec Ideal S4x128x1 .f32) (ix3 p r 0) = bsArr m c (ix2 p r) := by
  rw [(operands m c).2.2.2.2.2.2.2.2.2.2.2.1]; generalize bsArr m c = a; pointwise []
theorem v71_apply (k : Fin 512) : (V m c main_v71 : FVec Ideal S1x512 .f32) (ix2 0 k) = goArr m c (ix1 k) := by
  rw [(operands m c).2.2.2.2.2.2.2.2.2.2.2.2.1]; generalize goArr m c = a; pointwise []
theorem arg0_apply (b : Fin 4) (i : Fin 4096) (k : Fin 1024) : (V m c main_arg0 : FVec Ideal S4x4096x1024 .f32) (ix3 b i k)
    = xArr m c (ix3 b i k) := by
  rw [(operands m c).2.2.2.2.2.2.2.2.2.2.2.2.2]

end Cert.Proof.Proj

end
-- ==== Proof.ProjBlocks.lean ====
/-
  Where each grid point's blocks sit in the arrays: point `t` is the tile of tokens `512 (t % 8)` on, of batch `t / 8`.
-/
module

public import proofs.«01_k».proof.Proof.Gen.Kernel4Ideal.Value
public import proofs.«01_k».proof.Proof.ProjHost

@[expose] public section

set_option maxRecDepth 16384

noncomputable section

namespace Cert.Proof.Proj

open Cert.Kernel4Ideal Cert.Kernel4Ideal.Gen
open Idealize.ShloMosaic Idealize.ShloMosaic.TcCoe Idealize.SL.Sem
open Idealize.ShloMosaic.Pipeline (Dat Window)

/-- The block indices of the windows. -/
theorem index0 : ∀ t : Fin cfg0.N, win0_0.index t = ![t.val / 8, t.val % 8, 0] :=
  (by decide +kernel : ∀ t : Fin grid0.N, win0_0.index t = ![t.val / 8, t.val % 8, 0])
theorem index1 : ∀ t : Fin cfg0.N, win0_1.index t = ![t.val / 8, t.val % 8, 0] :=
  (by decide +kernel : ∀ t : Fin grid0.N, win0_1.index t = ![t.val / 8, t.val % 8, 0])
theorem index2 : ∀ t : Fin cfg0.N, win0_2.index t = ![t.val / 8, 0, 0] :=
  (by decide +kernel : ∀ t : Fin grid0.N, win0_2.index t = ![t.val / 8, 0, 0])
theorem index3 : ∀ t : Fin cfg0.N, win0_3.index t = ![0, 0] :=
  (by decide +kernel : ∀ t : Fin grid0.N, win0_3.index t = ![0, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])
theorem index6 : ∀ t : Fin cfg0.N, win0_6.index t = ![0, 0] :=
  (by decide +kernel : ∀ t : Fin grid0.N, win0_6.index t = ![0, 0])
theorem index7 : ∀ t : Fin cfg0.N, win0_7.index t = ![0, 0] :=
  (by decide +kernel : ∀ t : Fin grid0.N, win0_7.index t = ![0, 0])
theorem index8 : ∀ t : Fin cfg0.N, win0_8.index t = ![0, 0] :=
  (by decide +kernel : ∀ t : Fin grid0.N, win0_8.index t = ![0, 0])
theorem index9 : ∀ t : Fin cfg0.N, win0_9.index t = ![0, 0] :=
  (by decide +kernel : ∀ t : Fin grid0.N, win0_9.index t = ![0, 0])
theorem index10 : ∀ t : Fin cfg0.N, win0_10.index t = ![0, 0] :=
  (by decide +kernel : ∀ t : Fin grid0.N, win0_10.index t = ![0, 0])
theorem index11 : ∀ t : Fin cfg0.N, win0_11.index t = ![0, 0, 0] :=
  (by decide +kernel : ∀ t : Fin grid0.N, win0_11.index t = ![0, 0, 0])
theorem index12 : ∀ t : Fin cfg0.N, win0_12.index t = ![0, 0, 0] :=
  (by decide +kernel : ∀ t : Fin grid0.N, win0_12.index t = ![0, 0, 0])
theorem index13 : ∀ t : Fin cfg0.N, win0_13.index t = ![0, 0] :=
  (by decide +kernel : ∀ t : Fin grid0.N, win0_13.index t = ![0, 0])
theorem index14 : ∀ t : Fin cfg0.N, win0_14.index t = ![t.val / 8, 0, t.val % 8, 0] :=
  (by decide +kernel : ∀ t : Fin grid0.N, win0_14.index t = ![t.val / 8, 0, t.val % 8, 0])
theorem index15 : ∀ t : Fin cfg0.N, win0_15.index t = ![t.val / 8, 0, t.val % 8, 0] :=
  (by decide +kernel : ∀ t : Fin grid0.N, win0_15.index t = ![t.val / 8, 0, t.val % 8, 0])
theorem index16 : ∀ t : Fin cfg0.N, win0_16.index t = ![t.val / 8, 0, t.val % 8, 0] :=
  (by decide +kernel : ∀ t : Fin grid0.N, win0_16.index t = ![t.val / 8, 0, t.val % 8, 0])
theorem index17 : ∀ t : Fin cfg0.N, win0_17.index t = ![t.val / 8, t.val % 8, 0] :=
  (by decide +kernel : ∀ t : Fin grid0.N, win0_17.index t = ![t.val / 8, t.val % 8, 0])

theorem N_eq : cfg0.N = 32 := N_0

variable (m : (ℓ : Loc nD τ sig) → Buf (Elt Ideal) ℓ) (c : Dev nD) (t : Fin cfg0.N)

/-- The token a tile's row is of, in its batch, -/
def tok (r : Fin 512) : Fin 4096 := ⟨t.val % 8 * 512 + r.val, by omega⟩
/-- and the tile's batch. -/
def bat : Fin 4 := ⟨t.val / 8, by have := t.isLt; have := N_eq; omega⟩

/-! ## The operands' blocks, in the arguments -/

theorem b0_apply (r : Fin 512) (k : Fin 1024) : (iblk m c 0 t : FVec Ideal S1x512x1024 .f32) (ix3 0 r k) = xArr m c (ix3 (bat t) (tok t r) k) := by
  refine Eq.trans (?_ : _ = V m c main_arg0 (ix3 (bat t) (tok t r) k)) (arg0_apply m c _ _ k)
  show V m c main_arg0 ((win0_0.rect t).emb (ix3 0 r k)) = _
  refine congrArg (V m c main_arg0) (funext fun a => Fin.ext ((win0_0.rect_emb_val t _ a).trans ?_))
  rw [index0]
  fin_cases a
  · show t.val / 8 * 1 + 0 = t.val / 8; omega
  · rfl
  · show 0 * 1024 + k.val = k.val; omega

theorem b1_apply (r : Fin 512) : (iblk m c 1 t : IVec S1x512x1 32) (ix3 0 r 0) = posArr m c (ix2 (bat t) (tok t r)) := by
  refine Eq.trans (?_ : _ = V m c main_v62 (ix3 (bat t) (tok t r) 0)) (v62_apply m c _ _)
  show V m c main_v62 ((win0_1.rect t).emb (ix3 0 r 0)) = _
  refine congrArg (V m c main_v62) (funext fun a => Fin.ext ((win0_1.rect_emb_val t _ a).trans ?_))
  rw [index1]
  fin_cases a
  · show t.val / 8 * 1 + 0 = t.val / 8; omega
  · rfl
  · rfl

theorem b2_apply (j : Fin 6) (k : Fin 1024) : (iblk m c 2 t : FVec Ideal S1x6x1024 .f32) (ix3 0 j k) = mdArr m c (ix2 (bat t) ⟨j.val * 1024 + k.val, by omega⟩) := by
  refine Eq.trans (?_ : _ = V m c main_v63 (ix3 (bat t) j k)) (v63_apply m c _ j k)
  show V m c main_v63 ((win0_2.rect t).emb (ix3 0 j k)) = _
  refine congrArg (V m c main_v63) (funext fun a => Fin.ext ((win0_2.rect_emb_val t _ a).trans ?_))
  rw [index2]
  fin_cases a
  · show t.val / 8 * 1 + 0 = t.val / 8; omega
  · show 0 * 6 + j.val = j.val; omega
  · show 0 * 1024 + k.val = k.val; omega

theorem b3_apply (k : Fin 1024) : (iblk m c 3 t : FVec Ideal S1x1024 .f32) (ix2 0 k) = g1Arr m c (ix1 k) := by
  refine Eq.trans (?_ : _ = V m c main_v64 (ix2 0 k)) (v64_apply m c k)
  show V m c main_v64 ((win0_3.rect t).emb (ix2 0 k)) = _
  refine congrArg (V m c main_v64) (funext fun a => Fin.ext ((win0_3.rect_emb_val t _ a).trans ?_))
  rw [index3]
  fin_cases a
  · rfl
  · show 0 * 1024 + k.val = k.val; omega

theorem b4_apply (d : Fin 1024) (e : Fin 1664) : (iblk m c 4 t : FVec Ideal S1024x1664 .bf16) (ix2 d e) = winExt (winArr m c) (ix2 d e) := by
  refine Eq.trans (?_ : _ = V m c main_v24 (ix2 d e)) (v24_apply m c d e)
  show V m c main_v24 ((win0_4.rect t).emb (ix2 d e)) = _
  refine congrArg (V m c main_v24) (funext fun a => Fin.ext ((win0_4.rect_emb_val t _ a).trans ?_))
  rw [index4]
  fin_cases a
  · show 0 * 1024 + d.val = d.val; omega
  · show 0 * 1664 + e.val = e.val; omega

theorem b5_apply (k : Fin 256) : (iblk m c 5 t : FVec Ideal S1x256 .f32) (ix2 0 k) = gqArr m c (ix1 k) := by
  refine Eq.trans (?_ : _ = V m c main_v65 (ix2 0 k)) (v65_apply m c k)
  show V m c main_v65 ((win0_5.rect t).emb (ix2 0 k)) = _
  refine congrArg (V m c main_v65) (funext fun a => Fin.ext ((win0_5.rect_emb_val t _ a).trans ?_))
  rw [index5]
  fin_cases a
  · rfl
  · show 0 * 256 + k.val = k.val; omega

theorem b6_apply (d : Fin 256) (e : Fin 1536) : (iblk m c 6 t : FVec Ideal S256x1536 .bf16) (ix2 d e) = wuqExt (wuqArr m c) (ix2 d e) := by
  refine Eq.trans (?_ : _ = V m c main_v61 (ix2 d e)) (v61_apply m c d e)
  show V m c main_v61 ((win0_6.rect t).emb (ix2 d e)) = _
  refine congrArg (V m c main_v61) (funext fun a => Fin.ext ((win0_6.rect_emb_val t _ a).trans ?_))
  rw [index6]
  fin_cases a
  · show 0 * 256 + d.val = d.val; omega
  · show 0 * 1536 + e.val = e.val; omega

theorem b7_apply (k : Fin 128) : (iblk m c 7 t : FVec Ideal S1x128 .f32) (ix2 0 k) = gkvArr m c (ix1 k) := by
  refine Eq.trans (?_ : _ = V m c main_v66 (ix2 0 k)) (v66_apply m c k)
  show V m c main_v66 ((win0_7.rect t).emb (ix2 0 k)) = _
  refine congrArg (V m c main_v66) (funext fun a => Fin.ext ((win0_7.rect_emb_val t _ a).trans ?_))
  rw [index7]
  fin_cases a
  · rfl
  · show 0 * 128 + k.val = k.val; omega

theorem b8_apply (d : Fin 128) (e : Fin 1024) : (iblk m c 8 t : FVec Ideal S128x1024 .bf16) (ix2 d e) = wukvArr m c (ix2 d e) := by
  refine Eq.trans (?_ : _ = V m c main_v67 (ix2 d e)) (v67_apply m c d e)
  show V m c main_v67 ((win0_8.rect t).emb (ix2 d e)) = _
  refine congrArg (V m c main_v67) (funext fun a => Fin.ext ((win0_8.rect_emb_val t _ a).trans ?_))
  rw [index8]
  fin_cases a
  · show 0 * 128 + d.val = d.val; omega
  · show 0 * 1024 + e.val = e.val; omega

theorem b9_apply (k : Fin 128) : (iblk m c 9 t : FVec Ideal S1x128 .f32) (ix2 0 k) = frqArr (ix2 0 k) := by
  refine Eq.trans (?_ : _ = V m c main_v13 (ix2 0 k)) (v13_apply m c k)
  show V m c main_v13 ((win0_9.rect t).emb (ix2 0 k)) = _
  refine congrArg (V m c main_v13) (funext fun a => Fin.ext ((win0_9.rect_emb_val t _ a).trans ?_))
  rw [index9]
  fin_cases a
  · rfl
  · show 0 * 128 + k.val = k.val; omega

theorem b10_apply (k : Fin 512) : (iblk m c 10 t : FVec Ideal S1x512 .f32) (ix2 0 k) = gsArr m c (ix1 k) := by
  refine Eq.trans (?_ : _ = V m c main_v68 (ix2 0 k)) (v68_apply m c k)
  show V m c main_v68 ((win0_10.rect t).emb (ix2 0 k)) = _
  refine congrArg (V m c main_v68) (funext fun a => Fin.ext ((win0_10.rect_emb_val t _ a).trans ?_))
  rw [index10]
  fin_cases a
  · rfl
  · show 0 * 512 + k.val = k.val; omega

theorem b11_apply (p : Fin 4) (r s : Fin 128) : (iblk m c 11 t : FVec Ideal S4x128x128 .bf16) (ix3 p r s) = wsArr m c (ix3 p r s) := by
  refine Eq.trans (?_ : _ = V m c main_v69 (ix3 p r s)) (v69_apply m c p r s)
  show V m c main_v69 ((win0_11.rect t).emb (ix3 p r s)) = _
  refine congrArg (V m c main_v69) (funext fun a => Fin.ext ((win0_11.rect_emb_val t _ a).trans ?_))
  rw [index11]
  fin_cases a
  · show 0 * 4 + p.val = p.val; omega
  · show 0 * 128 + r.val = r.val; omega
  · show 0 * 128 + s.val = s.val; omega

theorem b12_apply (p : Fin 4) (r : Fin 128) : (iblk m c 12 t : FVec Ideal S4x128x1 .f32) (ix3 p r 0) = bsArr m c (ix2 p r) := by
  refine Eq.trans (?_ : _ = V m c main_v70 (ix3 p r 0)) (v70_apply m c p r)
  show V m c main_v70 ((win0_12.rect t).emb (ix3 p r 0)) = _
  refine congrArg (V m c main_v70) (funext fun a => Fin.ext ((win0_12.rect_emb_val t _ a).trans ?_))
  rw [index12]
  fin_cases a
  · show 0 * 4 + p.val = p.val; omega
  · show 0 * 128 + r.val = r.val; omega
  · rfl

theorem b13_apply (k : Fin 512) : (iblk m c 13 t : FVec Ideal S1x512 .f32) (ix2 0 k) = goArr m c (ix1 k) := by
  refine Eq.trans (?_ : _ = V m c main_v71 (ix2 0 k)) (v71_apply m c k)
  show V m c main_v71 ((win0_13.rect t).emb (ix2 0 k)) = _
  refine congrArg (V m c main_v71) (funext fun a => Fin.ext ((win0_13.rect_emb_val t _ a).trans ?_))
  rw [index13]
  fin_cases a
  · rfl
  · show 0 * 512 + k.val = k.val; omega

/-! ## The results' blocks -/

theorem emb14 (z : Fin 1) (p : Fin 4) (r : Fin 512) (l : Fin 256) :
    (win0_14.rect t).emb (ix4 z p r l) = (ix4 (bat t) p (tok t r) l : S4x4x4096x256.Idx) := by
  refine funext fun b => Fin.ext ((win0_14.rect_emb_val t _ b).trans ?_)
  rw [index14]
  fin_cases b
  · show t.val / 8 * 1 + z.val = t.val / 8; omega
  · show 0 * 4 + p.val = p.val; omega
  · rfl
  · show 0 * 256 + l.val = l.val; omega

theorem emb15 (z : Fin 1) (p : Fin 4) (r : Fin 512) (l : Fin 256) :
    (win0_15.rect t).emb (ix4 z p r l) = (ix4 (bat t) p (tok t r) l : S4x4x4096x256.Idx) := by
  refine funext fun b => Fin.ext ((win0_15.rect_emb_val t _ b).trans ?_)
  rw [index15]
  fin_cases b
  · show t.val / 8 * 1 + z.val = t.val / 8; omega
  · show 0 * 4 + p.val = p.val; omega
  · rfl
  · show 0 * 256 + l.val = l.val; omega

theorem emb16 (z : Fin 1) (p : Fin 4) (r : Fin 512) (l : Fin 128) :
    (win0_16.rect t).emb (ix4 z p r l) = (ix4 (bat t) p (tok t r) l : S4x4x4096x128.Idx) := by
  refine funext fun b => Fin.ext ((win0_16.rect_emb_val t _ b).trans ?_)
  rw [index16]
  fin_cases b
  · show t.val / 8 * 1 + z.val = t.val / 8; omega
  · show 0 * 4 + p.val = p.val; omega
  · rfl
  · show 0 * 128 + l.val = l.val; omega

theorem emb17 (z : Fin 1) (r : Fin 512) (l : Fin 512) :
    (win0_17.rect t).emb (ix3 z r l) = (ix3 (bat t) (tok t r) l : S4x4096x512.Idx) := by
  refine funext fun b => Fin.ext ((win0_17.rect_emb_val t _ b).trans ?_)
  rw [index17]
  fin_cases b
  · show t.val / 8 * 1 + z.val = t.val / 8; omega
  · rfl
  · show 0 * 512 + l.val = l.val; omega

/-- The tile of a token. -/
theorem exists_tile (b : Fin 4) (i : Fin 4096) : ∃ (t : Fin cfg0.N) (r : Fin 512), bat t = b ∧ tok t r = i :=
  ⟨⟨b.val * 8 + i.val / 512, lt_of_lt_of_eq (by omega) N_eq.symm⟩, ⟨i.val % 512, by omega⟩,
    Fin.ext (by show (b.val * 8 + i.val / 512) / 8 = _; omega),
    Fin.ext (by show (b.val * 8 + i.val / 512) % 8 * 512 + i.val % 512 = _; omega)⟩

/-- Every element of a result is in the block of its tile. -/
theorem cover14 (i : S4x4x4096x256.Idx) : ∃ t : Fin cfg0.N, (cfg0.win 14).flush t = true ∧ i ∈ ((cfg0.win 14).blk t).view.set := by
  obtain ⟨b, p, s, l, rfl⟩ : ∃ (b p : Fin 4) (s : Fin 4096) (l : Fin 256), i = ix4 b p s l := ⟨i 0, i 1, i 2, i 3, eq_ix4 i⟩
  obtain ⟨t, r, rfl, rfl⟩ := exists_tile b s
  rw [← emb14 t 0 p r l]
  exact ⟨t, flush0_14 t, ((cfg0.win 14).blk t).view.emb_mem_set _⟩

theorem cover15 (i : S4x4x4096x256.Idx) : ∃ t : Fin cfg0.N, (cfg0.win 15).flush t = true ∧ i ∈ ((cfg0.win 15).blk t).view.set := by
  obtain ⟨b, p, s, l, rfl⟩ : ∃ (b p : Fin 4) (s : Fin 4096) (l : Fin 256), i = ix4 b p s l := ⟨i 0, i 1, i 2, i 3, eq_ix4 i⟩
  obtain ⟨t, r, rfl, rfl⟩ := exists_tile b s
  rw [← emb15 t 0 p r l]
  exact ⟨t, flush0_15 t, ((cfg0.win 15).blk t).view.emb_mem_set _⟩

theorem cover16 (i : S4x4x4096x128.Idx) : ∃ t : Fin cfg0.N, (cfg0.win 16).flush t = true ∧ i ∈ ((cfg0.win 16).blk t).view.set := by
  obtain ⟨b, p, s, l, rfl⟩ : ∃ (b p : Fin 4) (s : Fin 4096) (l : Fin 128), i = ix4 b p s l := ⟨i 0, i 1, i 2, i 3, eq_ix4 i⟩
  obtain ⟨t, r, rfl, rfl⟩ := exists_tile b s
  rw [← emb16 t 0 p r l]
  exact ⟨t, flush0_16 t, ((cfg0.win 16).blk t).view.emb_mem_set _⟩

theorem cover17 (i : S4x4096x512.Idx) : ∃ t : Fin cfg0.N, (cfg0.win 17).flush t = true ∧ i ∈ ((cfg0.win 17).blk t).view.set := by
  obtain ⟨b, s, l, rfl⟩ : ∃ (b : Fin 4) (s : Fin 4096) (l : Fin 512), i = ix3 b s l := ⟨i 0, i 1, i 2, eq_ix3 i⟩
  obtain ⟨t, r, rfl, rfl⟩ := exists_tile b s
  rw [← emb17 t 0 r l]
  exact ⟨t, flush0_17 t, ((cfg0.win 17).blk t).view.emb_mem_set _⟩

end Cert.Proof.Proj

end
-- ==== Proof.ProjConv.lean ====
/-
  The projections widened by filled and rotated columns, over the extended reals: for a row of reals and a matrix whose
  rotated columns are of reals, the row against the widened matrix is the widened row of products; and the two products of a
  filled and a rotated row with the cosines and sines are the rotated entries.
-/
module

public import proofs.«01_k».proof.Proof.ProjMath

@[expose] public section

noncomputable section

namespace Cert.Proof.Proj

open Idealize.ShloMosaic Cert.Proof.Post

/-! ## Reals among the extended reals -/

/-- A real number. -/
def IsReal (x : EReal) : Prop := ∃ a : ℝ, x = (a : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type*} (s : Finset ι) (f : ι → EReal) (hf : ∀ i, IsReal (f i)) : IsReal (∑ i ∈ s, f i) :=
  Finset.sum_induction f IsReal (fun _ _ => IsReal.add) ⟨0, rfl⟩ fun i _ => hf i

/-- The constant under the root is a positive real. -/
theorem eps_real : ∃ e : ℝ, 0 < e ∧ Ideal.ofBits FTy.f32 897988541#32 = (e : EReal) := by
  simp only [Ideal.ofBits, Ideal.ieee]
  refine ⟨_, ?_, rfl⟩
  simp

theorem mul_self_nonneg' (x : EReal) : 0 ≤ x * x := by
  induction x with
  | bot => simp
  | top => simp
  | coe a => exact_mod_cast mul_self_nonneg a

/-- The normalised row is of reals when the gains are: where an entry is infinite the root's reciprocal is zero. -/
theorem nrm_real {n : ℕ} (N : ℝ) (hN : 0 < N) (f g : Fin n → EReal) (hg : ∀ i, IsReal (g i)) (i : Fin n) : IsReal (nrm (N : EReal) f g i) := by
  obtain ⟨e, he, heq⟩ := eps_real
  unfold nrm
  rw [heq, Ideal.div_coe hN.ne']
  by_cases hf : ∀ i, IsReal (f i)
  · obtain ⟨s, hs, hseq⟩ : ∃ s : ℝ, 0 ≤ s ∧ ∑ x, f x * f x = (s : EReal) :=
      Finset.sum_induction (fun x => f x * f x) (fun x => ∃ s : ℝ, 0 ≤ s ∧ x = (s : EReal))
        (fun _ _ ⟨a, ha, h⟩ ⟨b, hb, h'⟩ => ⟨a + b, add_nonneg ha hb, by rw [h, h', EReal.coe_add]⟩) ⟨0, le_rfl, rfl⟩
        fun x _ => by
          obtain ⟨a, ha⟩ := hf x
          exact ⟨a * a, mul_self_nonneg a, by rw [ha, EReal.coe_mul]⟩
    have hp : 0 < s * (1 / N) + e := by positivity
    refine ((hf i).mul ?_).mul (hg i)
    rw [hseq, ← EReal.coe_mul, ← EReal.coe_add, Ideal.rsqrt_coe, if_neg hp.le.not_gt, if_neg hp.ne']
    exact ⟨_, rfl⟩
  · obtain ⟨k, hk⟩ := not_forall.mp hf
    have hs : ∑ x, f x * f x = ⊤ := by
      refine top_le_iff.mp (le_trans (le_of_eq ?_) (Finset.single_le_sum (fun x _ => mul_self_nonneg' (f x)) (Finset.mem_univ k)))
      generalize f k = y at hk
      induction y with
      | bot => simp
      | top => simp
      | coe a => exact absurd ⟨a, rfl⟩ hk
    rw [hs, EReal.top_mul_coe_of_pos (by positivity), EReal.top_add_coe, Ideal.rsqrt_top, mul_zero, zero_mul]
    exact ⟨0, rfl⟩

theorem ofBits_1024 : Ideal.ofBits FTy.f32 1149239296#32 = ((1024 : ℝ) : EReal) := by
  simp [Ideal.ofBits, Ideal.ieee, -EReal.coe_mul]; norm_num

theorem ofBits_256 : Ideal.ofBits FTy.f32 1132462080#32 = ((256 : ℝ) : EReal) := by
  simp [Ideal.ofBits, Ideal.ieee, -EReal.coe_mul]; norm_num

/-- For real gains, scales and shifts the first norm's row is real, whatever the input is. -/
theorem rowH_real (xr g scale shift : Fin 1024 → EReal) (hg : ∀ i, IsReal (g i)) (hs : ∀ i, IsReal (scale i))
    (ht : ∀ i, IsReal (shift i)) (c : Fin 1024) : IsReal (rowH xr g scale shift c) := by
  unfold rowH
  rw [ofBits_1024]
  exact ((nrm_real 1024 (by norm_num) xr g hg c).mul (IsReal.add ⟨1, rfl⟩ (hs c))).add (ht c)

/-! ## The widened projections -/

/-- The sign comes out of a sum of reals. -/
theorem sum_neg {n : ℕ} (h w : Fin n → EReal) (hh : ∀ d, IsReal (h d)) (hw : ∀ d, IsReal (w d)) :
    ∑ d, h d * -w d = -∑ d, h d * w d := by
  choose a ha using hh
  choose b hb using hw
  have key : ∀ s : Finset (Fin n), ∑ d ∈ s, h d * -w d = -∑ d ∈ s, h d * w d ∧ IsReal (∑ d ∈ s, h d * w d) := fun s => by
    classical
    induction s using Finset.induction_on with
    | empty => exact ⟨by simp, ⟨0, by simp⟩⟩
    | insert d s hd ih =>
      obtain ⟨e, r, hr⟩ := ih
      rw [Finset.sum_insert hd, Finset.sum_insert hd, e, hr, ha d, hb d]
      refine ⟨?_, ⟨a d * b d + r, by push_cast; rfl⟩⟩
      norm_cast
      ring
  exact (key Finset.univ).1

/-- A row against the filled columns is the filled row of products; nothing needs to be finite. -/
theorem proj_padded {n : ℕ} (h : Fin n → EReal) (x : Fin n → Fin 64 → EReal) (l : Fin 128) :
    ∑ d, h d * padded (x d) l = padded (fun j => ∑ d, h d * x d j) l := by
  unfold padded
  by_cases c : l.val < 64
  · simp only [dif_pos c]
  · simp only [dif_neg c, mul_zero, Finset.sum_const_zero]

/-- A real row against the rotated columns, real too, is the rotated row of products. -/
theorem proj_turned {n : ℕ} (h : Fin n → EReal) (x : Fin n → Fin 64 → EReal) (hh : ∀ d, IsReal (h d)) (hx : ∀ d j, IsReal (x d j))
    (l : Fin 128) : ∑ d, h d * turned (x d) l = turned (fun j => ∑ d, h d * x d j) l := by
  unfold turned
  by_cases c : l.val < 64
  · by_cases c' : l.val < 32
    · simp only [dif_pos c, dif_pos c']
      exact sum_neg h _ hh fun d => hx d _
    · simp only [dif_pos c, dif_neg c']
  · simp only [dif_neg c, mul_zero, Finset.sum_const_zero]

/-- The row against the widened input projection. -/
theorem proj_wideIn {n : ℕ} (h : Fin n → EReal) (w : Fin n → Fin 1472 → EReal) (hh : ∀ d, IsReal (h d))
    (hw : ∀ d (j : Fin 64), IsReal (w d ⟨384 + j.val, by omega⟩)) (e : Fin 1664) : proj h (fun d e => wideIn (w d) e) e = wideIn (proj h w) e := by
  unfold proj wideIn
  by_cases h1 : e.val < 384
  · simp only [dif_pos h1]
  by_cases h2 : e.val - 384 < 128
  · simp only [dif_neg h1, dif_pos h2]
    exact proj_padded h _ _
  by_cases h3 : e.val - 384 - 128 < 128
  · simp only [dif_neg h1, dif_neg h2, dif_pos h3]
    exact proj_turned h _ hh hw _
  · simp only [dif_neg h1, dif_neg h2, dif_neg h3]

/-- The first 384 entries of the widened row are the plain ones. -/
theorem wideIn_plain (z : Fin 1472 → EReal) (e : ℕ) (h : e < 384) : wideIn z ⟨e, by omega⟩ = z ⟨e, by omega⟩ := by
  rw [wideIn, dif_pos h]

/-- The next 128 are the turning key, with zeros behind. -/
theorem wideIn_key (z : Fin 1472 → EReal) (l : Fin 128) :
    wideIn z ⟨384 + l.val, by omega⟩ = padded (fun j => z ⟨384 + j.val, by omega⟩) l := by
  unfold wideIn
  rw [dif_neg (by simp), dif_pos (by simp)]
  exact congrArg (padded _) (Fin.ext (by simp))

/-- The next 128 are the same, rotated. -/
theorem wideIn_turned (z : Fin 1472 → EReal) (l : Fin 128) :
    wideIn z ⟨512 + l.val, by omega⟩ = turned (fun j => z ⟨384 + j.val, by omega⟩) l := by
  unfold wideIn
  rw [dif_neg (by dsimp only; omega), dif_neg (by dsimp only; omega), dif_pos (by dsimp only; omega)]
  exact congrArg (turned _) (Fin.ext (by dsimp only; omega))

/-- The rest are the gate's 1024. -/
theorem wideIn_gate (z : Fin 1472 → EReal) (o : ℕ) (h : o < 1024) : wideIn z ⟨640 + o, by omega⟩ = z ⟨448 + o, by omega⟩ := by
  unfold wideIn
  rw [dif_neg (by dsimp only; omega), dif_neg (by dsimp only; omega), dif_neg (by dsimp only; omega)]
  exact congrArg z (Fin.ext (by dsimp only; omega))

section Queries

variable {n : ℕ} (h : Fin n → EReal) (w : Fin n → Fin 768 → EReal)

/-- The widened query matrix's row `d`. -/
def wideQ (d : Fin n) (e : Fin 1536) : EReal :=
  wide (fun k => w d ⟨k.val / 128 * 192 + k.val % 128, by omega⟩) (fun p => padded fun j => w d ⟨p.val * 192 + (128 + j.val), by omega⟩)
    (fun p => turned fun j => w d ⟨p.val * 192 + (128 + j.val), by omega⟩) e

/-- The row against its plain columns, -/
theorem proj_wideQ_plain (p : Fin 4) (l : ℕ) (hl : l < 128) :
    proj h (wideQ w) ⟨p.val * 128 + l, by omega⟩ = proj h w ⟨p.val * 192 + l, by omega⟩ := by
  unfold proj wideQ
  refine Finset.sum_congr rfl fun d _ => congrArg (h d * ·) ?_
  rw [wide_eq, dif_pos (by dsimp only; omega)]
  exact congrArg (w d) (Fin.ext (by dsimp only; omega))

/-- the filled ones, -/
theorem proj_wideQ_key (p : Fin 4) (l : Fin 128) :
    proj h (wideQ w) ⟨512 + p.val * 128 + l.val, by omega⟩ = padded (fun j => proj h w ⟨p.val * 192 + (128 + j.val), by omega⟩) l := by
  unfold proj wideQ
  rw [← proj_padded h (fun d j => w d ⟨p.val * 192 + (128 + j.val), by omega⟩)]
  refine Finset.sum_congr rfl fun d _ => congrArg (h d * ·) ?_
  rw [wide_eq, dif_neg (by dsimp only; omega), dif_pos (by dsimp only; omega)]
  exact congrArg₂ (fun (q : Fin 4) l => padded (fun j => w d ⟨q.val * 192 + (128 + j.val), by omega⟩) l) (Fin.ext (by dsimp only; omega))
    (Fin.ext (by dsimp only; omega))

/-- and the rotated ones. -/
theorem proj_wideQ_turned (p : Fin 4) (hh : ∀ d, IsReal (h d))
    (hw : ∀ d (j : Fin 64), IsReal (w d ⟨p.val * 192 + (128 + j.val), by omega⟩)) (l : Fin 128) :
    proj h (wideQ w) ⟨1024 + p.val * 128 + l.val, by omega⟩ = turned (fun j => proj h w ⟨p.val * 192 + (128 + j.val), by omega⟩) l := by
  unfold proj wideQ
  rw [← proj_turned h (fun d j => w d ⟨p.val * 192 + (128 + j.val), by omega⟩) hh hw]
  refine Finset.sum_congr rfl fun d _ => congrArg (h d * ·) ?_
  rw [wide_eq, dif_neg (by dsimp only; omega), dif_neg (by dsimp only; omega)]
  exact congrArg₂ (fun (q : Fin 4) l => turned (fun j => w d ⟨q.val * 192 + (128 + j.val), by omega⟩) l) (Fin.ext (by dsimp only; omega))
    (Fin.ext (by dsimp only; omega))

end Queries

/-! ## The rotation -/

/-- The filled row times the cosines plus the rotated row times the sines is the rotation, filled. -/
theorem rope_lanes (x : Fin 64 → EReal) (cs sn : Fin 32 → EReal) (C S : Fin 128 → EReal)
    (hC : ∀ l : Fin 128, l.val < 64 → C l = cs ⟨l.val % 32, by omega⟩) (hS : ∀ l : Fin 128, l.val < 64 → S l = sn ⟨l.val % 32, by omega⟩)
    (l : Fin 128) : padded x l * C l + turned x l * S l = if h : l.val < 64 then rope x cs sn ⟨l.val, h⟩ else 0 := by
  unfold padded turned rope
  by_cases c : l.val < 64
  · rw [dif_pos c, dif_pos c, dif_pos c, hC l c, hS l c]
    by_cases c' : l.val < 32
    · rw [dif_pos c', dif_pos c', EReal.neg_mul, ← sub_eq_add_neg]
      have e : (⟨l.val % 32, by omega⟩ : Fin 32) = ⟨l.val, c'⟩ := Fin.ext (by dsimp only; omega)
      rw [e]
    · rw [dif_neg c', dif_neg c']
      have e : (⟨l.val % 32, by omega⟩ : Fin 32) = ⟨l.val - 32, by omega⟩ := Fin.ext (by dsimp only; omega)
      have e' : (⟨32 + (l.val - 32), by omega⟩ : Fin 64) = ⟨l.val, c⟩ := Fin.ext (by dsimp only; omega)
      rw [e, e']
  · rw [dif_neg c, dif_neg c, dif_neg c, zero_mul, zero_mul, add_zero]

end Cert.Proof.Proj

end
-- ==== Proof.ProjRef.lean ====
/-
  The reference of the call that projects the tokens, one element at a time: its queries, keys, values and gated rows are
  the row functions of its arguments.
-/
module

public import proofs.«01_k».proof.Proof.Gen.Reference4Ideal.Run
public import proofs.«01_k».proof.Proof.ProjMath

@[expose] public section

set_option maxRecDepth 16384

noncomputable section

namespace Cert.Proof.ProjRef

open Cert.Reference4Ideal Cert.Reference4Ideal.Gen Facts
open Idealize.ShloMosaic Cert.Proof.Post Cert.Proof.Proj

/-- The tokens after the first norm, scaled and shifted. -/
def hArr (x : FVec Ideal S4x4096x1024 .f32) (md : FVec Ideal S4x6144 .f32) (g : FVec Ideal S1024 .f32) : FVec Ideal S4x4096x1024 .f32 :=
  addf (mulf (mulf (mulf x (broadcastInDim S4x4096x1024 ![0, 1, 2] bcast_S4x4096x1_S4x4096x1024_0_1_2 (Host.rsqrt (addf (Host.divf
    (broadcastInDim S4x4096x1 ![0, 1] bcast_S4x4096_S4x4096x1_0_1
      (Host.reduceAdd (mulf x x) (constant S_ .f32 0x00000000#32) reducesTo_S4x4096x1024_S4x4096_d2 h_S_))
    (broadcastInDim S4x4096x1 ![] bcast_S_S4x4096x1 (constant S_ .f32 0x44800000#32)))
    (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 g)))
    (broadcastInDim S4x4096x1024 ![0, 1, 2] bcast_S4x1x1024_S4x4096x1024_0_1_2
      (addf (broadcastInDim S4x1x1024 ![] bcast_S_S4x1x1024 (constant S_ .f32 0x3F800000#32))
        (broadcastInDim S4x1x1024 ![0, 2] bcast_S4x1024_S4x1x1024_0_2
          (extractStridedSlice S4x1024 ![0, 1024] md slices_S4x6144_S4x1024_0_1024)))))
    (broadcastInDim S4x4096x1024 ![0, 1, 2] bcast_S4x1x1024_S4x4096x1024_0_1_2
      (broadcastInDim S4x1x1024 ![0, 2] bcast_S4x1024_S4x1x1024_0_2
        (extractStridedSlice S4x1024 ![0, 0] md slices_S4x6144_S4x1024_0_0)))

/-- Their projection. -/
def zArr (h : FVec Ideal S4x4096x1024 .f32) (w : FVec Ideal S1024x1472 .f32) : FVec Ideal S4x4096x1472 .f32 :=
  Host.dotGeneral dot_S4x4096x1024_S1024x1472_S4x4096x1472_2_0_01_1_n_n none h w

/-- The queries, from the first 256 columns `a`, -/
def qArr (a : FVec Ideal S4x4096x256 .f32) (g : FVec Ideal S256 .f32) (w : FVec Ideal S256x768 .f32) : FVec Ideal S4x4096x4x192 .f32 :=
  shapeCast _ (Host.dotGeneral dot_S4x4096x256_S256x768_S4x4096x768_2_0_01_1_n_n none
    (mulf (mulf a (broadcastInDim S4x4096x256 ![0, 1, 2] bcast_S4x4096x1_S4x4096x256_0_1_2 (Host.rsqrt (addf (Host.divf
      (broadcastInDim S4x4096x1 ![0, 1] bcast_S4x4096_S4x4096x1_0_1
        (Host.reduceAdd (mulf a a) (constant S_ .f32 0x00000000#32) reducesTo_S4x4096x256_S4x4096_d2 h_S_))
      (broadcastInDim S4x4096x1 ![] bcast_S_S4x4096x1 (constant S_ .f32 0x43800000#32)))
      (broadcastInDim S4x4096x1 ![] bcast_S_S4x4096x1 (constant S_ .f32 0x358637BD#32))))))
      (broadcastInDim S4x4096x256 ![0, 1, 2] bcast_S1x1x256_S4x4096x256_0_1_2 (broadcastInDim S1x1x256 ![2] bcast_S256_S1x1x256_2 g))) w)
    shapeCasts_S4x4096x768_S4x4096x4x192

/-- the keys and values, from the next 128, -/
def kvArr (a : FVec Ideal S4x4096x128 .f32) (g : FVec Ideal S128 .f32) (w : FVec Ideal S128x1024 .f32) : FVec Ideal S4x4096x4x256 .f32 :=
  shapeCast _ (Host.dotGeneral dot_S4x4096x128_S128x1024_S4x4096x1024_2_0_01_1_n_n none
    (mulf (mulf a (broadcastInDim S4x4096x128 ![0, 1, 2] bcast_S4x4096x1_S4x4096x128_0_1_2 (Host.rsqrt (addf (Host.divf
      (broadcastInDim S4x4096x1 ![0, 1] bcast_S4x4096_S4x4096x1_0_1
        (Host.reduceAdd (mulf a a) (constant S_ .f32 0x00000000#32) reducesTo_S4x4096x128_S4x4096_d2 h_S_))
      (broadcastInDim S4x4096x1 ![] bcast_S_S4x4096x1 (constant S_ .f32 0x43000000#32)))
      (broadcastInDim S4x4096x1 ![] bcast_S_S4x4096x1 (constant S_ .f32 0x358637BD#32))))))
      (broadcastInDim S4x4096x128 ![0, 1, 2] bcast_S1x1x128_S4x4096x128_0_1_2 (broadcastInDim S1x1x128 ![2] bcast_S128_S1x1x128_2 g))) w)
    shapeCasts_S4x4096x1024_S4x4096x4x256

/-- the activation, -/
def gelArr (a : FVec Ideal S4x4096x512 .f32) : FVec Ideal S4x4096x512 .f32 :=
  mulf (mulf (broadcastInDim S4x4096x512 ![] bcast_S_S4x4096x512 (constant S_ .f32 0x3F000000#32)) a)
    (addf (broadcastInDim S4x4096x512 ![] bcast_S_S4x4096x512 (constant S_ .f32 0x3F800000#32))
      (Host.erf (mulf a (broadcastInDim S4x4096x512 ![] bcast_S_S4x4096x512 (constant S_ .f32 0x3F3504F3#32)))))

/-- a row of 512 over its root mean square, times the gains, -/
def nArr (a : FVec Ideal S4x4096x512 .f32) (g : FVec Ideal S512 .f32) : FVec Ideal S4x4096x512 .f32 :=
  mulf (mulf a (broadcastInDim S4x4096x512 ![0, 1, 2] bcast_S4x4096x1_S4x4096x512_0_1_2 (Host.rsqrt (addf (Host.divf
    (broadcastInDim S4x4096x1 ![0, 1] bcast_S4x4096_S4x4096x1_0_1
      (Host.reduceAdd (mulf a a) (constant S_ .f32 0x00000000#32) reducesTo_S4x4096x512_S4x4096_d2 h_S_))
    (broadcastInDim S4x4096x1 ![] bcast_S_S4x4096x1 (constant S_ .f32 0x44000000#32)))
    (broadcastInDim S4x4096x1 ![] bcast_S_S4x4096x1 (constant S_ .f32 0x358637BD#32))))))
    (broadcastInDim S4x4096x512 ![0, 1, 2] bcast_S1x1x512_S4x4096x512_0_1_2 (broadcastInDim S1x1x512 ![2] bcast_S512_S1x1x512_2 g))

/-- and the mix over runs of 128 tokens. -/
def mixArr (u v : FVec Ideal S4x4096x512 .f32) (w : FVec Ideal S4x128x128 .f32) (b : FVec Ideal S4x128 .f32) : FVec Ideal S4x4096x512 .f32 :=
  shapeCast _ (mulf (shapeCast _ u shapeCasts_S4x4096x512_S4x32x128x4x128 : FVec Ideal S4x32x128x4x128 .f32)
    (addf (transpose S4x32x128x4x128 [1, 2, 4, 0, 3] (Host.dotGeneral dot_S4x32x128x4x128_S4x128x128_S4x4x32x128x128_2_2_014_1_3_0 none
        (shapeCast _ v shapeCasts_S4x4096x512_S4x32x128x4x128 : FVec Ideal S4x32x128x4x128 .f32) w) transposes_S4x4x32x128x128_S4x32x128x4x128_1_2_4_0_3)
      (broadcastInDim S4x32x128x4x128 ![0, 1, 2, 3, 4] bcast_S1x1x128x4x1_S4x32x128x4x128_0_1_2_3_4
        (broadcastInDim S1x1x128x4x1 ![2, 3] bcast_S128x4_S1x1x128x4x1_2_3 (transpose S128x4 [1, 0] b transposes_S4x128_S128x4_1_0)))))
    shapeCasts_S4x32x128x4x128_S4x4096x512

/-- The angles. -/
def aArr (p : IVec S4x4096 32) : FVec Ideal S4x4096x32 .f32 :=
  mulf (broadcastInDim S4x4096x32 ![0, 1, 2] bcast_S4x4096x1_S4x4096x32_0_1_2
      (broadcastInDim S4x4096x1 ![0, 1] bcast_S4x4096_S4x4096x1_0_1 (sitofp .f32 p)))
    (broadcastInDim S4x4096x32 ![0, 1, 2] bcast_S1x1x32_S4x4096x32_0_1_2 (broadcastInDim S1x1x32 ![2] bcast_S32_S1x1x32_2
      (Host.divf (broadcastInDim S32 ![] bcast_S_S32 (constant S_ .f32 0x3F800000#32))
        (Host.powf (broadcastInDim S32 ![] bcast_S_S32 (constant S_ .f32 0x461C4000#32))
          (Host.divf (addf (broadcastInDim S32 ![] bcast_S_S32 (constant S_ .f32 0x00000000#32))
              (mulf (broadcastInDim S32 ![] bcast_S_S32 (constant S_ .f32 0x40000000#32)) (sitofp .f32 (iotaInDim S32 32 0))))
            (broadcastInDim S32 ![] bcast_S_S32 (constant S_ .f32 0x42800000#32)))))))

/-- The results: the queries, -/
def out0 (q : FVec Ideal S4x4096x4x192 .f32) (cs sn : FVec Ideal S4x4096x32 .f32) : FVec Ideal S4x4x4096x256 .bf16 :=
  truncf .bf16 (transpose S4x4x4096x256 [0, 2, 1, 3] (pad S4x4096x4x256 ![0, 0, 0, 0] ![0, 0, 0, 64] ![0, 0, 0, 0]
    (mulf (concatenate S4x4096x4x192 3 [⟨S4x4096x4x128, extractStridedSlice S4x4096x4x128 ![0, 0, 0, 0] q slices_S4x4096x4x192_S4x4096x4x128_0_0_0_0⟩,
        ⟨S4x4096x4x64, concatenate S4x4096x4x64 3
          [⟨S4x4096x4x32, subf
            (mulf (extractStridedSlice S4x4096x4x32 ![0, 0, 0, 0] (extractStridedSlice S4x4096x4x64 ![0, 0, 0, 128] q slices_S4x4096x4x192_S4x4096x4x64_0_0_0_128) slices_S4x4096x4x64_S4x4096x4x32_0_0_0_0)
              (broadcastInDim S4x4096x4x32 ![0, 1, 2, 3] bcast_S4x4096x1x32_S4x4096x4x32_0_1_2_3 (broadcastInDim S4x4096x1x32 ![0, 1, 3] bcast_S4x4096x32_S4x4096x1x32_0_1_3 cs)))
            (mulf (extractStridedSlice S4x4096x4x32 ![0, 0, 0, 32] (extractStridedSlice S4x4096x4x64 ![0, 0, 0, 128] q slices_S4x4096x4x192_S4x4096x4x64_0_0_0_128) slices_S4x4096x4x64_S4x4096x4x32_0_0_0_32)
              (broadcastInDim S4x4096x4x32 ![0, 1, 2, 3] bcast_S4x4096x1x32_S4x4096x4x32_0_1_2_3 (broadcastInDim S4x4096x1x32 ![0, 1, 3] bcast_S4x4096x32_S4x4096x1x32_0_1_3 sn)))⟩,
          ⟨S4x4096x4x32, addf
            (mulf (extractStridedSlice S4x4096x4x32 ![0, 0, 0, 32] (extractStridedSlice S4x4096x4x64 ![0, 0, 0, 128] q slices_S4x4096x4x192_S4x4096x4x64_0_0_0_128) slices_S4x4096x4x64_S4x4096x4x32_0_0_0_32)
              (broadcastInDim S4x4096x4x32 ![0, 1, 2, 3] bcast_S4x4096x1x32_S4x4096x4x32_0_1_2_3 (broadcastInDim S4x4096x1x32 ![0, 1, 3] bcast_S4x4096x32_S4x4096x1x32_0_1_3 cs)))
            (mulf (extractStridedSlice S4x4096x4x32 ![0, 0, 0, 0] (extractStridedSlice S4x4096x4x64 ![0, 0, 0, 128] q slices_S4x4096x4x192_S4x4096x4x64_0_0_0_128) slices_S4x4096x4x64_S4x4096x4x32_0_0_0_0)
              (broadcastInDim S4x4096x4x32 ![0, 1, 2, 3] bcast_S4x4096x1x32_S4x4096x4x32_0_1_2_3 (broadcastInDim S4x4096x1x32 ![0, 1, 3] bcast_S4x4096x32_S4x4096x1x32_0_1_3 sn)))⟩]
          concatenates_S4x4096x4x32_S4x4096x4x32_S4x4096x4x64_d3⟩] concatenates_S4x4096x4x128_S4x4096x4x64_S4x4096x4x192_d3)
      (broadcastInDim S4x4096x4x192 ![] bcast_S_S4x4096x4x192 (Host.divf (constant S_ .f32 0x3F800000#32)
        (mulf (Host.sqrt (constant S_ .f32 0x43400000#32)) (Host.log (constant S_ .f32 0x40000000#32))))))
    (sitofp .f32 (constantI S_ 32 0#32)) pads_S4x4096x4x192_S4x4096x4x256_000_000_000_0640 h_S_) transposes_S4x4096x4x256_S4x4x4096x256_0_2_1_3) bitsLt_bf16_f32

/-- the keys, from the 64 columns `r` that turn, -/
def out1 (kv : FVec Ideal S4x4096x4x256 .f32) (r : FVec Ideal S4x4096x64 .f32) (cs sn : FVec Ideal S4x4096x32 .f32) : FVec Ideal S4x4x4096x256 .bf16 :=
  truncf .bf16 (transpose S4x4x4096x256 [0, 2, 1, 3] (pad S4x4096x4x256 ![0, 0, 0, 0] ![0, 0, 0, 64] ![0, 0, 0, 0]
    (concatenate S4x4096x4x192 3 [⟨S4x4096x4x128, extractStridedSlice S4x4096x4x128 ![0, 0, 0, 0] kv slices_S4x4096x4x256_S4x4096x4x128_0_0_0_0⟩,
        ⟨S4x4096x4x64, broadcastInDim S4x4096x4x64 ![0, 1, 2, 3] bcast_S4x4096x1x64_S4x4096x4x64_0_1_2_3
          (broadcastInDim S4x4096x1x64 ![0, 1, 3] bcast_S4x4096x64_S4x4096x1x64_0_1_3
            (concatenate S4x4096x64 2
              [⟨S4x4096x32, subf (mulf (extractStridedSlice S4x4096x32 ![0, 0, 0] r slices_S4x4096x64_S4x4096x32_0_0_0) cs)
                (mulf (extractStridedSlice S4x4096x32 ![0, 0, 32] r slices_S4x4096x64_S4x4096x32_0_0_32) sn)⟩,
              ⟨S4x4096x32, addf (mulf (extractStridedSlice S4x4096x32 ![0, 0, 32] r slices_S4x4096x64_S4x4096x32_0_0_32) cs)
                (mulf (extractStridedSlice S4x4096x32 ![0, 0, 0] r slices_S4x4096x64_S4x4096x32_0_0_0) sn)⟩]
              concatenates_S4x4096x32_S4x4096x32_S4x4096x64_d2))⟩] concatenates_S4x4096x4x128_S4x4096x4x64_S4x4096x4x192_d3)
    (sitofp .f32 (constantI S_ 32 0#32)) pads_S4x4096x4x192_S4x4096x4x256_000_000_000_0640 h_S_) transposes_S4x4096x4x256_S4x4x4096x256_0_2_1_3) bitsLt_bf16_f32

/-- and the values. -/
def out2 (kv : FVec Ideal S4x4096x4x256 .f32) : FVec Ideal S4x4x4096x128 .bf16 :=
  truncf .bf16 (transpose S4x4x4096x128 [0, 2, 1, 3]
    (extractStridedSlice S4x4096x4x128 ![0, 0, 0, 128] kv slices_S4x4096x4x256_S4x4096x4x128_0_0_0_128) transposes_S4x4096x4x128_S4x4x4096x128_0_2_1_3) bitsLt_bf16_f32

theorem hArr_apply (x : FVec Ideal S4x4096x1024 .f32) (md : FVec Ideal S4x6144 .f32) (g : FVec Ideal S1024 .f32)
    (b : Fin 4) (i : Fin 4096) (c : Fin 1024) : hArr x md g (ix3 b i c)
    = rowH (fun c => x (ix3 b i c)) (fun c => g (ix1 c)) (fun c => md (ix2 b ⟨1024 + c.val, by omega⟩))
      (fun c => md (ix2 b ⟨c.val, by omega⟩)) c := by
  pointwise [hArr]
  rfl

theorem zArr_apply (h : FVec Ideal S4x4096x1024 .f32) (w : FVec Ideal S1024x1472 .f32) (b : Fin 4) (i : Fin 4096) (e : Fin 1472) :
    zArr h w (ix3 b i e) = proj (fun d => h (ix3 b i d)) (fun d e => w (ix2 d e)) e := by
  pointwise [zArr]
  rfl

theorem qArr_apply (a : FVec Ideal S4x4096x256 .f32) (g : FVec Ideal S256 .f32) (w : FVec Ideal S256x768 .f32)
    (b : Fin 4) (i : Fin 4096) (p : Fin 4) (l : Fin 192) : qArr a g w (ix4 b i p l)
    = proj (nrm (Ideal.ofBits FTy.f32 1132462080#32) (fun k => a (ix3 b i k)) (fun k => g (ix1 k))) (fun d e => w (ix2 d e))
      ⟨p.val * 192 + l.val, by omega⟩ := by
  pointwise [qArr]
  rfl

theorem kvArr_apply (a : FVec Ideal S4x4096x128 .f32) (g : FVec Ideal S128 .f32) (w : FVec Ideal S128x1024 .f32)
    (b : Fin 4) (i : Fin 4096) (p : Fin 4) (l : Fin 256) : kvArr a g w (ix4 b i p l)
    = proj (nrm (Ideal.ofBits FTy.f32 1124073472#32) (fun k => a (ix3 b i k)) (fun k => g (ix1 k))) (fun d e => w (ix2 d e))
      ⟨p.val * 256 + l.val, by omega⟩ := by
  pointwise [kvArr]
  rfl

theorem gelArr_apply (a : FVec Ideal S4x4096x512 .f32) (b : Fin 4) (i : Fin 4096) (c : Fin 512) :
    gelArr a (ix3 b i c) = gel (a (ix3 b i c)) := by
  pointwise [gelArr]
  rfl

theorem nArr_apply (a : FVec Ideal S4x4096x512 .f32) (g : FVec Ideal S512 .f32) (b : Fin 4) (i : Fin 4096) (c : Fin 512) :
    nArr a g (ix3 b i c) = nrm (Ideal.ofBits FTy.f32 1140850688#32) (fun k => a (ix3 b i k)) (fun k => g (ix1 k)) c := by
  pointwise [nArr]
  rfl

theorem fill_eq : FloatOps.sitofp (F := Ideal) FTy.f32 (0#32) = (0 : EReal) := by
  show (((0#32).toInt : ℝ) : EReal) = 0
  simp

/-- The scale is one over the root of 192 times the logarithm of 2. -/
theorem scale_eq : Ideal.div 1 (Ideal.sqrt (Ideal.ofBits FTy.f32 1128267776#32) * Ideal.log (Ideal.ofBits FTy.f32 1073741824#32))
    = (((Real.sqrt 192 * Real.log 2)⁻¹ : ℝ) : EReal) := by
  have h : Ideal.ofBits FTy.f32 1128267776#32 = ((192 : ℝ) : EReal) := by
    simp [Ideal.ofBits, Ideal.ieee]; rw [← EReal.coe_mul]; norm_num
  have h2 : Ideal.ofBits FTy.f32 1073741824#32 = ((2 : ℝ) : EReal) := by
    simp [Ideal.ofBits, Ideal.ieee]; rw [← EReal.coe_mul]; norm_num
  rw [h, h2, Ideal.sqrt_coe, if_neg (by norm_num), Ideal.log_coe, if_neg (by norm_num), ← EReal.coe_mul,
    Ideal.div_coe (mul_pos (Real.sqrt_pos.mpr (by norm_num)) (Real.log_pos one_lt_two)).ne', one_mul, one_div]

theorem mixArr_apply (u v : FVec Ideal S4x4096x512 .f32) (w : FVec Ideal S4x128x128 .f32) (β : FVec Ideal S4x128 .f32)
    (b : Fin 4) (i : Fin 4096) (c : Fin 512) : mixArr u v w β (ix3 b i c)
    = mix (u (ix3 b i c)) (fun j => w (ix3 ⟨c.val / 128, by omega⟩ ⟨i.val % 128, by omega⟩ j))
      (fun j => v (ix3 b ⟨i.val / 128 * 128 + j.val, by omega⟩ c)) (β (ix2 ⟨c.val / 128, by omega⟩ ⟨i.val % 128, by omega⟩)) := by
  pointwise [mixArr]
  rw [mix]
  refine congrArg (fun v : EReal => u (ix3 b i c) * (v + _)) (Finset.sum_congr rfl fun j _ => mul_comm _ _)

theorem aArr_apply (p : IVec S4x4096 32) (b : Fin 4) (i : Fin 4096) (j : Fin 32) :
    aArr p (ix3 b i j) = FloatOps.sitofp (F := Ideal) FTy.f32 (p (ix2 b i)) * frq j := by
  pointwise [aArr]
  rfl

theorem out0_apply (q : FVec Ideal S4x4096x4x192 .f32) (cs sn : FVec Ideal S4x4096x32 .f32) (b p : Fin 4) (i : Fin 4096) (l : Fin 256) :
    out0 q cs sn (ix4 b p i l) = qAt (fun j => q (ix4 b i p j)) (fun j => cs (ix3 b i j)) (fun j => sn (ix3 b i j))
      (((Real.sqrt 192 * Real.log 2)⁻¹ : ℝ) : EReal) l := by
  pointwise [out0]
  simp only [scale_eq, fill_eq]
  rfl

theorem out1_apply (kv : FVec Ideal S4x4096x4x256 .f32) (r : FVec Ideal S4x4096x64 .f32) (cs sn : FVec Ideal S4x4096x32 .f32)
    (b p : Fin 4) (i : Fin 4096) (l : Fin 256) :
    out1 kv r cs sn (ix4 b p i l) = kAt (fun j => kv (ix4 b i p ⟨j.val, by omega⟩)) (fun j => r (ix3 b i j)) (fun j => cs (ix3 b i j))
      (fun j => sn (ix3 b i j)) l := by
  pointwise [out1]
  simp only [fill_eq]
  rfl

theorem out2_apply (kv : FVec Ideal S4x4096x4x256 .f32) (b p : Fin 4) (i : Fin 4096) (l : Fin 128) :
    out2 kv (ix4 b p i l) = kv (ix4 b i p ⟨128 + l.val, by omega⟩) := by
  pointwise [out2]

/-! ## The results, from the projected rows `z` -/

def res0 (z : FVec Ideal S4x4096x1472 .f32) (p : IVec S4x4096 32) (g : FVec Ideal S256 .f32) (w : FVec Ideal S256x768 .f32) :
    FVec Ideal S4x4x4096x256 .bf16 := out0 (qArr (extractStridedSlice S4x4096x256 ![0, 0, 0] z slices_S4x4096x1472_S4x4096x256_0_0_0) g w) (Host.cos (aArr p)) (Host.sin (aArr p))

def res1 (z : FVec Ideal S4x4096x1472 .f32) (p : IVec S4x4096 32) (g : FVec Ideal S128 .f32) (w : FVec Ideal S128x1024 .f32) :
    FVec Ideal S4x4x4096x256 .bf16 := out1 (kvArr (extractStridedSlice S4x4096x128 ![0, 0, 256] z slices_S4x4096x1472_S4x4096x128_0_0_256) g w) (extractStridedSlice S4x4096x64 ![0, 0, 384] z slices_S4x4096x1472_S4x4096x64_0_0_384) (Host.cos (aArr p)) (Host.sin (aArr p))

def res2 (z : FVec Ideal S4x4096x1472 .f32) (g : FVec Ideal S128 .f32) (w : FVec Ideal S128x1024 .f32) :
    FVec Ideal S4x4x4096x128 .bf16 := out2 (kvArr (extractStridedSlice S4x4096x128 ![0, 0, 256] z slices_S4x4096x1472_S4x4096x128_0_0_256) g w)

def res3 (z : FVec Ideal S4x4096x1472 .f32) (gs : FVec Ideal S512 .f32) (ws : FVec Ideal S4x128x128 .f32) (bs : FVec Ideal S4x128 .f32)
    (go : FVec Ideal S512 .f32) : FVec Ideal S4x4096x512 .bf16 :=
  truncf .bf16 (nArr (mixArr (gelArr (extractStridedSlice S4x4096x512 ![0, 0, 448] z slices_S4x4096x1472_S4x4096x512_0_0_448)) (nArr (gelArr (extractStridedSlice S4x4096x512 ![0, 0, 960] z slices_S4x4096x1472_S4x4096x512_0_0_960)) gs) ws bs) go) bitsLt_bf16_f32

/-- A token's cosines and sines, -/
def tC (p : IVec S4x4096 32) (b : Fin 4) (i : Fin 4096) (j : Fin 32) : EReal :=
  Ideal.cos (FloatOps.sitofp (F := Ideal) FTy.f32 (p (ix2 b i)) * frq j)
def tS (p : IVec S4x4096 32) (b : Fin 4) (i : Fin 4096) (j : Fin 32) : EReal :=
  Ideal.sin (FloatOps.sitofp (F := Ideal) FTy.f32 (p (ix2 b i)) * frq j)

/-- its queries, -/
def tQ (z : FVec Ideal S4x4096x1472 .f32) (g : FVec Ideal S256 .f32) (w : FVec Ideal S256x768 .f32) (b : Fin 4) (i : Fin 4096) : Fin 768 → EReal :=
  proj (nrm (Ideal.ofBits FTy.f32 1132462080#32) (fun k : Fin 256 => z (ix3 b i ⟨k.val, by omega⟩)) (fun k => g (ix1 k))) (fun d e => w (ix2 d e))

/-- its keys and values, -/
def tKV (z : FVec Ideal S4x4096x1472 .f32) (g : FVec Ideal S128 .f32) (w : FVec Ideal S128x1024 .f32) (b : Fin 4) (i : Fin 4096) : Fin 1024 → EReal :=
  proj (nrm (Ideal.ofBits FTy.f32 1124073472#32) (fun k : Fin 128 => z (ix3 b i ⟨256 + k.val, by omega⟩)) (fun k => g (ix1 k))) (fun d e => w (ix2 d e))

/-- and its gate's second half. -/
def tV (z : FVec Ideal S4x4096x1472 .f32) (g : FVec Ideal S512 .f32) (b : Fin 4) (i : Fin 4096) : Fin 512 → EReal :=
  nrm (Ideal.ofBits FTy.f32 1140850688#32) (fun c : Fin 512 => gel (z (ix3 b i ⟨960 + c.val, by omega⟩))) (fun c => g (ix1 c))

theorem cut_apply (n o : ℕ) (hn : o + n ≤ 1472) (z : FVec Ideal S4x4096x1472 .f32) (h : S4x4096x1472.Slices ![0, 0, o] ⟨3, ![4, 4096, n]⟩)
    (b : Fin 4) (i : Fin 4096) (k : Fin n) :
    extractStridedSlice ⟨3, ![4, 4096, n]⟩ ![0, 0, o] z h (ix3 b i k) = z (ix3 b i ⟨o + k.val, by omega⟩) :=
  extractStridedSlice_apply _ _ h _ _ (fun b => by fin_cases b <;> simp [ix3])

theorem cos_apply (p : IVec S4x4096 32) (b : Fin 4) (i : Fin 4096) (j : Fin 32) : Host.cos (aArr p) (ix3 b i j) = tC p b i j :=
  congrArg Ideal.cos (aArr_apply p b i j)

theorem sin_apply (p : IVec S4x4096 32) (b : Fin 4) (i : Fin 4096) (j : Fin 32) : Host.sin (aArr p) (ix3 b i j) = tS p b i j :=
  congrArg Ideal.sin (aArr_apply p b i j)

/-- The queries at an element: the row functions of the token's projection. -/
theorem res0_apply (z : FVec Ideal S4x4096x1472 .f32) (p : IVec S4x4096 32) (g : FVec Ideal S256 .f32) (w : FVec Ideal S256x768 .f32)
    (b hd : Fin 4) (i : Fin 4096) (l : Fin 256) : res0 z p g w (ix4 b hd i l)
    = qAt (fun j => tQ z g w b i ⟨hd.val * 192 + j.val, by omega⟩) (tC p b i) (tS p b i) (((Real.sqrt 192 * Real.log 2)⁻¹ : ℝ) : EReal) l := by
  have hc (k : Fin 256) := cut_apply 256 0 (by omega) z slices_S4x4096x1472_S4x4096x256_0_0_0 b i k
  simp only [res0, out0_apply, qArr_apply, cos_apply, sin_apply, tQ, hc, Nat.zero_add]

/-- The keys at an element. -/
theorem res1_apply (z : FVec Ideal S4x4096x1472 .f32) (p : IVec S4x4096 32) (g : FVec Ideal S128 .f32) (w : FVec Ideal S128x1024 .f32)
    (b hd : Fin 4) (i : Fin 4096) (l : Fin 256) : res1 z p g w (ix4 b hd i l)
    = kAt (fun j => tKV z g w b i ⟨hd.val * 256 + j.val, by omega⟩) (fun j => z (ix3 b i ⟨384 + j.val, by omega⟩)) (tC p b i) (tS p b i) l := by
  have hc (k : Fin 128) := cut_apply 128 256 (by omega) z slices_S4x4096x1472_S4x4096x128_0_0_256 b i k
  have hk (k : Fin 64) := cut_apply 64 384 (by omega) z slices_S4x4096x1472_S4x4096x64_0_0_384 b i k
  simp only [res1, out1_apply, kvArr_apply, cos_apply, sin_apply, tKV, hc, hk]

/-- The values at an element. -/
theorem res2_apply (z : FVec Ideal S4x4096x1472 .f32) (g : FVec Ideal S128 .f32) (w : FVec Ideal S128x1024 .f32)
    (b hd : Fin 4) (i : Fin 4096) (l : Fin 128) : res2 z g w (ix4 b hd i l) = tKV z g w b i ⟨hd.val * 256 + (128 + l.val), by omega⟩ := by
  have hc (k : Fin 128) := cut_apply 128 256 (by omega) z slices_S4x4096x1472_S4x4096x128_0_0_256 b i k
  simp only [res2, out2_apply, kvArr_apply, tKV, hc]

/-- The gated rows at an element. -/
theorem res3_apply (z : FVec Ideal S4x4096x1472 .f32) (gs : FVec Ideal S512 .f32) (ws : FVec Ideal S4x128x128 .f32) (bs : FVec Ideal S4x128 .f32)
    (go : FVec Ideal S512 .f32) (b : Fin 4) (i : Fin 4096) (c : Fin 512) : res3 z gs ws bs go (ix3 b i c)
    = nrm (Ideal.ofBits FTy.f32 1140850688#32) (fun c : Fin 512 => mix (gel (z (ix3 b i ⟨448 + c.val, by omega⟩)))
        (fun j => ws (ix3 ⟨c.val / 128, by omega⟩ ⟨i.val % 128, by omega⟩ j))
        (fun j : Fin 128 => tV z gs b ⟨i.val / 128 * 128 + j.val, by omega⟩ c) (bs (ix2 ⟨c.val / 128, by omega⟩ ⟨i.val % 128, by omega⟩)))
      (fun c => go (ix1 c)) c := by
  have hu (k : Fin 512) := cut_apply 512 448 (by omega) z slices_S4x4096x1472_S4x4096x512_0_0_448 b i k
  have hv (i : Fin 4096) (k : Fin 512) := cut_apply 512 960 (by omega) z slices_S4x4096x1472_S4x4096x512_0_0_960 b i k
  refine (nArr_apply _ go b i c).trans ?_
  simp only [mixArr_apply, gelArr_apply, nArr_apply, tV, hu, hv]

end Cert.Proof.ProjRef

end
-- ==== Proof.ProjValue.lean ====
/-
  The call's four result arrays over the extended reals are the reference's, for finite shifts, scales and gains and finite
  weights of the columns that turn: a tile's rows are its tokens' rows.
-/
module

public import proofs.«01_k».proof.Proof.ProjOut
public import proofs.«01_k».proof.Proof.ProjBlocks
public import proofs.«01_k».proof.Proof.ProjConv
public import proofs.«01_k».proof.Proof.ProjRef

@[expose] public section

set_option maxRecDepth 16384

noncomputable section

namespace Cert.Proof.Proj

open Cert.Kernel4Ideal Cert.Kernel4Ideal.Gen Cert.Kernel4Ideal.Value
open Idealize.ShloMosaic Idealize.ShloMosaic.TcCoe Idealize.SL.Sem Cert.Proof.Post
open Idealize.ShloMosaic.Pipeline (Dat Window)

variable (m : (ℓ : Loc nD τ sig) → Buf (Elt Ideal) ℓ) (c : Dev nD) (t : Fin cfg0.N)

/-- The reference's projected rows. -/
def zR : FVec Ideal Cert.Reference4Ideal.S4x4096x1472 .f32 := ProjRef.zArr (ProjRef.hArr (xArr m c) (mdArr m c) (g1Arr m c)) (winArr m c)

/-- The finite arguments. -/
structure Finite : Prop where
  md : ∀ (b : Fin 4) (k : Fin 2048), IsReal (mdArr m c (ix2 b ⟨k.val, by omega⟩))
  g1 : ∀ k : Fin 1024, IsReal (g1Arr m c (ix1 k))
  win : ∀ (d : Fin 1024) (j : Fin 64), IsReal (winArr m c (ix2 d ⟨384 + j.val, by omega⟩))
  gq : ∀ k : Fin 256, IsReal (gqArr m c (ix1 k))
  wuq : ∀ (d : Fin 256) (p : Fin 4) (j : Fin 64), IsReal (wuqArr m c (ix2 d ⟨p.val * 192 + (128 + j.val), by omega⟩))

variable {m c} (fin : Finite m c)

/-! ## The rows -/

theorem zR_apply (b : Fin 4) (i : Fin 4096) (e : Fin 1472) : zR m c (ix3 b i e)
    = proj (rowH (fun k => xArr m c (ix3 b i k)) (fun k => g1Arr m c (ix1 k)) (fun k => mdArr m c (ix2 b ⟨1024 + k.val, by omega⟩))
        (fun k => mdArr m c (ix2 b ⟨k.val, by omega⟩))) (fun d e => winArr m c (ix2 d e)) e := by
  rw [zR, ProjRef.zArr_apply]
  simp only [ProjRef.hArr_apply]

/-- The kernel's projected rows are the reference's, widened. -/
theorem bZ_eq (fin : Finite m c) (r : Fin 512) : bZ (iblk m c 0 t) (iblk m c 2 t) (iblk m c 3 t) (iblk m c 4 t) r = wideIn fun e => zR m c (ix3 (bat t) (tok t r) e) := by
  have e0 (k : Fin 1024) : (⟨(0 : Fin 6).val * 1024 + k.val, by simp; omega⟩ : Fin 6144) = ⟨k.val, by omega⟩ := Fin.ext (by simp)
  have e1 (k : Fin 1024) : (⟨(1 : Fin 6).val * 1024 + k.val, by simp; omega⟩ : Fin 6144) = ⟨1024 + k.val, by omega⟩ := Fin.ext (by simp)
  funext e
  unfold bZ bH
  simp only [b0_apply, b2_apply, b3_apply, b4_apply, winExt_apply, e0, e1]
  refine (proj_wideIn _ _ (rowH_real _ _ _ _ fin.g1 (fun k => fin.md _ ⟨1024 + k.val, by omega⟩) fun k => fin.md _ ⟨k.val, by omega⟩) fin.win e).trans (congrArg (fun z => wideIn z e) (funext fun e => (zR_apply _ _ e).symm))

/-- The queries' rows, -/
theorem bQ_eq (fin : Finite m c) (r : Fin 512) (e : Fin 1536) : bQ (iblk m c 0 t) (iblk m c 2 t) (iblk m c 3 t) (iblk m c 4 t) (iblk m c 5 t) (iblk m c 6 t) r e
    = proj (nrm (Ideal.ofBits FTy.f32 1132462080#32) (fun k : Fin 256 => zR m c (ix3 (bat t) (tok t r) ⟨k.val, by omega⟩)) (fun k => gqArr m c (ix1 k)))
      (wideQ fun d e => wuqArr m c (ix2 d e)) e := by
  have hz (k : Fin 256) := wideIn_plain (fun e => zR m c (ix3 (bat t) (tok t r) e)) k.val (by omega)
  unfold bQ
  simp only [bZ_eq t fin, hz, b5_apply, b6_apply, wuqExt_apply]
  rfl

/-- the keys' and values', -/
theorem bKV_eq (fin : Finite m c) (r : Fin 512) : bKV (iblk m c 0 t) (iblk m c 2 t) (iblk m c 3 t) (iblk m c 4 t) (iblk m c 7 t) (iblk m c 8 t) r
    = ProjRef.tKV (zR m c) (gkvArr m c) (wukvArr m c) (bat t) (tok t r) := by
  have hz (k : Fin 128) := wideIn_plain (fun e => zR m c (ix3 (bat t) (tok t r) e)) (256 + k.val) (by omega)
  unfold bKV ProjRef.tKV
  simp only [bZ_eq t fin, hz, b7_apply, b8_apply]

/-- the gate's halves -/
theorem bU_eq (fin : Finite m c) (r k : Fin 512) : bU (iblk m c 0 t) (iblk m c 2 t) (iblk m c 3 t) (iblk m c 4 t) r k = gel (zR m c (ix3 (bat t) (tok t r) ⟨448 + k.val, by omega⟩)) := by
  unfold bU
  rw [bZ_eq t fin, wideIn_gate _ k.val (by omega)]

theorem bV_eq (fin : Finite m c) (r : Fin 512) : bV (iblk m c 0 t) (iblk m c 2 t) (iblk m c 3 t) (iblk m c 4 t) (iblk m c 10 t) r = ProjRef.tV (zR m c) (gsArr m c) (bat t) (tok t r) := by
  have hz (k : Fin 512) : wideIn (fun e => zR m c (ix3 (bat t) (tok t r) e)) ⟨1152 + k.val, by omega⟩
      = zR m c (ix3 (bat t) (tok t r) ⟨960 + k.val, by omega⟩) := by
    have := wideIn_gate (fun e => zR m c (ix3 (bat t) (tok t r) e)) (512 + k.val) (by omega)
    simpa only [← Nat.add_assoc] using this
  unfold bV ProjRef.tV
  simp only [bZ_eq t fin, hz, b10_apply]

/-- and the cosines and sines. -/
theorem cos_eq (r : Fin 512) (l : Fin 128) (h : l.val < 64) :
    Ideal.cos (bA (iblk m c 1 t) (iblk m c 9 t) r l) = ProjRef.tC (posArr m c) (bat t) (tok t r) ⟨l.val % 32, by omega⟩ := by
  rw [bA, b1_apply, b9_apply, frqArr_apply l h, ProjRef.tC]

theorem sin_eq (r : Fin 512) (l : Fin 128) (h : l.val < 64) :
    Ideal.sin (bA (iblk m c 1 t) (iblk m c 9 t) r l) = ProjRef.tS (posArr m c) (bat t) (tok t r) ⟨l.val % 32, by omega⟩ := by
  rw [bA, b1_apply, b9_apply, frqArr_apply l h, ProjRef.tS]

/-! ## The tiles -/

/-- The normalised query latent is real. -/
theorem cq_real (fin : Finite m c) (b : Fin 4) (i : Fin 4096) (d : Fin 256) :
    IsReal (nrm (Ideal.ofBits FTy.f32 1132462080#32) (fun k : Fin 256 => zR m c (ix3 b i ⟨k.val, by omega⟩)) (fun k => gqArr m c (ix1 k)) d) := by
  rw [ofBits_256]
  exact nrm_real 256 (by norm_num) _ _ fin.gq d

/-- A tile's queries are its tokens' queries. -/
theorem b14_eq (fin : Finite m c) (hd : Fin 4) (r : Fin 512) (l : Fin 256) : b14 (iblk m c 0 t) (iblk m c 1 t) (iblk m c 2 t) (iblk m c 3 t) (iblk m c 4 t) (iblk m c 5 t) (iblk m c 6 t) (iblk m c 9 t) hd r l
    = ProjRef.res0 (zR m c) (posArr m c) (gqArr m c) (wuqArr m c) (ix4 (bat t) hd (tok t r) l) := by
  rw [ProjRef.res0_apply, b14, qAt]
  by_cases h : l.val < 128
  · rw [dif_pos h, dif_pos (by omega), dif_pos h, bQ_eq t fin, proj_wideQ_plain _ _ hd l.val h]
    rfl
  · rw [dif_neg h, bQ_eq t fin, bQ_eq t fin, proj_wideQ_key _ _ hd ⟨l.val - 128, by omega⟩,
      proj_wideQ_turned _ _ hd (cq_real fin _ _) (fun d j => fin.wuq d hd j) ⟨l.val - 128, by omega⟩,
      rope_lanes _ _ _ (fun l => Ideal.cos (bA (iblk m c 1 t) (iblk m c 9 t) r l)) (fun l => Ideal.sin (bA (iblk m c 1 t) (iblk m c 9 t) r l)) (cos_eq t r) (sin_eq t r) ⟨l.val - 128, by omega⟩]
    by_cases h' : l.val < 192
    · rw [dif_pos (by dsimp only; omega), dif_pos h', dif_neg h]
      rfl
    · rw [dif_neg (by dsimp only; omega), dif_neg h', zero_mul]

/-- A tile's keys are its tokens' keys. -/
theorem b15_eq (fin : Finite m c) (hd : Fin 4) (r : Fin 512) (l : Fin 256) : b15 (iblk m c 0 t) (iblk m c 1 t) (iblk m c 2 t) (iblk m c 3 t) (iblk m c 4 t) (iblk m c 7 t) (iblk m c 8 t) (iblk m c 9 t) hd r l
    = ProjRef.res1 (zR m c) (posArr m c) (gkvArr m c) (wukvArr m c) (ix4 (bat t) hd (tok t r) l) := by
  rw [ProjRef.res1_apply, b15, kAt]
  by_cases h : l.val < 128
  · rw [dif_pos h, dif_pos (by omega), dif_pos h, bKV_eq t fin]
  · rw [dif_neg h, bR, bZ_eq t fin, wideIn_key _ ⟨l.val - 128, by omega⟩, wideIn_turned _ ⟨l.val - 128, by omega⟩,
      rope_lanes _ _ _ (fun l => Ideal.cos (bA (iblk m c 1 t) (iblk m c 9 t) r l)) (fun l => Ideal.sin (bA (iblk m c 1 t) (iblk m c 9 t) r l)) (cos_eq t r) (sin_eq t r) ⟨l.val - 128, by omega⟩]
    by_cases h' : l.val < 192
    · rw [dif_pos (by dsimp only; omega), dif_pos h', dif_neg h]
    · rw [dif_neg (by dsimp only; omega), dif_neg h']

/-- A tile's gated rows are its tokens' gated rows. -/
theorem b17_eq (fin : Finite m c) (r : Fin 512) (k : Fin 512) :
    nrm (Ideal.ofBits FTy.f32 1140850688#32) (bY (iblk m c 0 t) (iblk m c 2 t) (iblk m c 3 t) (iblk m c 4 t) (iblk m c 10 t) (iblk m c 11 t) (iblk m c 12 t) r) (fun k => (iblk m c 13 t : FVec Ideal S1x512 .f32) (ix2 0 k)) k
    = ProjRef.res3 (zR m c) (gsArr m c) (wsArr m c) (bsArr m c) (goArr m c) (ix3 (bat t) (tok t r) k) := by
  have e1 : (⟨r.val % 128, by omega⟩ : Fin 128) = ⟨(tok t r).val % 128, by omega⟩ :=
    Fin.ext (by show r.val % 128 = (t.val % 8 * 512 + r.val) % 128; omega)
  have e2 (j : Fin 128) : tok t ⟨r.val / 128 * 128 + j.val, by omega⟩ = ⟨(tok t r).val / 128 * 128 + j.val, by have := (tok t r).isLt; omega⟩ :=
    Fin.ext (by show t.val % 8 * 512 + (r.val / 128 * 128 + j.val) = (t.val % 8 * 512 + r.val) / 128 * 128 + j.val; omega)
  rw [ProjRef.res3_apply]
  refine congrArg₂ (fun f g => nrm (Ideal.ofBits FTy.f32 1140850688#32) f g k) (funext fun k => ?_) (funext fun k => b13_apply m c t k)
  unfold bY
  simp only [bU_eq t fin, bV_eq t fin, b11_apply, b12_apply, e1, e2]

/-! ## The arrays -/

/-- The queries' array after the run, -/
theorem final14 (fin : Finite m c) : (dats m 0 c).arrAt 14 cfg0.N = ProjRef.res0 (zR m c) (posArr m c) (gqArr m c) (wuqArr m c) :=
  (dats m 0 c).arrAt_eq_of_cover 14 _ (fun t hf => funext fun y => by
    obtain ⟨z, p, r, l, rfl⟩ : ∃ (z : Fin 1) (p : Fin 4) (r : Fin 512) (l : Fin 256), y = ix4 z p r l := ⟨y 0, y 1, y 2, y 3, eq_ix4 y⟩
    refine (congrFun (flushed14 m c t) (ix4 z p r l)).trans ?_
    refine (out14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix4 z p r l)).trans ?_
    show _ = ProjRef.res0 (zR m c) (posArr m c) (gqArr m c) (wuqArr m c) ((win0_14.rect t).emb (ix4 z p r l))
    rw [emb14]
    exact b14_eq t fin p r l) cover14

/-- the keys', -/
theorem final15 (fin : Finite m c) : (dats m 0 c).arrAt 15 cfg0.N = ProjRef.res1 (zR m c) (posArr m c) (gkvArr m c) (wukvArr m c) :=
  (dats m 0 c).arrAt_eq_of_cover 15 _ (fun t hf => funext fun y => by
    obtain ⟨z, p, r, l, rfl⟩ : ∃ (z : Fin 1) (p : Fin 4) (r : Fin 512) (l : Fin 256), y = ix4 z p r l := ⟨y 0, y 1, y 2, y 3, eq_ix4 y⟩
    refine (congrFun (flushed15 m c t) (ix4 z p r l)).trans ?_
    refine (out15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix4 z p r l)).trans ?_
    show _ = ProjRef.res1 (zR m c) (posArr m c) (gkvArr m c) (wukvArr m c) ((win0_15.rect t).emb (ix4 z p r l))
    rw [emb15]
    exact b15_eq t fin p r l) cover15

/-- the values', -/
theorem final16 (fin : Finite m c) : (dats m 0 c).arrAt 16 cfg0.N = ProjRef.res2 (zR m c) (gkvArr m c) (wukvArr m c) :=
  (dats m 0 c).arrAt_eq_of_cover 16 _ (fun t hf => funext fun y => by
    obtain ⟨z, p, r, l, rfl⟩ : ∃ (z : Fin 1) (p : Fin 4) (r : Fin 512) (l : Fin 128), y = ix4 z p r l := ⟨y 0, y 1, y 2, y 3, eq_ix4 y⟩
    refine (congrFun (flushed16 m c t) (ix4 z p r l)).trans ?_
    refine (out16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix4 z p r l)).trans ?_
    show _ = ProjRef.res2 (zR m c) (gkvArr m c) (wukvArr m c) ((win0_16.rect t).emb (ix4 z p r l))
    rw [emb16]
    rw [ProjRef.res2_apply]
    refine (congrFun (bKV_eq t fin r) _).trans (congrArg (ProjRef.tKV (zR m c) (gkvArr m c) (wukvArr m c) (bat t) (tok t r)) (Fin.ext ?_))
    show p.val * 256 + 128 + l.val = p.val * 256 + (128 + l.val)
    omega) cover16

/-- and the gated rows'. -/
theorem final17 (fin : Finite m c) : (dats m 0 c).arrAt 17 cfg0.N = ProjRef.res3 (zR m c) (gsArr m c) (wsArr m c) (bsArr m c) (goArr m c) :=
  (dats m 0 c).arrAt_eq_of_cover 17 _ (fun t hf => funext fun y => by
    obtain ⟨z, r, l, rfl⟩ : ∃ (z : Fin 1) (r l : Fin 512), y = ix3 z r l := ⟨y 0, y 1, y 2, eq_ix3 y⟩
    refine (congrFun (flushed17 m c t) (ix3 z r l)).trans ?_
    refine (out17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 z r l)).trans ?_
    show _ = ProjRef.res3 (zR m c) (gsArr m c) (wsArr m c) (bsArr m c) (goArr m c) ((win0_17.rect t).emb (ix3 z r l))
    rw [emb17]
    exact b17_eq t fin r l) cover17

end Cert.Proof.Proj

end
-- ==== Proof.ProjClaim.lean ====
/-
  The claims of the call that projects the tokens: the frames of the kernel, of its idealization and of the reference, the
  named scale, and the equality of the two idealizations' results for finite shifts, scales, gains and turning columns.
-/
module

public import proofs.«01_k».proof.Defs
public import proofs.«01_k».proof.Proof.Gen.Kernel4.Frame
public import proofs.«01_k».proof.Proof.Gen.Reference4Ideal.Run
public import proofs.«01_k».proof.Proof.ProjValue

@[expose] public section

set_option maxRecDepth 16384

noncomputable section

namespace Cert.Proof.Proj

open Idealize.ShloMosaic Idealize.ShloMosaic.TcCoe Idealize.SL.Sem Idealize.ShloMosaic.StableHlo

/-- The side conditions of the precondition's slices and broadcasts. -/
instance facts_finite_weights : Cert.Pre_finite_weights.Facts := by constructor <;> decide

/-- The kernel ends with its arguments unchanged and its counters at zero, -/
theorem frame_kernel4 : Cert.quiescent_Kernel4 := fun m ρ _ => Cert.Kernel4.Gen.frame (F := Bits) m ρ

/-- so does its idealization, -/
theorem frame_kernel4Ideal : Cert.quiescent_Kernel4Ideal := fun m ρ _ => Cert.Kernel4Ideal.Gen.frame (F := Ideal) m ρ

/-- and so does the reference. -/
theorem frame_reference4Ideal : Cert.quiescent_Reference4Ideal := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

/-- The scale's word is named for one over the root of 192 times the logarithm of 2. -/
theorem preserves : Cert.preserves_Kernel4_Kernel4Ideal :=
  IdealRules.named_const.statement Cert.Kernel4Ideal.κ "scale" .f32 0x3DD53B95#32 ((((Real.sqrt 192) * (Real.log 2))⁻¹ : ℝ) : EReal) rfl

/-- A number whose absolute value is below infinity is a real. -/
theorem real_of_abs_lt (x : EReal) (h : Ideal.cmp .olt (max x (-x)) (Ideal.ofBits FTy.f32 0x7F800000#32) = 1#1) : IsReal x := by
  have hi : Ideal.ofBits FTy.f32 0x7F800000#32 = (⊤ : EReal) := by simp [Ideal.ofBits, Ideal.ieee]
  rw [hi] at h
  induction x with
  | bot => simp [Ideal.cmp] at h
  | top => simp [Ideal.cmp] at h
  | coe a => exact ⟨a, rfl⟩

/-- What the precondition says of the arguments. -/
theorem finite_of_pre (m : (ℓ : Loc Cert.Kernel4Ideal.nD Cert.Kernel4Ideal.τ Cert.Kernel4Ideal.sig) → Buf (Elt Ideal) ℓ)
    (h : Cert.Pre_Kernel4Ideal_finite_weights m) (c : Dev Cert.Kernel4Ideal.nD) : Finite m c := by
  obtain ⟨h0, h1, h2, h3, h4⟩ := h c
  refine ⟨fun b k => real_of_abs_lt _ ?_, fun k => real_of_abs_lt _ (congrFun h1 (ix1 k)), fun d j => real_of_abs_lt _ ?_,
    fun k => real_of_abs_lt _ (congrFun h3 (ix1 k)), fun d p j => real_of_abs_lt _ ?_⟩
  · have e := congrFun h0 (ix2 b k)
    dsimp only [Cert.Pre_finite_weights.fn] at e
    pointwise at e
    exact e
  · have e := congrFun h2 (ix2 d j)
    dsimp only [Cert.Pre_finite_weights.fn] at e
    pointwise at e
    exact e
  · have e := congrFun h4 (ix3 d p j)
    dsimp only [Cert.Pre_finite_weights.fn] at e
    pointwise at e
    exact e

/-! ## The reference's results, by stage -/

section Stages

open Cert.Reference4Ideal Cert.Reference4Ideal.Gen Cert.Reference4Ideal.Value ProjRef

variable (V0 : Valuation τ sig (Elt Ideal))

/-- The reference's combined projection is the row functions' one. -/
theorem z_eq : res_main_v46 V0 = (zArr (hArr (V0 (Proc.devRef .tc main_arg0)) (V0 (Proc.devRef .tc main_arg2)) (V0 (Proc.devRef .tc main_arg3))) (V0 (Proc.devRef .tc main_arg4))) := rfl

/-- Its cosines, of the positions' angles. -/
theorem cosines_eq : res_main_v17 V0 = Host.cos (aArr (V0 (Proc.devRef .tc main_arg1))) := rfl

/-- Its sines, of the positions' angles. -/
theorem sines_eq : res_main_v18 V0 = Host.sin (aArr (V0 (Proc.devRef .tc main_arg1))) := rfl

/-- Its queries, from the first 256 columns of the projection. -/
theorem q_eq : res_main_v62 V0 = qArr (extractStridedSlice S4x4096x256 ![0, 0, 0] (res_main_v46 V0) slices_S4x4096x1472_S4x4096x256_0_0_0) (V0 (Proc.devRef .tc main_arg5)) (V0 (Proc.devRef .tc main_arg6)) := rfl

/-- Its keys and values, from the next 128 columns. -/
theorem kv_eq : res_main_v96 V0 = kvArr (extractStridedSlice S4x4096x128 ![0, 0, 256] (res_main_v46 V0) slices_S4x4096x1472_S4x4096x128_0_0_256) (V0 (Proc.devRef .tc main_arg7)) (V0 (Proc.devRef .tc main_arg8)) := rfl

/-- Its gated rows before the last norm, from the last 1024 columns. -/
theorem mix_eq : res_main_v151 V0 = mixArr (gelArr (extractStridedSlice S4x4096x512 ![0, 0, 448] (res_main_v46 V0) slices_S4x4096x1472_S4x4096x512_0_0_448)) (nArr (gelArr (extractStridedSlice S4x4096x512 ![0, 0, 960] (res_main_v46 V0) slices_S4x4096x1472_S4x4096x512_0_0_960)) (V0 (Proc.devRef .tc main_arg9))) (V0 (Proc.devRef .tc main_arg10)) (V0 (Proc.devRef .tc main_arg11)) := rfl

/-- The first result is the queries of the arguments. -/
theorem stage0 : out0 (res_main_v62 V0) (res_main_v17 V0) (res_main_v18 V0) = res0 (zArr (hArr (V0 (Proc.devRef .tc main_arg0)) (V0 (Proc.devRef .tc main_arg2)) (V0 (Proc.devRef .tc main_arg3))) (V0 (Proc.devRef .tc main_arg4))) (V0 (Proc.devRef .tc main_arg1)) (V0 (Proc.devRef .tc main_arg5)) (V0 (Proc.devRef .tc main_arg6)) := by
  rw [q_eq, cosines_eq, sines_eq, z_eq]; rfl

/-- The second result is the keys of the arguments. -/
theorem stage1 : out1 (res_main_v96 V0) (extractStridedSlice S4x4096x64 ![0, 0, 384] (res_main_v46 V0) slices_S4x4096x1472_S4x4096x64_0_0_384) (res_main_v17 V0) (res_main_v18 V0) = res1 (zArr (hArr (V0 (Proc.devRef .tc main_arg0)) (V0 (Proc.devRef .tc main_arg2)) (V0 (Proc.devRef .tc main_arg3))) (V0 (Proc.devRef .tc main_arg4))) (V0 (Proc.devRef .tc main_arg1)) (V0 (Proc.devRef .tc main_arg7)) (V0 (Proc.devRef .tc main_arg8)) := by
  rw [kv_eq, cosines_eq, sines_eq, z_eq]; rfl

/-- The third result is the values of the arguments. -/
theorem stage2 : out2 (res_main_v96 V0) = res2 (zArr (hArr (V0 (Proc.devRef .tc main_arg0)) (V0 (Proc.devRef .tc main_arg2)) (V0 (Proc.devRef .tc main_arg3))) (V0 (Proc.devRef .tc main_arg4))) (V0 (Proc.devRef .tc main_arg7)) (V0 (Proc.devRef .tc main_arg8)) := by
  rw [kv_eq, z_eq]; rfl

/-- The fourth result is the gate's normalised rows of the arguments. -/
theorem stage3 : truncf .bf16 (nArr (res_main_v151 V0) (V0 (Proc.devRef .tc main_arg12))) bitsLt_bf16_f32 = res3 (zArr (hArr (V0 (Proc.devRef .tc main_arg0)) (V0 (Proc.devRef .tc main_arg2)) (V0 (Proc.devRef .tc main_arg3))) (V0 (Proc.devRef .tc main_arg4))) (V0 (Proc.devRef .tc main_arg9)) (V0 (Proc.devRef .tc main_arg10)) (V0 (Proc.devRef .tc main_arg11)) (V0 (Proc.devRef .tc main_arg12)) := by
  rw [mix_eq, z_eq]; rfl

end Stages

set_option maxHeartbeats 4000000 in
/-- Over the extended reals the kernel's results are the reference's, for finite shifts, scales, gains and turning columns. -/
theorem algebraic : Cert.algebraic_Kernel4Ideal_Reference4Ideal_pre_finite_weights := by
  intro m ρ m' ρ' hpre hargs
  refine ⟨fun c => (Cert.Kernel4Ideal.Gen.dats m 0 c).arrAt 14 Cert.Kernel4Ideal.cfg0.N,
    fun c => (Cert.Kernel4Ideal.Gen.dats m 0 c).arrAt 15 Cert.Kernel4Ideal.cfg0.N,
    fun c => (Cert.Kernel4Ideal.Gen.dats m 0 c).arrAt 16 Cert.Kernel4Ideal.cfg0.N,
    fun c => (Cert.Kernel4Ideal.Gen.dats m 0 c).arrAt 17 Cert.Kernel4Ideal.cfg0.N, Cert.Kernel4Ideal.Value.run_blocks (F := Ideal) m ρ, ?_⟩
  refine (θ_run Cert.Reference4Ideal.defs _ _).mono (fun _ h c => ?_) (Cert.Reference4Ideal.Value.run (F := Ideal) m' ρ')
  obtain ⟨a0, a1, a2, a3, a4, a5, a6, a7, a8, a9, a10, a11, a12⟩ := hargs c
  obtain ⟨h0, h1, h2, h3, h⟩ := h c
  have fin := finite_of_pre m hpre c
  have b0 : launchContents m' c (Proc.devRef .tc Cert.Reference4Ideal.main_arg0) = xArr m c := a0
  have b1 : launchContents m' c (Proc.devRef .tc Cert.Reference4Ideal.main_arg1) = posArr m c := a1
  have b2 : launchContents m' c (Proc.devRef .tc Cert.Reference4Ideal.main_arg2) = mdArr m c := a2
  have b3 : launchContents m' c (Proc.devRef .tc Cert.Reference4Ideal.main_arg3) = g1Arr m c := a3
  have b4 : launchContents m' c (Proc.devRef .tc Cert.Reference4Ideal.main_arg4) = winArr m c := a4
  have b5 : launchContents m' c (Proc.devRef .tc Cert.Reference4Ideal.main_arg5) = gqArr m c := a5
  have b6 : launchContents m' c (Proc.devRef .tc Cert.Reference4Ideal.main_arg6) = wuqArr m c := a6
  have b7 : launchContents m' c (Proc.devRef .tc Cert.Reference4Ideal.main_arg7) = gkvArr m c := a7
  have b8 : launchContents m' c (Proc.devRef .tc Cert.Reference4Ideal.main_arg8) = wukvArr m c := a8
  have b9 : launchContents m' c (Proc.devRef .tc Cert.Reference4Ideal.main_arg9) = gsArr m c := a9
  have b10 : launchContents m' c (Proc.devRef .tc Cert.Reference4Ideal.main_arg10) = wsArr m c := a10
  have b11 : launchContents m' c (Proc.devRef .tc Cert.Reference4Ideal.main_arg11) = bsArr m c := a11
  have b12 : launchContents m' c (Proc.devRef .tc Cert.Reference4Ideal.main_arg12) = goArr m c := a12
  refine ⟨h0.trans (Eq.trans ((stage0 (launchContents m' c)).trans ?_) (final14 fin).symm),
    h1.trans (Eq.trans ((stage1 (launchContents m' c)).trans ?_) (final15 fin).symm),
    h2.trans (Eq.trans ((stage2 (launchContents m' c)).trans ?_) (final16 fin).symm),
    h3.trans (Eq.trans ((stage3 (launchContents m' c)).trans ?_) (final17 fin).symm), h⟩
  · rw [b0, b1, b2, b3, b4, b5, b6]; rfl
  · rw [b0, b1, b2, b3, b4, b7, b8]; rfl
  · rw [b0, b2, b3, b4, b7, b8]; rfl
  · rw [b0, b2, b3, b4, b9, b10, b11, b12]; rfl

end Cert.Proof.Proj

end
-- ==== Proof.ModValue.lean ====
/-
  The first call, the modulation: each of its six grid points leaves in its 1024 columns the activated conditioning against
  its block of weights, plus the biases; and the reference is the same rows.
-/
module

public import proofs.«01_k».proof.Proof.Gen.Kernel5Ideal.Value
public import proofs.«01_k».proof.Proof.Gen.Reference5Ideal.Run
public import Idealize.ShloMosaic.Lib.Pointwise
public import Idealize.ShloMosaic.Lib.StableHlo.Run
public import Idealize.ShloMosaic.Lib.Pipeline.ValueKit

@[expose] public section

set_option maxRecDepth 16384

noncomputable section

namespace Cert.Proof.Mod

open Idealize.ShloMosaic

/-- A row of the modulation: the row `f` times its logistic, against the weights, plus the biases. -/
def rowM {n : ℕ} (f : Fin 1024 → EReal) (w : Fin 1024 → Fin n → EReal) (b : Fin n → EReal) (e : Fin n) : EReal :=
  ∑ d, f d * Ideal.logistic (f d) * w d e + b e

section Reference

open Cert.Reference5Ideal Cert.Reference5Ideal.Gen

/-- The conditioning with four rows of zeros behind it. -/
def padded (x : FVec Ideal S4x1024 .f32) : FVec Ideal S8x1024 .f32 :=
  pad S8x1024 ![0, 0] ![4, 0] ![0, 0] x (sitofp .f32 (constantI S_ 32 0#32)) pads_S4x1024_S8x1024_040_000 h_S_

/-- The reference's result, from the padded conditioning. -/
def res (x : FVec Ideal S8x1024 .f32) (w : FVec Ideal S1024x6144 .f32) (b : FVec Ideal S6144 .f32) : FVec Ideal S8x6144 .f32 :=
  addf (Host.dotGeneral dot_S8x1024_S1024x6144_S8x6144_1_0_0_1_n_n none (mulf x (Host.divf
      (broadcastInDim S8x1024 ![] bcast_S_S8x1024 (constant S_ .f32 0x3F800000#32))
      (addf (broadcastInDim S8x1024 ![] bcast_S_S8x1024 (constant S_ .f32 0x3F800000#32)) (Host.exp (Host.negf x))))) w)
    (broadcastInDim S8x6144 ![0, 1] bcast_S1x6144_S8x6144_0_1 (broadcastInDim S1x6144 ![1] bcast_S6144_S1x6144_1 b))

/-- At an element it is the row function. -/
theorem res_apply (x : FVec Ideal S8x1024 .f32) (w : FVec Ideal S1024x6144 .f32) (b : FVec Ideal S6144 .f32) (r : Fin 8) (e : Fin 6144) :
    res x w b (ix2 r e) = rowM (fun d => x (ix2 r d)) (fun d e => w (ix2 d e)) (fun e => b (ix1 e)) e := by
  pointwise [res]
  rfl

end Reference

open Cert.Kernel5Ideal Cert.Kernel5Ideal.Gen Cert.Kernel5Ideal.Value
open Idealize.ShloMosaic.TcCoe Idealize.SL.Sem
open Idealize.ShloMosaic.Pipeline (Dat Window)

/-- The block that a grid point writes, at an element. -/
theorem out3 (x0 : Vec Ideal S8x1024 .f32) (x1 : Vec Ideal S1024x1024 .f32) (x2 : Vec Ideal S1x1024 .f32) (r : Fin 8) (e : Fin 1024) :
    out0_3 x0 x1 x2 (ix2 r e) = rowM (fun d => x0 (ix2 r d)) (fun d e => x1 (ix2 d e)) (fun e => x2 (ix2 0 e)) e := by
  frame_out
  pointwise [k0_pay1]
  rfl

/-- The block indices of the four windows. -/
theorem index0 : ∀ t : Fin cfg0.N, win0_0.index t = ![0, 0] :=
  (by decide +kernel : ∀ t : Fin grid0.N, win0_0.index t = ![0, 0])
theorem index1 : ∀ t : Fin cfg0.N, win0_1.index t = ![0, t.val] :=
  (by decide +kernel : ∀ t : Fin grid0.N, win0_1.index t = ![0, t.val])
theorem index2 : ∀ t : Fin cfg0.N, win0_2.index t = ![0, t.val] :=
  (by decide +kernel : ∀ t : Fin grid0.N, win0_2.index t = ![0, t.val])
theorem index3 : ∀ t : Fin cfg0.N, win0_3.index t = ![0, t.val] :=
  (by decide +kernel : ∀ t : Fin grid0.N, win0_3.index t = ![0, t.val])

theorem N_eq : cfg0.N = 6 := N_0

variable (m : (ℓ : Loc nD τ sig) → Buf (Elt Ideal) ℓ) (c : Dev nD) (t : Fin cfg0.N)

/-- The launch's arguments: the conditioning, -/
abbrev cArr : FVec Ideal S4x1024 .f32 := m ((c : Thread nD τ).loc main_arg0)
/-- the weights -/
abbrev wArr : FVec Ideal S1024x6144 .f32 := m ((c : Thread nD τ).loc main_arg1)
/-- and the biases. -/
abbrev bArr : FVec Ideal S6144 .f32 := m ((c : Thread nD τ).loc main_arg2)

/-- The host pads the conditioning -/
theorem V_v0 : (V m c main_v0 : FVec Ideal S8x1024 .f32) = padded (cArr m c) := by
  simp only [V, hostOps0, hostOps0_1, hostOps0_2, List.flatten_cons, List.flatten_nil, List.append_nil, List.cons_append, List.nil_append]
  after_results <;> rfl
/-- and gives the biases a leading axis. -/
theorem V_v1 : (V m c main_v1 : FVec Ideal S1x6144 .f32) = broadcastInDim S1x6144 ![1] bcast_S6144_S1x6144_1 (bArr m c) := by
  simp only [V, hostOps0, hostOps0_1, hostOps0_2, List.flatten_cons, List.flatten_nil, List.append_nil, List.cons_append, List.nil_append]
  after_results <;> rfl

/-- The column of the array that a point's column is. -/
def col (e : Fin 1024) : Fin 6144 := ⟨t.val * 1024 + e.val, by have := t.isLt; have := N_eq; omega⟩

/-- Every point reads the whole conditioning, -/
theorem b0 (r : Fin 8) (d : Fin 1024) :
    (iblk m c 0 t : FVec Ideal S8x1024 .f32) (ix2 r d) = padded (cArr m c) (ix2 r d) := by
  rw [← V_v0]
  show V m c main_v0 ((win0_0.rect t).emb (ix2 r d)) = _
  refine congrArg (V m c main_v0) (funext fun a => Fin.ext ((win0_0.rect_emb_val t _ a).trans ?_))
  rw [index0]
  fin_cases a
  · show 0 * 8 + r.val = r.val; omega
  · show 0 * 1024 + d.val = d.val; omega

/-- its columns of the weights -/
theorem b1 (d e : Fin 1024) : (iblk m c 1 t : FVec Ideal S1024x1024 .f32) (ix2 d e) = wArr m c (ix2 d (col t e)) := by
  refine Eq.trans ?_ (congrFun (V_main_arg1 m c) _)
  show V m c main_arg1 ((win0_1.rect t).emb (ix2 d e)) = _
  refine congrArg (V m c main_arg1) (funext fun a => Fin.ext ((win0_1.rect_emb_val t _ a).trans ?_))
  rw [index1]
  fin_cases a
  · show 0 * 1024 + d.val = d.val; omega
  · rfl

/-- and its biases. -/
theorem b2 (e : Fin 1024) : (iblk m c 2 t : FVec Ideal S1x1024 .f32) (ix2 0 e) = bArr m c (ix1 (col t e)) := by
  have h : (iblk m c 2 t : FVec Ideal S1x1024 .f32) (ix2 0 e) = (V m c main_v1 : FVec Ideal S1x6144 .f32) (ix2 0 (col t e)) := by
    show V m c main_v1 ((win0_2.rect t).emb (ix2 0 e)) = _
    refine congrArg (V m c main_v1) (funext fun a => Fin.ext ((win0_2.rect_emb_val t _ a).trans ?_))
    rw [index2]
    fin_cases a
    · rfl
    · rfl
  rw [h, V_v1]
  generalize bArr m c = b
  pointwise []

/-- A point's block lies in its columns, -/
theorem emb3 (r : Fin 8) (e : Fin 1024) : (win0_3.rect t).emb (ix2 r e) = (ix2 r (col t e) : S8x6144.Idx) := by
  refine funext fun a => Fin.ext ((win0_3.rect_emb_val t _ a).trans ?_)
  rw [index3]
  fin_cases a
  · show 0 * 8 + r.val = r.val; omega
  · rfl

/-- and the blocks cover the array. -/
theorem cover3 (i : S8x6144.Idx) : ∃ t : Fin cfg0.N, (cfg0.win 3).flush t = true ∧ i ∈ ((cfg0.win 3).blk t).view.set := by
  obtain ⟨r, e, rfl⟩ : ∃ (r : Fin 8) (e : Fin 6144), i = ix2 r e := ⟨i 0, i 1, eq_ix2 i⟩
  obtain ⟨t, ht⟩ : ∃ t : Fin cfg0.N, t.val = e.val / 1024 := ⟨⟨_, by rw [N_eq]; omega⟩, rfl⟩
  have h : (win0_3.rect t).emb (ix2 r (⟨e.val % 1024, by omega⟩ : Fin 1024)) = (ix2 r e : S8x6144.Idx) := by
    rw [emb3, show col t _ = e from Fin.ext (by show t.val * 1024 + e.val % 1024 = _; omega)]
  rw [← h]
  exact ⟨t, flush0_3 t, ((cfg0.win 3).blk t).view.emb_mem_set _⟩

/-- The call's array after the run is the reference's. -/
theorem final3 : (dats m 0 c).arrAt 3 cfg0.N = res (padded (cArr m c)) (wArr m c) (bArr m c) :=
  (dats m 0 c).arrAt_eq_of_cover 3 _ (fun t hf => funext fun y => by
    obtain ⟨r, e, rfl⟩ : ∃ (r : Fin 8) (e : Fin 1024), y = ix2 r e := ⟨y 0, y 1, eq_ix2 y⟩
    refine (congrFun (flushed3 m c t) (ix2 r e)).trans ?_
    refine (out3 _ _ _ r e).trans ?_
    show _ = res (padded (cArr m c)) (wArr m c) (bArr m c) ((win0_3.rect t).emb (ix2 r e))
    rw [emb3, res_apply]
    unfold rowM
    simp only [b0, b1, b2]) cover3

end Cert.Proof.Mod

end
-- ==== Proof.ModClaim.lean ====
/-
  The claims of the first call: the frames of the kernel, of its idealization and of the reference, and the equality of the
  two idealizations' results for every argument.
-/
module

public import proofs.«01_k».proof.Defs
public import proofs.«01_k».proof.Proof.Gen.Kernel5.Frame
public import proofs.«01_k».proof.Proof.ModValue

@[expose] public section

set_option maxRecDepth 16384

noncomputable section

namespace Cert.Proof.Mod

open Idealize.ShloMosaic Idealize.ShloMosaic.TcCoe Idealize.SL.Sem

/-- The kernel ends with its arguments unchanged and its counters at zero, -/
theorem frame_kernel5 : Cert.quiescent_Kernel5 := fun m ρ _ => Cert.Kernel5.Gen.frame (F := Bits) m ρ

/-- so does its idealization, -/
theorem frame_kernel5Ideal : Cert.quiescent_Kernel5Ideal := fun m ρ _ => Cert.Kernel5Ideal.Gen.frame (F := Ideal) m ρ

/-- and so does the reference. -/
theorem frame_reference5Ideal : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Over the extended reals the kernel's result is the reference's. -/
theorem algebraic : Cert.algebraic_Kernel5Ideal_Reference5Ideal := by
  intro m ρ m' ρ' _ hargs
  refine ⟨fun c => (Cert.Kernel5Ideal.Gen.dats m 0 c).arrAt 3 Cert.Kernel5Ideal.cfg0.N, Cert.Kernel5Ideal.Value.run_blocks (F := Ideal) m ρ, ?_⟩
  refine (θ_run Cert.Reference5Ideal.defs _ _).mono (fun _ h c => ?_) (Cert.Reference5Ideal.Value.run (F := Ideal) m' ρ')
  obtain ⟨a0, a1, a2⟩ := hargs c
  obtain ⟨h0, h⟩ := h c
  refine ⟨h0.trans ?_, h⟩
  rw [a0, a1, a2]
  exact (final3 m c).symm

end Cert.Proof.Mod

end
-- ==== Proof.lean ====
/-
  The claims, each from the module that proves it.
-/
module

public import proofs.«01_k».proof.Defs
public import proofs.«01_k».proof.Proof.PeerRun
public import proofs.«01_k».proof.Proof.AttnClaim
public import proofs.«01_k».proof.Proof.PostClaim
public import proofs.«01_k».proof.Proof.ProjClaim
public import proofs.«01_k».proof.Proof.ModClaim

@[expose] public section

/-- The expert call ends with its arguments unchanged and its counters at zero. -/
theorem Cert.Proof.frame_kernel : Cert.quiescent_Kernel := fun m ρ _ => Cert.Proof.Peer.frame_run m ρ

theorem Cert.Proof.claim : Cert.Claim :=
  ⟨Cert.Kernel.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Proof.Attn.facts_finite, Cert.Proof.Proj.facts_finite_weights,
    Cert.Proof.frame_kernel,
    Cert.Proof.Attn.frame_kernel2, Cert.Proof.Attn.frame_kernel2Ideal, fun m ρ _ => Cert.Proof.Attn.frame_kernel2Ideal m ρ trivial,
    Cert.Proof.Attn.frame_reference2Ideal, fun m ρ _ => Cert.Proof.Attn.frame_reference2Ideal m ρ trivial,
    Cert.Proof.Post.frame_kernel3, Cert.Proof.Post.frame_kernel3Ideal, Cert.Proof.Post.frame_reference3Ideal,
    Cert.Proof.Proj.frame_kernel4, Cert.Proof.Proj.frame_kernel4Ideal, fun m ρ _ => Cert.Proof.Proj.frame_kernel4Ideal m ρ trivial,
    Cert.Proof.Proj.frame_reference4Ideal, fun m ρ _ => Cert.Proof.Proj.frame_reference4Ideal m ρ trivial,
    Cert.Proof.Mod.frame_kernel5, Cert.Proof.Mod.frame_kernel5Ideal, Cert.Proof.Mod.frame_reference5Ideal,
    trivial, Cert.Proof.Attn.algebraic, trivial, Cert.Proof.Post.algebraic, Cert.Proof.Proj.preserves, Cert.Proof.Proj.algebraic,
    trivial, Cert.Proof.Mod.algebraic⟩
